-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts) (hPre_in_range : Cert.Pre_in_range.Facts),
    quiescent_Kernel (hKernel := hKernel) (hPre_in_table := hPre_in_table)
    ∧ quiescent_KernelIdeal (hKernelIdeal := hKernelIdeal) (hPre_in_table := hPre_in_table)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 4294967295#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_table.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 100000#32
  let main_v0 : IVec S1024 32 := broadcastInDim S1024 ![] bcast_S_S1024 main_c
  let main_v1 : IVec S1024 1 := cmpi .slt main_arg1 main_v0
  let main_c_0 : IVec S_ 1 := constantI S_ 1 1#1
  let main_v2 : IVec S_ 1 := (fun x v => Host.reduce IntOp.andi x v reducesTo_S1024_S_d0 h_S_) main_v1 main_c_0
  main_v2
-- ==== Kernel.lean ====
abbrev S1024x100000 : Shape := ⟨2, ![1024, 100000]⟩
abbrev S1024 : Shape := ⟨1, ![1024]⟩
abbrev S32 : Shape := ⟨1, ![32]⟩
abbrev S512 : Shape := ⟨1, ![512]⟩
abbrev S_ : Shape := ⟨0, ![]⟩
abbrev S16 : Shape := ⟨1, ![16]⟩
abbrev S1 : Shape := ⟨1, ![1]⟩
abbrev S1x16 : Shape := ⟨2, ![1, 16]⟩
abbrev S1024x1 : Shape := ⟨2, ![1024, 1]⟩
abbrev S16x1 : Shape := ⟨2, ![16, 1]⟩
abbrev S16x100000 : Shape := ⟨2, ![16, 100000]⟩

abbrev nBuf : Table → Nat
  | .hbm => 6
  | .local .tc .vmem => 8
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S1024, .f32⟩
  | .hbm, ⟨3, _⟩ => ⟨S1024x1, .i32⟩
  | .hbm, ⟨4, _⟩ => ⟨S1024x1, .f32⟩
  | .hbm, ⟨5, _⟩ => ⟨S1024x100000, .f32⟩
  | .local .tc .vmem, ⟨0, _⟩ => ⟨S16x1, .i32⟩
  | .local .tc .vmem, ⟨1, _⟩ => ⟨S16x1, .i32⟩
  | .local .tc .vmem, ⟨2, _⟩ => ⟨S16x1, .f32⟩
  | .local .tc .vmem, ⟨3, _⟩ => ⟨S16x1, .f32⟩
  | .local .tc .vmem, ⟨4, _⟩ => ⟨S16x100000, .f32⟩
  | .local .tc .vmem, ⟨5, _⟩ => ⟨S16x100000, .f32⟩
  | .local .tc .vmem, ⟨6, _⟩ => ⟨S16x100000, .f32⟩
  | .local .tc .vmem, ⟨7, _⟩ => ⟨S16x100000, .f32⟩
  | .local .scVector .vmem, ⟨0, _⟩ => ⟨S32, .i32⟩
  | .local .scVector .vmem, ⟨1, _⟩ => ⟨S512, .f32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_mult1 (v8 : BitVec 32) : BitVec 32 :=
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c16_i32 : BitVec 32 := 16#32
  let c0_i32_2 : BitVec 32 := 0#32
  let v15 : BitVec 1 := Scalar.cmpi .sgt c16_i32 c0_i32_2
  let v16 : BitVec 32 := Scalar.extui v15
  let c0_i32_3 : BitVec 32 := 0#32
  let v17 : BitVec 1 := Scalar.cmpi .slt c16_i32 c0_i32_3
  let v18 : BitVec 32 := Scalar.extui v17
  let v19 : BitVec 32 := Scalar.subi v16 v18
  let v20 : BitVec 1 := Scalar.cmpi .ne v14 v19
  let v21 : BitVec 32 := Scalar.remsi v8 c16_i32
  let c0_i32_4 : BitVec 32 := 0#32
  let v22 : BitVec 1 := Scalar.cmpi .ne v21 c0_i32_4
  let v23 : BitVec 1 := Scalar.andi v20 v22
  let v9 : BitVec 32 := Scalar.divsi v8 c16_i32
  let c1_i32 : BitVec 32 := 1#32
  let v24 : BitVec 32 := Scalar.subi v9 c1_i32
  let v25 : BitVec 32 := Scalar.select v23 v24 v9
  let c16_i32_5 : BitVec 32 := 16#32
  let v26 : BitVec 32 := Scalar.muli v25 c16_i32_5
  v26

def k0_off2 (i : grid0.Coords) (v8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_6 : BitVec 32 := 0#32
  let v28 : BitVec 32 := Scalar.addi v2 c0_i32_6
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c16_i32 : BitVec 32 := 16#32
  let c0_i32_2 : BitVec 32 := 0#32
  let v15 : BitVec 1 := Scalar.cmpi .sgt c16_i32 c0_i32_2
  let v16 : BitVec 32 := Scalar.extui v15
  let c0_i32_3 : BitVec 32 := 0#32
  let v17 : BitVec 1 := Scalar.cmpi .slt c16_i32 c0_i32_3
  let v18 : BitVec 32 := Scalar.extui v17
  let v19 : BitVec 32 := Scalar.subi v16 v18
  let v20 : BitVec 1 := Scalar.cmpi .ne v14 v19
  let v21 : BitVec 32 := Scalar.remsi v8 c16_i32
  let c0_i32_4 : BitVec 32 := 0#32
  let v22 : BitVec 1 := Scalar.cmpi .ne v21 c0_i32_4
  let v23 : BitVec 1 := Scalar.andi v20 v22
  let v9 : BitVec 32 := Scalar.divsi v8 c16_i32
  let c1_i32 : BitVec 32 := 1#32
  let v24 : BitVec 32 := Scalar.subi v9 c1_i32
  let v25 : BitVec 32 := Scalar.select v23 v24 v9
  let c16_i32_5 : BitVec 32 := 16#32
  let v26 : BitVec 32 := Scalar.muli v25 c16_i32_5
  let v27 : BitVec 32 := v26
  ![v28.toNat, v27.toNat]
def k0_mult2 (v36 : BitVec 32) : BitVec 32 :=
  let c0_i32_10 : BitVec 32 := 0#32
  let v38 : BitVec 1 := Scalar.cmpi .sgt v36 c0_i32_10
  let v39 : BitVec 32 := Scalar.extui v38
  let c0_i32_11 : BitVec 32 := 0#32
  let v40 : BitVec 1 := Scalar.cmpi .slt v36 c0_i32_11
  let v41 : BitVec 32 := Scalar.extui v40
  let v42 : BitVec 32 := Scalar.subi v39 v41
  let c16_i32_9 : BitVec 32 := 16#32
  let c0_i32_12 : BitVec 32 := 0#32
  let v43 : BitVec 1 := Scalar.cmpi .sgt c16_i32_9 c0_i32_12
  let v44 : BitVec 32 := Scalar.extui v43
  let c0_i32_13 : BitVec 32 := 0#32
  let v45 : BitVec 1 := Scalar.cmpi .slt c16_i32_9 c0_i32_13
  let v46 : BitVec 32 := Scalar.extui v45
  let v47 : BitVec 32 := Scalar.subi v44 v46
  let v48 : BitVec 1 := Scalar.cmpi .ne v42 v47
  let v49 : BitVec 32 := Scalar.remsi v36 c16_i32_9
  let c0_i32_14 : BitVec 32 := 0#32
  let v50 : BitVec 1 := Scalar.cmpi .ne v49 c0_i32_14
  let v51 : BitVec 1 := Scalar.andi v48 v50
  let v37 : BitVec 32 := Scalar.divsi v36 c16_i32_9
  let c1_i32_15 : BitVec 32 := 1#32
  let v52 : BitVec 32 := Scalar.subi v37 c1_i32_15
  let v53 : BitVec 32 := Scalar.select v51 v52 v37
  let c16_i32_16 : BitVec 32 := 16#32
  let v54 : BitVec 32 := Scalar.muli v53 c16_i32_16
  v54

def k0_off3 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_17 : BitVec 32 := 1#32
  let v56 : BitVec 32 := Scalar.addi v2 c1_i32_17
  let c0_i32_10 : BitVec 32 := 0#32
  let v38 : BitVec 1 := Scalar.cmpi .sgt v36 c0_i32_10
  let v39 : BitVec 32 := Scalar.extui v38
  let c0_i32_11 : BitVec 32 := 0#32
  let v40 : BitVec 1 := Scalar.cmpi .slt v36 c0_i32_11
  let v41 : BitVec 32 := Scalar.extui v40
  let v42 : BitVec 32 := Scalar.subi v39 v41
  let c16_i32_9 : BitVec 32 := 16#32
  let c0_i32_12 : BitVec 32 := 0#32
  let v43 : BitVec 1 := Scalar.cmpi .sgt c16_i32_9 c0_i32_12
  let v44 : BitVec 32 := Scalar.extui v43
  let c0_i32_13 : BitVec 32 := 0#32
  let v45 : BitVec 1 := Scalar.cmpi .slt c16_i32_9 c0_i32_13
  let v46 : BitVec 32 := Scalar.extui v45
  let v47 : BitVec 32 := Scalar.subi v44 v46
  let v48 : BitVec 1 := Scalar.cmpi .ne v42 v47
  let v49 : BitVec 32 := Scalar.remsi v36 c16_i32_9
  let c0_i32_14 : BitVec 32 := 0#32
  let v50 : BitVec 1 := Scalar.cmpi .ne v49 c0_i32_14
  let v51 : BitVec 1 := Scalar.andi v48 v50
  let v37 : BitVec 32 := Scalar.divsi v36 c16_i32_9
  let c1_i32_15 : BitVec 32 := 1#32
  let v52 : BitVec 32 := Scalar.subi v37 c1_i32_15
  let v53 : BitVec 32 := Scalar.select v51 v52 v37
  let c16_i32_16 : BitVec 32 := 16#32
  let v54 : BitVec 32 := Scalar.muli v53 c16_i32_16
  let v55 : BitVec 32 := v54
  ![v56.toNat, v55.toNat]
def k0_mult3 (v64 : BitVec 32) : BitVec 32 :=
  let c0_i32_21 : BitVec 32 := 0#32
  let v66 : BitVec 1 := Scalar.cmpi .sgt v64 c0_i32_21
  let v67 : BitVec 32 := Scalar.extui v66
  let c0_i32_22 : BitVec 32 := 0#32
  let v68 : BitVec 1 := Scalar.cmpi .slt v64 c0_i32_22
  let v69 : BitVec 32 := Scalar.extui v68
  let v70 : BitVec 32 := Scalar.subi v67 v69
  let c16_i32_20 : BitVec 32 := 16#32
  let c0_i32_23 : BitVec 32 := 0#32
  let v71 : BitVec 1 := Scalar.cmpi .sgt c16_i32_20 c0_i32_23
  let v72 : BitVec 32 := Scalar.extui v71
  let c0_i32_24 : BitVec 32 := 0#32
  let v73 : BitVec 1 := Scalar.cmpi .slt c16_i32_20 c0_i32_24
  let v74 : BitVec 32 := Scalar.extui v73
  let v75 : BitVec 32 := Scalar.subi v72 v74
  let v76 : BitVec 1 := Scalar.cmpi .ne v70 v75
  let v77 : BitVec 32 := Scalar.remsi v64 c16_i32_20
  let c0_i32_25 : BitVec 32 := 0#32
  let v78 : BitVec 1 := Scalar.cmpi .ne v77 c0_i32_25
  let v79 : BitVec 1 := Scalar.andi v76 v78
  let v65 : BitVec 32 := Scalar.divsi v64 c16_i32_20
  let c1_i32_26 : BitVec 32 := 1#32
  let v80 : BitVec 32 := Scalar.subi v65 c1_i32_26
  let v81 : BitVec 32 := Scalar.select v79 v80 v65
  let c16_i32_27 : BitVec 32 := 16#32
  let v82 : BitVec 32 := Scalar.muli v81 c16_i32_27
  v82

def k0_off4 (i : grid0.Coords) (v64 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_28 : BitVec 32 := 2#32
  let v84 : BitVec 32 := Scalar.addi v2 c2_i32_28
  let c0_i32_21 : BitVec 32 := 0#32
  let v66 : BitVec 1 := Scalar.cmpi .sgt v64 c0_i32_21
  let v67 : BitVec 32 := Scalar.extui v66
  let c0_i32_22 : BitVec 32 := 0#32
  let v68 : BitVec 1 := Scalar.cmpi .slt v64 c0_i32_22
  let v69 : BitVec 32 := Scalar.extui v68
  let v70 : BitVec 32 := Scalar.subi v67 v69
  let c16_i32_20 : BitVec 32 := 16#32
  let c0_i32_23 : BitVec 32 := 0#32
  let v71 : BitVec 1 := Scalar.cmpi .sgt c16_i32_20 c0_i32_23
  let v72 : BitVec 32 := Scalar.extui v71
  let c0_i32_24 : BitVec 32 := 0#32
  let v73 : BitVec 1 := Scalar.cmpi .slt c16_i32_20 c0_i32_24
  let v74 : BitVec 32 := Scalar.extui v73
  let v75 : BitVec 32 := Scalar.subi v72 v74
  let v76 : BitVec 1 := Scalar.cmpi .ne v70 v75
  let v77 : BitVec 32 := Scalar.remsi v64 c16_i32_20
  let c0_i32_25 : BitVec 32 := 0#32
  let v78 : BitVec 1 := Scalar.cmpi .ne v77 c0_i32_25
  let v79 : BitVec 1 := Scalar.andi v76 v78
  let v65 : BitVec 32 := Scalar.divsi v64 c16_i32_20
  let c1_i32_26 : BitVec 32 := 1#32
  let v80 : BitVec 32 := Scalar.subi v65 c1_i32_26
  let v81 : BitVec 32 := Scalar.select v79 v80 v65
  let c16_i32_27 : BitVec 32 := 16#32
  let v82 : BitVec 32 := Scalar.muli v81 c16_i32_27
  let v83 : BitVec 32 := v82
  ![v84.toNat, v83.toNat]
def k0_mult4 (v92 : BitVec 32) : BitVec 32 :=
  let c0_i32_32 : BitVec 32 := 0#32
  let v94 : BitVec 1 := Scalar.cmpi .sgt v92 c0_i32_32
  let v95 : BitVec 32 := Scalar.extui v94
  let c0_i32_33 : BitVec 32 := 0#32
  let v96 : BitVec 1 := Scalar.cmpi .slt v92 c0_i32_33
  let v97 : BitVec 32 := Scalar.extui v96
  let v98 : BitVec 32 := Scalar.subi v95 v97
  let c16_i32_31 : BitVec 32 := 16#32
  let c0_i32_34 : BitVec 32 := 0#32
  let v99 : BitVec 1 := Scalar.cmpi .sgt c16_i32_31 c0_i32_34
  let v100 : BitVec 32 := Scalar.extui v99
  let c0_i32_35 : BitVec 32 := 0#32
  let v101 : BitVec 1 := Scalar.cmpi .slt c16_i32_31 c0_i32_35
  let v102 : BitVec 32 := Scalar.extui v101
  let v103 : BitVec 32 := Scalar.subi v100 v102
  let v104 : BitVec 1 := Scalar.cmpi .ne v98 v103
  let v105 : BitVec 32 := Scalar.remsi v92 c16_i32_31
  let c0_i32_36 : BitVec 32 := 0#32
  let v106 : BitVec 1 := Scalar.cmpi .ne v105 c0_i32_36
  let v107 : BitVec 1 := Scalar.andi v104 v106
  let v93 : BitVec 32 := Scalar.divsi v92 c16_i32_31
  let c1_i32_37 : BitVec 32 := 1#32
  let v108 : BitVec 32 := Scalar.subi v93 c1_i32_37
  let v109 : BitVec 32 := Scalar.select v107 v108 v93
  let c16_i32_38 : BitVec 32 := 16#32
  let v110 : BitVec 32 := Scalar.muli v109 c16_i32_38
  v110

def k0_off5 (i : grid0.Coords) (v92 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v112 : BitVec 32 := Scalar.addi v2 c3_i32
  let c0_i32_32 : BitVec 32 := 0#32
  let v94 : BitVec 1 := Scalar.cmpi .sgt v92 c0_i32_32
  let v95 : BitVec 32 := Scalar.extui v94
  let c0_i32_33 : BitVec 32 := 0#32
  let v96 : BitVec 1 := Scalar.cmpi .slt v92 c0_i32_33
  let v97 : BitVec 32 := Scalar.extui v96
  let v98 : BitVec 32 := Scalar.subi v95 v97
  let c16_i32_31 : BitVec 32 := 16#32
  let c0_i32_34 : BitVec 32 := 0#32
  let v99 : BitVec 1 := Scalar.cmpi .sgt c16_i32_31 c0_i32_34
  let v100 : BitVec 32 := Scalar.extui v99
  let c0_i32_35 : BitVec 32 := 0#32
  let v101 : BitVec 1 := Scalar.cmpi .slt c16_i32_31 c0_i32_35
  let v102 : BitVec 32 := Scalar.extui v101
  let v103 : BitVec 32 := Scalar.subi v100 v102
  let v104 : BitVec 1 := Scalar.cmpi .ne v98 v103
  let v105 : BitVec 32 := Scalar.remsi v92 c16_i32_31
  let c0_i32_36 : BitVec 32 := 0#32
  let v106 : BitVec 1 := Scalar.cmpi .ne v105 c0_i32_36
  let v107 : BitVec 1 := Scalar.andi v104 v106
  let v93 : BitVec 32 := Scalar.divsi v92 c16_i32_31
  let c1_i32_37 : BitVec 32 := 1#32
  let v108 : BitVec 32 := Scalar.subi v93 c1_i32_37
  let v109 : BitVec 32 := Scalar.select v107 v108 v93
  let c16_i32_38 : BitVec 32 := 16#32
  let v110 : BitVec 32 := Scalar.muli v109 c16_i32_38
  let v111 : BitVec 32 := v110
  ![v112.toNat, v111.toNat]
def k0_mult5 (v120 : BitVec 32) : BitVec 32 :=
  let c0_i32_41 : BitVec 32 := 0#32
  let v122 : BitVec 1 := Scalar.cmpi .sgt v120 c0_i32_41
  let v123 : BitVec 32 := Scalar.extui v122
  let c0_i32_42 : BitVec 32 := 0#32
  let v124 : BitVec 1 := Scalar.cmpi .slt v120 c0_i32_42
  let v125 : BitVec 32 := Scalar.extui v124
  let v126 : BitVec 32 := Scalar.subi v123 v125
  let c16_i32_40 : BitVec 32 := 16#32
  let c0_i32_43 : BitVec 32 := 0#32
  let v127 : BitVec 1 := Scalar.cmpi .sgt c16_i32_40 c0_i32_43
  let v128 : BitVec 32 := Scalar.extui v127
  let c0_i32_44 : BitVec 32 := 0#32
  let v129 : BitVec 1 := Scalar.cmpi .slt c16_i32_40 c0_i32_44
  let v130 : BitVec 32 := Scalar.extui v129
  let v131 : BitVec 32 := Scalar.subi v128 v130
  let v132 : BitVec 1 := Scalar.cmpi .ne v126 v131
  let v133 : BitVec 32 := Scalar.remsi v120 c16_i32_40
  let c0_i32_45 : BitVec 32 := 0#32
  let v134 : BitVec 1 := Scalar.cmpi .ne v133 c0_i32_45
  let v135 : BitVec 1 := Scalar.andi v132 v134
  let v121 : BitVec 32 := Scalar.divsi v120 c16_i32_40
  let c1_i32_46 : BitVec 32 := 1#32
  let v136 : BitVec 32 := Scalar.subi v121 c1_i32_46
  let v137 : BitVec 32 := Scalar.select v135 v136 v121
  let c16_i32_47 : BitVec 32 := 16#32
  let v138 : BitVec 32 := Scalar.muli v137 c16_i32_47
  v138

def k0_off6 (i : grid0.Coords) (v120 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v140 : BitVec 32 := Scalar.addi v2 c4_i32
  let c0_i32_41 : BitVec 32 := 0#32
  let v122 : BitVec 1 := Scalar.cmpi .sgt v120 c0_i32_41
  let v123 : BitVec 32 := Scalar.extui v122
  let c0_i32_42 : BitVec 32 := 0#32
  let v124 : BitVec 1 := Scalar.cmpi .slt v120 c0_i32_42
  let v125 : BitVec 32 := Scalar.extui v124
  let v126 : BitVec 32 := Scalar.subi v123 v125
  let c16_i32_40 : BitVec 32 := 16#32
  let c0_i32_43 : BitVec 32 := 0#32
  let v127 : BitVec 1 := Scalar.cmpi .sgt c16_i32_40 c0_i32_43
  let v128 : BitVec 32 := Scalar.extui v127
  let c0_i32_44 : BitVec 32 := 0#32
  let v129 : BitVec 1 := Scalar.cmpi .slt c16_i32_40 c0_i32_44
  let v130 : BitVec 32 := Scalar.extui v129
  let v131 : BitVec 32 := Scalar.subi v128 v130
  let v132 : BitVec 1 := Scalar.cmpi .ne v126 v131
  let v133 : BitVec 32 := Scalar.remsi v120 c16_i32_40
  let c0_i32_45 : BitVec 32 := 0#32
  let v134 : BitVec 1 := Scalar.cmpi .ne v133 c0_i32_45
  let v135 : BitVec 1 := Scalar.andi v132 v134
  let v121 : BitVec 32 := Scalar.divsi v120 c16_i32_40
  let c1_i32_46 : BitVec 32 := 1#32
  let v136 : BitVec 32 := Scalar.subi v121 c1_i32_46
  let v137 : BitVec 32 := Scalar.select v135 v136 v121
  let c16_i32_47 : BitVec 32 := 16#32
  let v138 : BitVec 32 := Scalar.muli v137 c16_i32_47
  let v139 : BitVec 32 := v138
  ![v140.toNat, v139.toNat]
def k0_mult6 (v148 : BitVec 32) : BitVec 32 :=
  let c0_i32_50 : BitVec 32 := 0#32
  let v150 : BitVec 1 := Scalar.cmpi .sgt v148 c0_i32_50
  let v151 : BitVec 32 := Scalar.extui v150
  let c0_i32_51 : BitVec 32 := 0#32
  let v152 : BitVec 1 := Scalar.cmpi .slt v148 c0_i32_51
  let v153 : BitVec 32 := Scalar.extui v152
  let v154 : BitVec 32 := Scalar.subi v151 v153
  let c16_i32_49 : BitVec 32 := 16#32
  let c0_i32_52 : BitVec 32 := 0#32
  let v155 : BitVec 1 := Scalar.cmpi .sgt c16_i32_49 c0_i32_52
  let v156 : BitVec 32 := Scalar.extui v155
  let c0_i32_53 : BitVec 32 := 0#32
  let v157 : BitVec 1 := Scalar.cmpi .slt c16_i32_49 c0_i32_53
  let v158 : BitVec 32 := Scalar.extui v157
  let v159 : BitVec 32 := Scalar.subi v156 v158
  let v160 : BitVec 1 := Scalar.cmpi .ne v154 v159
  let v161 : BitVec 32 := Scalar.remsi v148 c16_i32_49
  let c0_i32_54 : BitVec 32 := 0#32
  let v162 : BitVec 1 := Scalar.cmpi .ne v161 c0_i32_54
  let v163 : BitVec 1 := Scalar.andi v160 v162
  let v149 : BitVec 32 := Scalar.divsi v148 c16_i32_49
  let c1_i32_55 : BitVec 32 := 1#32
  let v164 : BitVec 32 := Scalar.subi v149 c1_i32_55
  let v165 : BitVec 32 := Scalar.select v163 v164 v149
  let c16_i32_56 : BitVec 32 := 16#32
  let v166 : BitVec 32 := Scalar.muli v165 c16_i32_56
  v166

def k0_off7 (i : grid0.Coords) (v148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v168 : BitVec 32 := Scalar.addi v2 c5_i32
  let c0_i32_50 : BitVec 32 := 0#32
  let v150 : BitVec 1 := Scalar.cmpi .sgt v148 c0_i32_50
  let v151 : BitVec 32 := Scalar.extui v150
  let c0_i32_51 : BitVec 32 := 0#32
  let v152 : BitVec 1 := Scalar.cmpi .slt v148 c0_i32_51
  let v153 : BitVec 32 := Scalar.extui v152
  let v154 : BitVec 32 := Scalar.subi v151 v153
  let c16_i32_49 : BitVec 32 := 16#32
  let c0_i32_52 : BitVec 32 := 0#32
  let v155 : BitVec 1 := Scalar.cmpi .sgt c16_i32_49 c0_i32_52
  let v156 : BitVec 32 := Scalar.extui v155
  let c0_i32_53 : BitVec 32 := 0#32
  let v157 : BitVec 1 := Scalar.cmpi .slt c16_i32_49 c0_i32_53
  let v158 : BitVec 32 := Scalar.extui v157
  let v159 : BitVec 32 := Scalar.subi v156 v158
  let v160 : BitVec 1 := Scalar.cmpi .ne v154 v159
  let v161 : BitVec 32 := Scalar.remsi v148 c16_i32_49
  let c0_i32_54 : BitVec 32 := 0#32
  let v162 : BitVec 1 := Scalar.cmpi .ne v161 c0_i32_54
  let v163 : BitVec 1 := Scalar.andi v160 v162
  let v149 : BitVec 32 := Scalar.divsi v148 c16_i32_49
  let c1_i32_55 : BitVec 32 := 1#32
  let v164 : BitVec 32 := Scalar.subi v149 c1_i32_55
  let v165 : BitVec 32 := Scalar.select v163 v164 v149
  let c16_i32_56 : BitVec 32 := 16#32
  let v166 : BitVec 32 := Scalar.muli v165 c16_i32_56
  let v167 : BitVec 32 := v166
  ![v168.toNat, v167.toNat]
def k0_mult7 (v176 : BitVec 32) : BitVec 32 :=
  let c0_i32_59 : BitVec 32 := 0#32
  let v178 : BitVec 1 := Scalar.cmpi .sgt v176 c0_i32_59
  let v179 : BitVec 32 := Scalar.extui v178
  let c0_i32_60 : BitVec 32 := 0#32
  let v180 : BitVec 1 := Scalar.cmpi .slt v176 c0_i32_60
  let v181 : BitVec 32 := Scalar.extui v180
  let v182 : BitVec 32 := Scalar.subi v179 v181
  let c16_i32_58 : BitVec 32 := 16#32
  let c0_i32_61 : BitVec 32 := 0#32
  let v183 : BitVec 1 := Scalar.cmpi .sgt c16_i32_58 c0_i32_61
  let v184 : BitVec 32 := Scalar.extui v183
  let c0_i32_62 : BitVec 32 := 0#32
  let v185 : BitVec 1 := Scalar.cmpi .slt c16_i32_58 c0_i32_62
  let v186 : BitVec 32 := Scalar.extui v185
  let v187 : BitVec 32 := Scalar.subi v184 v186
  let v188 : BitVec 1 := Scalar.cmpi .ne v182 v187
  let v189 : BitVec 32 := Scalar.remsi v176 c16_i32_58
  let c0_i32_63 : BitVec 32 := 0#32
  let v190 : BitVec 1 := Scalar.cmpi .ne v189 c0_i32_63
  let v191 : BitVec 1 := Scalar.andi v188 v190
  let v177 : BitVec 32 := Scalar.divsi v176 c16_i32_58
  let c1_i32_64 : BitVec 32 := 1#32
  let v192 : BitVec 32 := Scalar.subi v177 c1_i32_64
  let v193 : BitVec 32 := Scalar.select v191 v192 v177
  let c16_i32_65 : BitVec 32 := 16#32
  let v194 : BitVec 32 := Scalar.muli v193 c16_i32_65
  v194

def k0_off8 (i : grid0.Coords) (v176 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v196 : BitVec 32 := Scalar.addi v2 c6_i32
  let c0_i32_59 : BitVec 32 := 0#32
  let v178 : BitVec 1 := Scalar.cmpi .sgt v176 c0_i32_59
  let v179 : BitVec 32 := Scalar.extui v178
  let c0_i32_60 : BitVec 32 := 0#32
  let v180 : BitVec 1 := Scalar.cmpi .slt v176 c0_i32_60
  let v181 : BitVec 32 := Scalar.extui v180
  let v182 : BitVec 32 := Scalar.subi v179 v181
  let c16_i32_58 : BitVec 32 := 16#32
  let c0_i32_61 : BitVec 32 := 0#32
  let v183 : BitVec 1 := Scalar.cmpi .sgt c16_i32_58 c0_i32_61
  let v184 : BitVec 32 := Scalar.extui v183
  let c0_i32_62 : BitVec 32 := 0#32
  let v185 : BitVec 1 := Scalar.cmpi .slt c16_i32_58 c0_i32_62
  let v186 : BitVec 32 := Scalar.extui v185
  let v187 : BitVec 32 := Scalar.subi v184 v186
  let v188 : BitVec 1 := Scalar.cmpi .ne v182 v187
  let v189 : BitVec 32 := Scalar.remsi v176 c16_i32_58
  let c0_i32_63 : BitVec 32 := 0#32
  let v190 : BitVec 1 := Scalar.cmpi .ne v189 c0_i32_63
  let v191 : BitVec 1 := Scalar.andi v188 v190
  let v177 : BitVec 32 := Scalar.divsi v176 c16_i32_58
  let c1_i32_64 : BitVec 32 := 1#32
  let v192 : BitVec 32 := Scalar.subi v177 c1_i32_64
  let v193 : BitVec 32 := Scalar.select v191 v192 v177
  let c16_i32_65 : BitVec 32 := 16#32
  let v194 : BitVec 32 := Scalar.muli v193 c16_i32_65
  let v195 : BitVec 32 := v194
  ![v196.toNat, v195.toNat]
def k0_mult8 (v204 : BitVec 32) : BitVec 32 :=
  let c0_i32_68 : BitVec 32 := 0#32
  let v206 : BitVec 1 := Scalar.cmpi .sgt v204 c0_i32_68
  let v207 : BitVec 32 := Scalar.extui v206
  let c0_i32_69 : BitVec 32 := 0#32
  let v208 : BitVec 1 := Scalar.cmpi .slt v204 c0_i32_69
  let v209 : BitVec 32 := Scalar.extui v208
  let v210 : BitVec 32 := Scalar.subi v207 v209
  let c16_i32_67 : BitVec 32 := 16#32
  let c0_i32_70 : BitVec 32 := 0#32
  let v211 : BitVec 1 := Scalar.cmpi .sgt c16_i32_67 c0_i32_70
  let v212 : BitVec 32 := Scalar.extui v211
  let c0_i32_71 : BitVec 32 := 0#32
  let v213 : BitVec 1 := Scalar.cmpi .slt c16_i32_67 c0_i32_71
  let v214 : BitVec 32 := Scalar.extui v213
  let v215 : BitVec 32 := Scalar.subi v212 v214
  let v216 : BitVec 1 := Scalar.cmpi .ne v210 v215
  let v217 : BitVec 32 := Scalar.remsi v204 c16_i32_67
  let c0_i32_72 : BitVec 32 := 0#32
  let v218 : BitVec 1 := Scalar.cmpi .ne v217 c0_i32_72
  let v219 : BitVec 1 := Scalar.andi v216 v218
  let v205 : BitVec 32 := Scalar.divsi v204 c16_i32_67
  let c1_i32_73 : BitVec 32 := 1#32
  let v220 : BitVec 32 := Scalar.subi v205 c1_i32_73
  let v221 : BitVec 32 := Scalar.select v219 v220 v205
  let c16_i32_74 : BitVec 32 := 16#32
  let v222 : BitVec 32 := Scalar.muli v221 c16_i32_74
  v222

def k0_off9 (i : grid0.Coords) (v204 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32 : BitVec 32 := 7#32
  let v224 : BitVec 32 := Scalar.addi v2 c7_i32
  let c0_i32_68 : BitVec 32 := 0#32
  let v206 : BitVec 1 := Scalar.cmpi .sgt v204 c0_i32_68
  let v207 : BitVec 32 := Scalar.extui v206
  let c0_i32_69 : BitVec 32 := 0#32
  let v208 : BitVec 1 := Scalar.cmpi .slt v204 c0_i32_69
  let v209 : BitVec 32 := Scalar.extui v208
  let v210 : BitVec 32 := Scalar.subi v207 v209
  let c16_i32_67 : BitVec 32 := 16#32
  let c0_i32_70 : BitVec 32 := 0#32
  let v211 : BitVec 1 := Scalar.cmpi .sgt c16_i32_67 c0_i32_70
  let v212 : BitVec 32 := Scalar.extui v211
  let c0_i32_71 : BitVec 32 := 0#32
  let v213 : BitVec 1 := Scalar.cmpi .slt c16_i32_67 c0_i32_71
  let v214 : BitVec 32 := Scalar.extui v213
  let v215 : BitVec 32 := Scalar.subi v212 v214
  let v216 : BitVec 1 := Scalar.cmpi .ne v210 v215
  let v217 : BitVec 32 := Scalar.remsi v204 c16_i32_67
  let c0_i32_72 : BitVec 32 := 0#32
  let v218 : BitVec 1 := Scalar.cmpi .ne v217 c0_i32_72
  let v219 : BitVec 1 := Scalar.andi v216 v218
  let v205 : BitVec 32 := Scalar.divsi v204 c16_i32_67
  let c1_i32_73 : BitVec 32 := 1#32
  let v220 : BitVec 32 := Scalar.subi v205 c1_i32_73
  let v221 : BitVec 32 := Scalar.select v219 v220 v205
  let c16_i32_74 : BitVec 32 := 16#32
  let v222 : BitVec 32 := Scalar.muli v221 c16_i32_74
  let v223 : BitVec 32 := v222
  ![v224.toNat, v223.toNat]
def k0_mult9 (v232 : BitVec 32) : BitVec 32 :=
  let c0_i32_77 : BitVec 32 := 0#32
  let v234 : BitVec 1 := Scalar.cmpi .sgt v232 c0_i32_77
  let v235 : BitVec 32 := Scalar.extui v234
  let c0_i32_78 : BitVec 32 := 0#32
  let v236 : BitVec 1 := Scalar.cmpi .slt v232 c0_i32_78
  let v237 : BitVec 32 := Scalar.extui v236
  let v238 : BitVec 32 := Scalar.subi v235 v237
  let c16_i32_76 : BitVec 32 := 16#32
  let c0_i32_79 : BitVec 32 := 0#32
  let v239 : BitVec 1 := Scalar.cmpi .sgt c16_i32_76 c0_i32_79
  let v240 : BitVec 32 := Scalar.extui v239
  let c0_i32_80 : BitVec 32 := 0#32
  let v241 : BitVec 1 := Scalar.cmpi .slt c16_i32_76 c0_i32_80
  let v242 : BitVec 32 := Scalar.extui v241
  let v243 : BitVec 32 := Scalar.subi v240 v242
  let v244 : BitVec 1 := Scalar.cmpi .ne v238 v243
  let v245 : BitVec 32 := Scalar.remsi v232 c16_i32_76
  let c0_i32_81 : BitVec 32 := 0#32
  let v246 : BitVec 1 := Scalar.cmpi .ne v245 c0_i32_81
  let v247 : BitVec 1 := Scalar.andi v244 v246
  let v233 : BitVec 32 := Scalar.divsi v232 c16_i32_76
  let c1_i32_82 : BitVec 32 := 1#32
  let v248 : BitVec 32 := Scalar.subi v233 c1_i32_82
  let v249 : BitVec 32 := Scalar.select v247 v248 v233
  let c16_i32_83 : BitVec 32 := 16#32
  let v250 : BitVec 32 := Scalar.muli v249 c16_i32_83
  v250

def k0_off10 (i : grid0.Coords) (v232 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v252 : BitVec 32 := Scalar.addi v2 c8_i32
  let c0_i32_77 : BitVec 32 := 0#32
  let v234 : BitVec 1 := Scalar.cmpi .sgt v232 c0_i32_77
  let v235 : BitVec 32 := Scalar.extui v234
  let c0_i32_78 : BitVec 32 := 0#32
  let v236 : BitVec 1 := Scalar.cmpi .slt v232 c0_i32_78
  let v237 : BitVec 32 := Scalar.extui v236
  let v238 : BitVec 32 := Scalar.subi v235 v237
  let c16_i32_76 : BitVec 32 := 16#32
  let c0_i32_79 : BitVec 32 := 0#32
  let v239 : BitVec 1 := Scalar.cmpi .sgt c16_i32_76 c0_i32_79
  let v240 : BitVec 32 := Scalar.extui v239
  let c0_i32_80 : BitVec 32 := 0#32
  let v241 : BitVec 1 := Scalar.cmpi .slt c16_i32_76 c0_i32_80
  let v242 : BitVec 32 := Scalar.extui v241
  let v243 : BitVec 32 := Scalar.subi v240 v242
  let v244 : BitVec 1 := Scalar.cmpi .ne v238 v243
  let v245 : BitVec 32 := Scalar.remsi v232 c16_i32_76
  let c0_i32_81 : BitVec 32 := 0#32
  let v246 : BitVec 1 := Scalar.cmpi .ne v245 c0_i32_81
  let v247 : BitVec 1 := Scalar.andi v244 v246
  let v233 : BitVec 32 := Scalar.divsi v232 c16_i32_76
  let c1_i32_82 : BitVec 32 := 1#32
  let v248 : BitVec 32 := Scalar.subi v233 c1_i32_82
  let v249 : BitVec 32 := Scalar.select v247 v248 v233
  let c16_i32_83 : BitVec 32 := 16#32
  let v250 : BitVec 32 := Scalar.muli v249 c16_i32_83
  let v251 : BitVec 32 := v250
  ![v252.toNat, v251.toNat]
def k0_mult10 (v260 : BitVec 32) : BitVec 32 :=
  let c0_i32_86 : BitVec 32 := 0#32
  let v262 : BitVec 1 := Scalar.cmpi .sgt v260 c0_i32_86
  let v263 : BitVec 32 := Scalar.extui v262
  let c0_i32_87 : BitVec 32 := 0#32
  let v264 : BitVec 1 := Scalar.cmpi .slt v260 c0_i32_87
  let v265 : BitVec 32 := Scalar.extui v264
  let v266 : BitVec 32 := Scalar.subi v263 v265
  let c16_i32_85 : BitVec 32 := 16#32
  let c0_i32_88 : BitVec 32 := 0#32
  let v267 : BitVec 1 := Scalar.cmpi .sgt c16_i32_85 c0_i32_88
  let v268 : BitVec 32 := Scalar.extui v267
  let c0_i32_89 : BitVec 32 := 0#32
  let v269 : BitVec 1 := Scalar.cmpi .slt c16_i32_85 c0_i32_89
  let v270 : BitVec 32 := Scalar.extui v269
  let v271 : BitVec 32 := Scalar.subi v268 v270
  let v272 : BitVec 1 := Scalar.cmpi .ne v266 v271
  let v273 : BitVec 32 := Scalar.remsi v260 c16_i32_85
  let c0_i32_90 : BitVec 32 := 0#32
  let v274 : BitVec 1 := Scalar.cmpi .ne v273 c0_i32_90
  let v275 : BitVec 1 := Scalar.andi v272 v274
  let v261 : BitVec 32 := Scalar.divsi v260 c16_i32_85
  let c1_i32_91 : BitVec 32 := 1#32
  let v276 : BitVec 32 := Scalar.subi v261 c1_i32_91
  let v277 : BitVec 32 := Scalar.select v275 v276 v261
  let c16_i32_92 : BitVec 32 := 16#32
  let v278 : BitVec 32 := Scalar.muli v277 c16_i32_92
  v278

def k0_off11 (i : grid0.Coords) (v260 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v280 : BitVec 32 := Scalar.addi v2 c9_i32
  let c0_i32_86 : BitVec 32 := 0#32
  let v262 : BitVec 1 := Scalar.cmpi .sgt v260 c0_i32_86
  let v263 : BitVec 32 := Scalar.extui v262
  let c0_i32_87 : BitVec 32 := 0#32
  let v264 : BitVec 1 := Scalar.cmpi .slt v260 c0_i32_87
  let v265 : BitVec 32 := Scalar.extui v264
  let v266 : BitVec 32 := Scalar.subi v263 v265
  let c16_i32_85 : BitVec 32 := 16#32
  let c0_i32_88 : BitVec 32 := 0#32
  let v267 : BitVec 1 := Scalar.cmpi .sgt c16_i32_85 c0_i32_88
  let v268 : BitVec 32 := Scalar.extui v267
  let c0_i32_89 : BitVec 32 := 0#32
  let v269 : BitVec 1 := Scalar.cmpi .slt c16_i32_85 c0_i32_89
  let v270 : BitVec 32 := Scalar.extui v269
  let v271 : BitVec 32 := Scalar.subi v268 v270
  let v272 : BitVec 1 := Scalar.cmpi .ne v266 v271
  let v273 : BitVec 32 := Scalar.remsi v260 c16_i32_85
  let c0_i32_90 : BitVec 32 := 0#32
  let v274 : BitVec 1 := Scalar.cmpi .ne v273 c0_i32_90
  let v275 : BitVec 1 := Scalar.andi v272 v274
  let v261 : BitVec 32 := Scalar.divsi v260 c16_i32_85
  let c1_i32_91 : BitVec 32 := 1#32
  let v276 : BitVec 32 := Scalar.subi v261 c1_i32_91
  let v277 : BitVec 32 := Scalar.select v275 v276 v261
  let c16_i32_92 : BitVec 32 := 16#32
  let v278 : BitVec 32 := Scalar.muli v277 c16_i32_92
  let v279 : BitVec 32 := v278
  ![v280.toNat, v279.toNat]
def k0_mult11 (v288 : BitVec 32) : BitVec 32 :=
  let c0_i32_95 : BitVec 32 := 0#32
  let v290 : BitVec 1 := Scalar.cmpi .sgt v288 c0_i32_95
  let v291 : BitVec 32 := Scalar.extui v290
  let c0_i32_96 : BitVec 32 := 0#32
  let v292 : BitVec 1 := Scalar.cmpi .slt v288 c0_i32_96
  let v293 : BitVec 32 := Scalar.extui v292
  let v294 : BitVec 32 := Scalar.subi v291 v293
  let c16_i32_94 : BitVec 32 := 16#32
  let c0_i32_97 : BitVec 32 := 0#32
  let v295 : BitVec 1 := Scalar.cmpi .sgt c16_i32_94 c0_i32_97
  let v296 : BitVec 32 := Scalar.extui v295
  let c0_i32_98 : BitVec 32 := 0#32
  let v297 : BitVec 1 := Scalar.cmpi .slt c16_i32_94 c0_i32_98
  let v298 : BitVec 32 := Scalar.extui v297
  let v299 : BitVec 32 := Scalar.subi v296 v298
  let v300 : BitVec 1 := Scalar.cmpi .ne v294 v299
  let v301 : BitVec 32 := Scalar.remsi v288 c16_i32_94
  let c0_i32_99 : BitVec 32 := 0#32
  let v302 : BitVec 1 := Scalar.cmpi .ne v301 c0_i32_99
  let v303 : BitVec 1 := Scalar.andi v300 v302
  let v289 : BitVec 32 := Scalar.divsi v288 c16_i32_94
  let c1_i32_100 : BitVec 32 := 1#32
  let v304 : BitVec 32 := Scalar.subi v289 c1_i32_100
  let v305 : BitVec 32 := Scalar.select v303 v304 v289
  let c16_i32_101 : BitVec 32 := 16#32
  let v306 : BitVec 32 := Scalar.muli v305 c16_i32_101
  v306

def k0_off12 (i : grid0.Coords) (v288 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v308 : BitVec 32 := Scalar.addi v2 c10_i32
  let c0_i32_95 : BitVec 32 := 0#32
  let v290 : BitVec 1 := Scalar.cmpi .sgt v288 c0_i32_95
  let v291 : BitVec 32 := Scalar.extui v290
  let c0_i32_96 : BitVec 32 := 0#32
  let v292 : BitVec 1 := Scalar.cmpi .slt v288 c0_i32_96
  let v293 : BitVec 32 := Scalar.extui v292
  let v294 : BitVec 32 := Scalar.subi v291 v293
  let c16_i32_94 : BitVec 32 := 16#32
  let c0_i32_97 : BitVec 32 := 0#32
  let v295 : BitVec 1 := Scalar.cmpi .sgt c16_i32_94 c0_i32_97
  let v296 : BitVec 32 := Scalar.extui v295
  let c0_i32_98 : BitVec 32 := 0#32
  let v297 : BitVec 1 := Scalar.cmpi .slt c16_i32_94 c0_i32_98
  let v298 : BitVec 32 := Scalar.extui v297
  let v299 : BitVec 32 := Scalar.subi v296 v298
  let v300 : BitVec 1 := Scalar.cmpi .ne v294 v299
  let v301 : BitVec 32 := Scalar.remsi v288 c16_i32_94
  let c0_i32_99 : BitVec 32 := 0#32
  let v302 : BitVec 1 := Scalar.cmpi .ne v301 c0_i32_99
  let v303 : BitVec 1 := Scalar.andi v300 v302
  let v289 : BitVec 32 := Scalar.divsi v288 c16_i32_94
  let c1_i32_100 : BitVec 32 := 1#32
  let v304 : BitVec 32 := Scalar.subi v289 c1_i32_100
  let v305 : BitVec 32 := Scalar.select v303 v304 v289
  let c16_i32_101 : BitVec 32 := 16#32
  let v306 : BitVec 32 := Scalar.muli v305 c16_i32_101
  let v307 : BitVec 32 := v306
  ![v308.toNat, v307.toNat]
def k0_mult12 (v316 : BitVec 32) : BitVec 32 :=
  let c0_i32_104 : BitVec 32 := 0#32
  let v318 : BitVec 1 := Scalar.cmpi .sgt v316 c0_i32_104
  let v319 : BitVec 32 := Scalar.extui v318
  let c0_i32_105 : BitVec 32 := 0#32
  let v320 : BitVec 1 := Scalar.cmpi .slt v316 c0_i32_105
  let v321 : BitVec 32 := Scalar.extui v320
  let v322 : BitVec 32 := Scalar.subi v319 v321
  let c16_i32_103 : BitVec 32 := 16#32
  let c0_i32_106 : BitVec 32 := 0#32
  let v323 : BitVec 1 := Scalar.cmpi .sgt c16_i32_103 c0_i32_106
  let v324 : BitVec 32 := Scalar.extui v323
  let c0_i32_107 : BitVec 32 := 0#32
  let v325 : BitVec 1 := Scalar.cmpi .slt c16_i32_103 c0_i32_107
  let v326 : BitVec 32 := Scalar.extui v325
  let v327 : BitVec 32 := Scalar.subi v324 v326
  let v328 : BitVec 1 := Scalar.cmpi .ne v322 v327
  let v329 : BitVec 32 := Scalar.remsi v316 c16_i32_103
  let c0_i32_108 : BitVec 32 := 0#32
  let v330 : BitVec 1 := Scalar.cmpi .ne v329 c0_i32_108
  let v331 : BitVec 1 := Scalar.andi v328 v330
  let v317 : BitVec 32 := Scalar.divsi v316 c16_i32_103
  let c1_i32_109 : BitVec 32 := 1#32
  let v332 : BitVec 32 := Scalar.subi v317 c1_i32_109
  let v333 : BitVec 32 := Scalar.select v331 v332 v317
  let c16_i32_110 : BitVec 32 := 16#32
  let v334 : BitVec 32 := Scalar.muli v333 c16_i32_110
  v334

def k0_off13 (i : grid0.Coords) (v316 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v336 : BitVec 32 := Scalar.addi v2 c11_i32
  let c0_i32_104 : BitVec 32 := 0#32
  let v318 : BitVec 1 := Scalar.cmpi .sgt v316 c0_i32_104
  let v319 : BitVec 32 := Scalar.extui v318
  let c0_i32_105 : BitVec 32 := 0#32
  let v320 : BitVec 1 := Scalar.cmpi .slt v316 c0_i32_105
  let v321 : BitVec 32 := Scalar.extui v320
  let v322 : BitVec 32 := Scalar.subi v319 v321
  let c16_i32_103 : BitVec 32 := 16#32
  let c0_i32_106 : BitVec 32 := 0#32
  let v323 : BitVec 1 := Scalar.cmpi .sgt c16_i32_103 c0_i32_106
  let v324 : BitVec 32 := Scalar.extui v323
  let c0_i32_107 : BitVec 32 := 0#32
  let v325 : BitVec 1 := Scalar.cmpi .slt c16_i32_103 c0_i32_107
  let v326 : BitVec 32 := Scalar.extui v325
  let v327 : BitVec 32 := Scalar.subi v324 v326
  let v328 : BitVec 1 := Scalar.cmpi .ne v322 v327
  let v329 : BitVec 32 := Scalar.remsi v316 c16_i32_103
  let c0_i32_108 : BitVec 32 := 0#32
  let v330 : BitVec 1 := Scalar.cmpi .ne v329 c0_i32_108
  let v331 : BitVec 1 := Scalar.andi v328 v330
  let v317 : BitVec 32 := Scalar.divsi v316 c16_i32_103
  let c1_i32_109 : BitVec 32 := 1#32
  let v332 : BitVec 32 := Scalar.subi v317 c1_i32_109
  let v333 : BitVec 32 := Scalar.select v331 v332 v317
  let c16_i32_110 : BitVec 32 := 16#32
  let v334 : BitVec 32 := Scalar.muli v333 c16_i32_110
  let v335 : BitVec 32 := v334
  ![v336.toNat, v335.toNat]
def k0_mult13 (v344 : BitVec 32) : BitVec 32 :=
  let c0_i32_113 : BitVec 32 := 0#32
  let v346 : BitVec 1 := Scalar.cmpi .sgt v344 c0_i32_113
  let v347 : BitVec 32 := Scalar.extui v346
  let c0_i32_114 : BitVec 32 := 0#32
  let v348 : BitVec 1 := Scalar.cmpi .slt v344 c0_i32_114
  let v349 : BitVec 32 := Scalar.extui v348
  let v350 : BitVec 32 := Scalar.subi v347 v349
  let c16_i32_112 : BitVec 32 := 16#32
  let c0_i32_115 : BitVec 32 := 0#32
  let v351 : BitVec 1 := Scalar.cmpi .sgt c16_i32_112 c0_i32_115
  let v352 : BitVec 32 := Scalar.extui v351
  let c0_i32_116 : BitVec 32 := 0#32
  let v353 : BitVec 1 := Scalar.cmpi .slt c16_i32_112 c0_i32_116
  let v354 : BitVec 32 := Scalar.extui v353
  let v355 : BitVec 32 := Scalar.subi v352 v354
  let v356 : BitVec 1 := Scalar.cmpi .ne v350 v355
  let v357 : BitVec 32 := Scalar.remsi v344 c16_i32_112
  let c0_i32_117 : BitVec 32 := 0#32
  let v358 : BitVec 1 := Scalar.cmpi .ne v357 c0_i32_117
  let v359 : BitVec 1 := Scalar.andi v356 v358
  let v345 : BitVec 32 := Scalar.divsi v344 c16_i32_112
  let c1_i32_118 : BitVec 32 := 1#32
  let v360 : BitVec 32 := Scalar.subi v345 c1_i32_118
  let v361 : BitVec 32 := Scalar.select v359 v360 v345
  let c16_i32_119 : BitVec 32 := 16#32
  let v362 : BitVec 32 := Scalar.muli v361 c16_i32_119
  v362

def k0_off14 (i : grid0.Coords) (v344 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v364 : BitVec 32 := Scalar.addi v2 c12_i32
  let c0_i32_113 : BitVec 32 := 0#32
  let v346 : BitVec 1 := Scalar.cmpi .sgt v344 c0_i32_113
  let v347 : BitVec 32 := Scalar.extui v346
  let c0_i32_114 : BitVec 32 := 0#32
  let v348 : BitVec 1 := Scalar.cmpi .slt v344 c0_i32_114
  let v349 : BitVec 32 := Scalar.extui v348
  let v350 : BitVec 32 := Scalar.subi v347 v349
  let c16_i32_112 : BitVec 32 := 16#32
  let c0_i32_115 : BitVec 32 := 0#32
  let v351 : BitVec 1 := Scalar.cmpi .sgt c16_i32_112 c0_i32_115
  let v352 : BitVec 32 := Scalar.extui v351
  let c0_i32_116 : BitVec 32 := 0#32
  let v353 : BitVec 1 := Scalar.cmpi .slt c16_i32_112 c0_i32_116
  let v354 : BitVec 32 := Scalar.extui v353
  let v355 : BitVec 32 := Scalar.subi v352 v354
  let v356 : BitVec 1 := Scalar.cmpi .ne v350 v355
  let v357 : BitVec 32 := Scalar.remsi v344 c16_i32_112
  let c0_i32_117 : BitVec 32 := 0#32
  let v358 : BitVec 1 := Scalar.cmpi .ne v357 c0_i32_117
  let v359 : BitVec 1 := Scalar.andi v356 v358
  let v345 : BitVec 32 := Scalar.divsi v344 c16_i32_112
  let c1_i32_118 : BitVec 32 := 1#32
  let v360 : BitVec 32 := Scalar.subi v345 c1_i32_118
  let v361 : BitVec 32 := Scalar.select v359 v360 v345
  let c16_i32_119 : BitVec 32 := 16#32
  let v362 : BitVec 32 := Scalar.muli v361 c16_i32_119
  let v363 : BitVec 32 := v362
  ![v364.toNat, v363.toNat]
def k0_mult14 (v372 : BitVec 32) : BitVec 32 :=
  let c0_i32_122 : BitVec 32 := 0#32
  let v374 : BitVec 1 := Scalar.cmpi .sgt v372 c0_i32_122
  let v375 : BitVec 32 := Scalar.extui v374
  let c0_i32_123 : BitVec 32 := 0#32
  let v376 : BitVec 1 := Scalar.cmpi .slt v372 c0_i32_123
  let v377 : BitVec 32 := Scalar.extui v376
  let v378 : BitVec 32 := Scalar.subi v375 v377
  let c16_i32_121 : BitVec 32 := 16#32
  let c0_i32_124 : BitVec 32 := 0#32
  let v379 : BitVec 1 := Scalar.cmpi .sgt c16_i32_121 c0_i32_124
  let v380 : BitVec 32 := Scalar.extui v379
  let c0_i32_125 : BitVec 32 := 0#32
  let v381 : BitVec 1 := Scalar.cmpi .slt c16_i32_121 c0_i32_125
  let v382 : BitVec 32 := Scalar.extui v381
  let v383 : BitVec 32 := Scalar.subi v380 v382
  let v384 : BitVec 1 := Scalar.cmpi .ne v378 v383
  let v385 : BitVec 32 := Scalar.remsi v372 c16_i32_121
  let c0_i32_126 : BitVec 32 := 0#32
  let v386 : BitVec 1 := Scalar.cmpi .ne v385 c0_i32_126
  let v387 : BitVec 1 := Scalar.andi v384 v386
  let v373 : BitVec 32 := Scalar.divsi v372 c16_i32_121
  let c1_i32_127 : BitVec 32 := 1#32
  let v388 : BitVec 32 := Scalar.subi v373 c1_i32_127
  let v389 : BitVec 32 := Scalar.select v387 v388 v373
  let c16_i32_128 : BitVec 32 := 16#32
  let v390 : BitVec 32 := Scalar.muli v389 c16_i32_128
  v390

def k0_off15 (i : grid0.Coords) (v372 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v392 : BitVec 32 := Scalar.addi v2 c13_i32
  let c0_i32_122 : BitVec 32 := 0#32
  let v374 : BitVec 1 := Scalar.cmpi .sgt v372 c0_i32_122
  let v375 : BitVec 32 := Scalar.extui v374
  let c0_i32_123 : BitVec 32 := 0#32
  let v376 : BitVec 1 := Scalar.cmpi .slt v372 c0_i32_123
  let v377 : BitVec 32 := Scalar.extui v376
  let v378 : BitVec 32 := Scalar.subi v375 v377
  let c16_i32_121 : BitVec 32 := 16#32
  let c0_i32_124 : BitVec 32 := 0#32
  let v379 : BitVec 1 := Scalar.cmpi .sgt c16_i32_121 c0_i32_124
  let v380 : BitVec 32 := Scalar.extui v379
  let c0_i32_125 : BitVec 32 := 0#32
  let v381 : BitVec 1 := Scalar.cmpi .slt c16_i32_121 c0_i32_125
  let v382 : BitVec 32 := Scalar.extui v381
  let v383 : BitVec 32 := Scalar.subi v380 v382
  let v384 : BitVec 1 := Scalar.cmpi .ne v378 v383
  let v385 : BitVec 32 := Scalar.remsi v372 c16_i32_121
  let c0_i32_126 : BitVec 32 := 0#32
  let v386 : BitVec 1 := Scalar.cmpi .ne v385 c0_i32_126
  let v387 : BitVec 1 := Scalar.andi v384 v386
  let v373 : BitVec 32 := Scalar.divsi v372 c16_i32_121
  let c1_i32_127 : BitVec 32 := 1#32
  let v388 : BitVec 32 := Scalar.subi v373 c1_i32_127
  let v389 : BitVec 32 := Scalar.select v387 v388 v373
  let c16_i32_128 : BitVec 32 := 16#32
  let v390 : BitVec 32 := Scalar.muli v389 c16_i32_128
  let v391 : BitVec 32 := v390
  ![v392.toNat, v391.toNat]
def k0_mult15 (v400 : BitVec 32) : BitVec 32 :=
  let c0_i32_131 : BitVec 32 := 0#32
  let v402 : BitVec 1 := Scalar.cmpi .sgt v400 c0_i32_131
  let v403 : BitVec 32 := Scalar.extui v402
  let c0_i32_132 : BitVec 32 := 0#32
  let v404 : BitVec 1 := Scalar.cmpi .slt v400 c0_i32_132
  let v405 : BitVec 32 := Scalar.extui v404
  let v406 : BitVec 32 := Scalar.subi v403 v405
  let c16_i32_130 : BitVec 32 := 16#32
  let c0_i32_133 : BitVec 32 := 0#32
  let v407 : BitVec 1 := Scalar.cmpi .sgt c16_i32_130 c0_i32_133
  let v408 : BitVec 32 := Scalar.extui v407
  let c0_i32_134 : BitVec 32 := 0#32
  let v409 : BitVec 1 := Scalar.cmpi .slt c16_i32_130 c0_i32_134
  let v410 : BitVec 32 := Scalar.extui v409
  let v411 : BitVec 32 := Scalar.subi v408 v410
  let v412 : BitVec 1 := Scalar.cmpi .ne v406 v411
  let v413 : BitVec 32 := Scalar.remsi v400 c16_i32_130
  let c0_i32_135 : BitVec 32 := 0#32
  let v414 : BitVec 1 := Scalar.cmpi .ne v413 c0_i32_135
  let v415 : BitVec 1 := Scalar.andi v412 v414
  let v401 : BitVec 32 := Scalar.divsi v400 c16_i32_130
  let c1_i32_136 : BitVec 32 := 1#32
  let v416 : BitVec 32 := Scalar.subi v401 c1_i32_136
  let v417 : BitVec 32 := Scalar.select v415 v416 v401
  let c16_i32_137 : BitVec 32 := 16#32
  let v418 : BitVec 32 := Scalar.muli v417 c16_i32_137
  v418

def k0_off16 (i : grid0.Coords) (v400 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v420 : BitVec 32 := Scalar.addi v2 c14_i32
  let c0_i32_131 : BitVec 32 := 0#32
  let v402 : BitVec 1 := Scalar.cmpi .sgt v400 c0_i32_131
  let v403 : BitVec 32 := Scalar.extui v402
  let c0_i32_132 : BitVec 32 := 0#32
  let v404 : BitVec 1 := Scalar.cmpi .slt v400 c0_i32_132
  let v405 : BitVec 32 := Scalar.extui v404
  let v406 : BitVec 32 := Scalar.subi v403 v405
  let c16_i32_130 : BitVec 32 := 16#32
  let c0_i32_133 : BitVec 32 := 0#32
  let v407 : BitVec 1 := Scalar.cmpi .sgt c16_i32_130 c0_i32_133
  let v408 : BitVec 32 := Scalar.extui v407
  let c0_i32_134 : BitVec 32 := 0#32
  let v409 : BitVec 1 := Scalar.cmpi .slt c16_i32_130 c0_i32_134
  let v410 : BitVec 32 := Scalar.extui v409
  let v411 : BitVec 32 := Scalar.subi v408 v410
  let v412 : BitVec 1 := Scalar.cmpi .ne v406 v411
  let v413 : BitVec 32 := Scalar.remsi v400 c16_i32_130
  let c0_i32_135 : BitVec 32 := 0#32
  let v414 : BitVec 1 := Scalar.cmpi .ne v413 c0_i32_135
  let v415 : BitVec 1 := Scalar.andi v412 v414
  let v401 : BitVec 32 := Scalar.divsi v400 c16_i32_130
  let c1_i32_136 : BitVec 32 := 1#32
  let v416 : BitVec 32 := Scalar.subi v401 c1_i32_136
  let v417 : BitVec 32 := Scalar.select v415 v416 v401
  let c16_i32_137 : BitVec 32 := 16#32
  let v418 : BitVec 32 := Scalar.muli v417 c16_i32_137
  let v419 : BitVec 32 := v418
  ![v420.toNat, v419.toNat]
def k0_mult16 (v428 : BitVec 32) : BitVec 32 :=
  let c0_i32_140 : BitVec 32 := 0#32
  let v430 : BitVec 1 := Scalar.cmpi .sgt v428 c0_i32_140
  let v431 : BitVec 32 := Scalar.extui v430
  let c0_i32_141 : BitVec 32 := 0#32
  let v432 : BitVec 1 := Scalar.cmpi .slt v428 c0_i32_141
  let v433 : BitVec 32 := Scalar.extui v432
  let v434 : BitVec 32 := Scalar.subi v431 v433
  let c16_i32_139 : BitVec 32 := 16#32
  let c0_i32_142 : BitVec 32 := 0#32
  let v435 : BitVec 1 := Scalar.cmpi .sgt c16_i32_139 c0_i32_142
  let v436 : BitVec 32 := Scalar.extui v435
  let c0_i32_143 : BitVec 32 := 0#32
  let v437 : BitVec 1 := Scalar.cmpi .slt c16_i32_139 c0_i32_143
  let v438 : BitVec 32 := Scalar.extui v437
  let v439 : BitVec 32 := Scalar.subi v436 v438
  let v440 : BitVec 1 := Scalar.cmpi .ne v434 v439
  let v441 : BitVec 32 := Scalar.remsi v428 c16_i32_139
  let c0_i32_144 : BitVec 32 := 0#32
  let v442 : BitVec 1 := Scalar.cmpi .ne v441 c0_i32_144
  let v443 : BitVec 1 := Scalar.andi v440 v442
  let v429 : BitVec 32 := Scalar.divsi v428 c16_i32_139
  let c1_i32_145 : BitVec 32 := 1#32
  let v444 : BitVec 32 := Scalar.subi v429 c1_i32_145
  let v445 : BitVec 32 := Scalar.select v443 v444 v429
  let c16_i32_146 : BitVec 32 := 16#32
  let v446 : BitVec 32 := Scalar.muli v445 c16_i32_146
  v446

def k0_off17 (i : grid0.Coords) (v428 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v448 : BitVec 32 := Scalar.addi v2 c15_i32
  let c0_i32_140 : BitVec 32 := 0#32
  let v430 : BitVec 1 := Scalar.cmpi .sgt v428 c0_i32_140
  let v431 : BitVec 32 := Scalar.extui v430
  let c0_i32_141 : BitVec 32 := 0#32
  let v432 : BitVec 1 := Scalar.cmpi .slt v428 c0_i32_141
  let v433 : BitVec 32 := Scalar.extui v432
  let v434 : BitVec 32 := Scalar.subi v431 v433
  let c16_i32_139 : BitVec 32 := 16#32
  let c0_i32_142 : BitVec 32 := 0#32
  let v435 : BitVec 1 := Scalar.cmpi .sgt c16_i32_139 c0_i32_142
  let v436 : BitVec 32 := Scalar.extui v435
  let c0_i32_143 : BitVec 32 := 0#32
  let v437 : BitVec 1 := Scalar.cmpi .slt c16_i32_139 c0_i32_143
  let v438 : BitVec 32 := Scalar.extui v437
  let v439 : BitVec 32 := Scalar.subi v436 v438
  let v440 : BitVec 1 := Scalar.cmpi .ne v434 v439
  let v441 : BitVec 32 := Scalar.remsi v428 c16_i32_139
  let c0_i32_144 : BitVec 32 := 0#32
  let v442 : BitVec 1 := Scalar.cmpi .ne v441 c0_i32_144
  let v443 : BitVec 1 := Scalar.andi v440 v442
  let v429 : BitVec 32 := Scalar.divsi v428 c16_i32_139
  let c1_i32_145 : BitVec 32 := 1#32
  let v444 : BitVec 32 := Scalar.subi v429 c1_i32_145
  let v445 : BitVec 32 := Scalar.select v443 v444 v429
  let c16_i32_146 : BitVec 32 := 16#32
  let v446 : BitVec 32 := Scalar.muli v445 c16_i32_146
  let v447 : BitVec 32 := v446
  ![v448.toNat, v447.toNat]
def k0_mult17 (v460 : BitVec 32) : BitVec 32 :=
  let c0_i32_150 : BitVec 32 := 0#32
  let v462 : BitVec 1 := Scalar.cmpi .sgt v460 c0_i32_150
  let v463 : BitVec 32 := Scalar.extui v462
  let c0_i32_151 : BitVec 32 := 0#32
  let v464 : BitVec 1 := Scalar.cmpi .slt v460 c0_i32_151
  let v465 : BitVec 32 := Scalar.extui v464
  let v466 : BitVec 32 := Scalar.subi v463 v465
  let c16_i32_149 : BitVec 32 := 16#32
  let c0_i32_152 : BitVec 32 := 0#32
  let v467 : BitVec 1 := Scalar.cmpi .sgt c16_i32_149 c0_i32_152
  let v468 : BitVec 32 := Scalar.extui v467
  let c0_i32_153 : BitVec 32 := 0#32
  let v469 : BitVec 1 := Scalar.cmpi .slt c16_i32_149 c0_i32_153
  let v470 : BitVec 32 := Scalar.extui v469
  let v471 : BitVec 32 := Scalar.subi v468 v470
  let v472 : BitVec 1 := Scalar.cmpi .ne v466 v471
  let v473 : BitVec 32 := Scalar.remsi v460 c16_i32_149
  let c0_i32_154 : BitVec 32 := 0#32
  let v474 : BitVec 1 := Scalar.cmpi .ne v473 c0_i32_154
  let v475 : BitVec 1 := Scalar.andi v472 v474
  let v461 : BitVec 32 := Scalar.divsi v460 c16_i32_149
  let c1_i32_155 : BitVec 32 := 1#32
  let v476 : BitVec 32 := Scalar.subi v461 c1_i32_155
  let v477 : BitVec 32 := Scalar.select v475 v476 v461
  let c16_i32_156 : BitVec 32 := 16#32
  let v478 : BitVec 32 := Scalar.muli v477 c16_i32_156
  v478

def k0_off18 (i : grid0.Coords) (v460 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_157 : BitVec 32 := 16#32
  let v480 : BitVec 32 := Scalar.addi v2 c16_i32_157
  let c0_i32_150 : BitVec 32 := 0#32
  let v462 : BitVec 1 := Scalar.cmpi .sgt v460 c0_i32_150
  let v463 : BitVec 32 := Scalar.extui v462
  let c0_i32_151 : BitVec 32 := 0#32
  let v464 : BitVec 1 := Scalar.cmpi .slt v460 c0_i32_151
  let v465 : BitVec 32 := Scalar.extui v464
  let v466 : BitVec 32 := Scalar.subi v463 v465
  let c16_i32_149 : BitVec 32 := 16#32
  let c0_i32_152 : BitVec 32 := 0#32
  let v467 : BitVec 1 := Scalar.cmpi .sgt c16_i32_149 c0_i32_152
  let v468 : BitVec 32 := Scalar.extui v467
  let c0_i32_153 : BitVec 32 := 0#32
  let v469 : BitVec 1 := Scalar.cmpi .slt c16_i32_149 c0_i32_153
  let v470 : BitVec 32 := Scalar.extui v469
  let v471 : BitVec 32 := Scalar.subi v468 v470
  let v472 : BitVec 1 := Scalar.cmpi .ne v466 v471
  let v473 : BitVec 32 := Scalar.remsi v460 c16_i32_149
  let c0_i32_154 : BitVec 32 := 0#32
  let v474 : BitVec 1 := Scalar.cmpi .ne v473 c0_i32_154
  let v475 : BitVec 1 := Scalar.andi v472 v474
  let v461 : BitVec 32 := Scalar.divsi v460 c16_i32_149
  let c1_i32_155 : BitVec 32 := 1#32
  let v476 : BitVec 32 := Scalar.subi v461 c1_i32_155
  let v477 : BitVec 32 := Scalar.select v475 v476 v461
  let c16_i32_156 : BitVec 32 := 16#32
  let v478 : BitVec 32 := Scalar.muli v477 c16_i32_156
  let v479 : BitVec 32 := v478
  ![v480.toNat, v479.toNat]
def k0_mult18 (v488 : BitVec 32) : BitVec 32 :=
  let c0_i32_160 : BitVec 32 := 0#32
  let v490 : BitVec 1 := Scalar.cmpi .sgt v488 c0_i32_160
  let v491 : BitVec 32 := Scalar.extui v490
  let c0_i32_161 : BitVec 32 := 0#32
  let v492 : BitVec 1 := Scalar.cmpi .slt v488 c0_i32_161
  let v493 : BitVec 32 := Scalar.extui v492
  let v494 : BitVec 32 := Scalar.subi v491 v493
  let c16_i32_159 : BitVec 32 := 16#32
  let c0_i32_162 : BitVec 32 := 0#32
  let v495 : BitVec 1 := Scalar.cmpi .sgt c16_i32_159 c0_i32_162
  let v496 : BitVec 32 := Scalar.extui v495
  let c0_i32_163 : BitVec 32 := 0#32
  let v497 : BitVec 1 := Scalar.cmpi .slt c16_i32_159 c0_i32_163
  let v498 : BitVec 32 := Scalar.extui v497
  let v499 : BitVec 32 := Scalar.subi v496 v498
  let v500 : BitVec 1 := Scalar.cmpi .ne v494 v499
  let v501 : BitVec 32 := Scalar.remsi v488 c16_i32_159
  let c0_i32_164 : BitVec 32 := 0#32
  let v502 : BitVec 1 := Scalar.cmpi .ne v501 c0_i32_164
  let v503 : BitVec 1 := Scalar.andi v500 v502
  let v489 : BitVec 32 := Scalar.divsi v488 c16_i32_159
  let c1_i32_165 : BitVec 32 := 1#32
  let v504 : BitVec 32 := Scalar.subi v489 c1_i32_165
  let v505 : BitVec 32 := Scalar.select v503 v504 v489
  let c16_i32_166 : BitVec 32 := 16#32
  let v506 : BitVec 32 := Scalar.muli v505 c16_i32_166
  v506

def k0_off19 (i : grid0.Coords) (v488 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v508 : BitVec 32 := Scalar.addi v2 c17_i32
  let c0_i32_160 : BitVec 32 := 0#32
  let v490 : BitVec 1 := Scalar.cmpi .sgt v488 c0_i32_160
  let v491 : BitVec 32 := Scalar.extui v490
  let c0_i32_161 : BitVec 32 := 0#32
  let v492 : BitVec 1 := Scalar.cmpi .slt v488 c0_i32_161
  let v493 : BitVec 32 := Scalar.extui v492
  let v494 : BitVec 32 := Scalar.subi v491 v493
  let c16_i32_159 : BitVec 32 := 16#32
  let c0_i32_162 : BitVec 32 := 0#32
  let v495 : BitVec 1 := Scalar.cmpi .sgt c16_i32_159 c0_i32_162
  let v496 : BitVec 32 := Scalar.extui v495
  let c0_i32_163 : BitVec 32 := 0#32
  let v497 : BitVec 1 := Scalar.cmpi .slt c16_i32_159 c0_i32_163
  let v498 : BitVec 32 := Scalar.extui v497
  let v499 : BitVec 32 := Scalar.subi v496 v498
  let v500 : BitVec 1 := Scalar.cmpi .ne v494 v499
  let v501 : BitVec 32 := Scalar.remsi v488 c16_i32_159
  let c0_i32_164 : BitVec 32 := 0#32
  let v502 : BitVec 1 := Scalar.cmpi .ne v501 c0_i32_164
  let v503 : BitVec 1 := Scalar.andi v500 v502
  let v489 : BitVec 32 := Scalar.divsi v488 c16_i32_159
  let c1_i32_165 : BitVec 32 := 1#32
  let v504 : BitVec 32 := Scalar.subi v489 c1_i32_165
  let v505 : BitVec 32 := Scalar.select v503 v504 v489
  let c16_i32_166 : BitVec 32 := 16#32
  let v506 : BitVec 32 := Scalar.muli v505 c16_i32_166
  let v507 : BitVec 32 := v506
  ![v508.toNat, v507.toNat]
def k0_mult19 (v516 : BitVec 32) : BitVec 32 :=
  let c0_i32_169 : BitVec 32 := 0#32
  let v518 : BitVec 1 := Scalar.cmpi .sgt v516 c0_i32_169
  let v519 : BitVec 32 := Scalar.extui v518
  let c0_i32_170 : BitVec 32 := 0#32
  let v520 : BitVec 1 := Scalar.cmpi .slt v516 c0_i32_170
  let v521 : BitVec 32 := Scalar.extui v520
  let v522 : BitVec 32 := Scalar.subi v519 v521
  let c16_i32_168 : BitVec 32 := 16#32
  let c0_i32_171 : BitVec 32 := 0#32
  let v523 : BitVec 1 := Scalar.cmpi .sgt c16_i32_168 c0_i32_171
  let v524 : BitVec 32 := Scalar.extui v523
  let c0_i32_172 : BitVec 32 := 0#32
  let v525 : BitVec 1 := Scalar.cmpi .slt c16_i32_168 c0_i32_172
  let v526 : BitVec 32 := Scalar.extui v525
  let v527 : BitVec 32 := Scalar.subi v524 v526
  let v528 : BitVec 1 := Scalar.cmpi .ne v522 v527
  let v529 : BitVec 32 := Scalar.remsi v516 c16_i32_168
  let c0_i32_173 : BitVec 32 := 0#32
  let v530 : BitVec 1 := Scalar.cmpi .ne v529 c0_i32_173
  let v531 : BitVec 1 := Scalar.andi v528 v530
  let v517 : BitVec 32 := Scalar.divsi v516 c16_i32_168
  let c1_i32_174 : BitVec 32 := 1#32
  let v532 : BitVec 32 := Scalar.subi v517 c1_i32_174
  let v533 : BitVec 32 := Scalar.select v531 v532 v517
  let c16_i32_175 : BitVec 32 := 16#32
  let v534 : BitVec 32 := Scalar.muli v533 c16_i32_175
  v534

def k0_off20 (i : grid0.Coords) (v516 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v536 : BitVec 32 := Scalar.addi v2 c18_i32
  let c0_i32_169 : BitVec 32 := 0#32
  let v518 : BitVec 1 := Scalar.cmpi .sgt v516 c0_i32_169
  let v519 : BitVec 32 := Scalar.extui v518
  let c0_i32_170 : BitVec 32 := 0#32
  let v520 : BitVec 1 := Scalar.cmpi .slt v516 c0_i32_170
  let v521 : BitVec 32 := Scalar.extui v520
  let v522 : BitVec 32 := Scalar.subi v519 v521
  let c16_i32_168 : BitVec 32 := 16#32
  let c0_i32_171 : BitVec 32 := 0#32
  let v523 : BitVec 1 := Scalar.cmpi .sgt c16_i32_168 c0_i32_171
  let v524 : BitVec 32 := Scalar.extui v523
  let c0_i32_172 : BitVec 32 := 0#32
  let v525 : BitVec 1 := Scalar.cmpi .slt c16_i32_168 c0_i32_172
  let v526 : BitVec 32 := Scalar.extui v525
  let v527 : BitVec 32 := Scalar.subi v524 v526
  let v528 : BitVec 1 := Scalar.cmpi .ne v522 v527
  let v529 : BitVec 32 := Scalar.remsi v516 c16_i32_168
  let c0_i32_173 : BitVec 32 := 0#32
  let v530 : BitVec 1 := Scalar.cmpi .ne v529 c0_i32_173
  let v531 : BitVec 1 := Scalar.andi v528 v530
  let v517 : BitVec 32 := Scalar.divsi v516 c16_i32_168
  let c1_i32_174 : BitVec 32 := 1#32
  let v532 : BitVec 32 := Scalar.subi v517 c1_i32_174
  let v533 : BitVec 32 := Scalar.select v531 v532 v517
  let c16_i32_175 : BitVec 32 := 16#32
  let v534 : BitVec 32 := Scalar.muli v533 c16_i32_175
  let v535 : BitVec 32 := v534
  ![v536.toNat, v535.toNat]
def k0_mult20 (v544 : BitVec 32) : BitVec 32 :=
  let c0_i32_178 : BitVec 32 := 0#32
  let v546 : BitVec 1 := Scalar.cmpi .sgt v544 c0_i32_178
  let v547 : BitVec 32 := Scalar.extui v546
  let c0_i32_179 : BitVec 32 := 0#32
  let v548 : BitVec 1 := Scalar.cmpi .slt v544 c0_i32_179
  let v549 : BitVec 32 := Scalar.extui v548
  let v550 : BitVec 32 := Scalar.subi v547 v549
  let c16_i32_177 : BitVec 32 := 16#32
  let c0_i32_180 : BitVec 32 := 0#32
  let v551 : BitVec 1 := Scalar.cmpi .sgt c16_i32_177 c0_i32_180
  let v552 : BitVec 32 := Scalar.extui v551
  let c0_i32_181 : BitVec 32 := 0#32
  let v553 : BitVec 1 := Scalar.cmpi .slt c16_i32_177 c0_i32_181
  let v554 : BitVec 32 := Scalar.extui v553
  let v555 : BitVec 32 := Scalar.subi v552 v554
  let v556 : BitVec 1 := Scalar.cmpi .ne v550 v555
  let v557 : BitVec 32 := Scalar.remsi v544 c16_i32_177
  let c0_i32_182 : BitVec 32 := 0#32
  let v558 : BitVec 1 := Scalar.cmpi .ne v557 c0_i32_182
  let v559 : BitVec 1 := Scalar.andi v556 v558
  let v545 : BitVec 32 := Scalar.divsi v544 c16_i32_177
  let c1_i32_183 : BitVec 32 := 1#32
  let v560 : BitVec 32 := Scalar.subi v545 c1_i32_183
  let v561 : BitVec 32 := Scalar.select v559 v560 v545
  let c16_i32_184 : BitVec 32 := 16#32
  let v562 : BitVec 32 := Scalar.muli v561 c16_i32_184
  v562

def k0_off21 (i : grid0.Coords) (v544 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v564 : BitVec 32 := Scalar.addi v2 c19_i32
  let c0_i32_178 : BitVec 32 := 0#32
  let v546 : BitVec 1 := Scalar.cmpi .sgt v544 c0_i32_178
  let v547 : BitVec 32 := Scalar.extui v546
  let c0_i32_179 : BitVec 32 := 0#32
  let v548 : BitVec 1 := Scalar.cmpi .slt v544 c0_i32_179
  let v549 : BitVec 32 := Scalar.extui v548
  let v550 : BitVec 32 := Scalar.subi v547 v549
  let c16_i32_177 : BitVec 32 := 16#32
  let c0_i32_180 : BitVec 32 := 0#32
  let v551 : BitVec 1 := Scalar.cmpi .sgt c16_i32_177 c0_i32_180
  let v552 : BitVec 32 := Scalar.extui v551
  let c0_i32_181 : BitVec 32 := 0#32
  let v553 : BitVec 1 := Scalar.cmpi .slt c16_i32_177 c0_i32_181
  let v554 : BitVec 32 := Scalar.extui v553
  let v555 : BitVec 32 := Scalar.subi v552 v554
  let v556 : BitVec 1 := Scalar.cmpi .ne v550 v555
  let v557 : BitVec 32 := Scalar.remsi v544 c16_i32_177
  let c0_i32_182 : BitVec 32 := 0#32
  let v558 : BitVec 1 := Scalar.cmpi .ne v557 c0_i32_182
  let v559 : BitVec 1 := Scalar.andi v556 v558
  let v545 : BitVec 32 := Scalar.divsi v544 c16_i32_177
  let c1_i32_183 : BitVec 32 := 1#32
  let v560 : BitVec 32 := Scalar.subi v545 c1_i32_183
  let v561 : BitVec 32 := Scalar.select v559 v560 v545
  let c16_i32_184 : BitVec 32 := 16#32
  let v562 : BitVec 32 := Scalar.muli v561 c16_i32_184
  let v563 : BitVec 32 := v562
  ![v564.toNat, v563.toNat]
def k0_mult21 (v572 : BitVec 32) : BitVec 32 :=
  let c0_i32_187 : BitVec 32 := 0#32
  let v574 : BitVec 1 := Scalar.cmpi .sgt v572 c0_i32_187
  let v575 : BitVec 32 := Scalar.extui v574
  let c0_i32_188 : BitVec 32 := 0#32
  let v576 : BitVec 1 := Scalar.cmpi .slt v572 c0_i32_188
  let v577 : BitVec 32 := Scalar.extui v576
  let v578 : BitVec 32 := Scalar.subi v575 v577
  let c16_i32_186 : BitVec 32 := 16#32
  let c0_i32_189 : BitVec 32 := 0#32
  let v579 : BitVec 1 := Scalar.cmpi .sgt c16_i32_186 c0_i32_189
  let v580 : BitVec 32 := Scalar.extui v579
  let c0_i32_190 : BitVec 32 := 0#32
  let v581 : BitVec 1 := Scalar.cmpi .slt c16_i32_186 c0_i32_190
  let v582 : BitVec 32 := Scalar.extui v581
  let v583 : BitVec 32 := Scalar.subi v580 v582
  let v584 : BitVec 1 := Scalar.cmpi .ne v578 v583
  let v585 : BitVec 32 := Scalar.remsi v572 c16_i32_186
  let c0_i32_191 : BitVec 32 := 0#32
  let v586 : BitVec 1 := Scalar.cmpi .ne v585 c0_i32_191
  let v587 : BitVec 1 := Scalar.andi v584 v586
  let v573 : BitVec 32 := Scalar.divsi v572 c16_i32_186
  let c1_i32_192 : BitVec 32 := 1#32
  let v588 : BitVec 32 := Scalar.subi v573 c1_i32_192
  let v589 : BitVec 32 := Scalar.select v587 v588 v573
  let c16_i32_193 : BitVec 32 := 16#32
  let v590 : BitVec 32 := Scalar.muli v589 c16_i32_193
  v590

def k0_off22 (i : grid0.Coords) (v572 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v592 : BitVec 32 := Scalar.addi v2 c20_i32
  let c0_i32_187 : BitVec 32 := 0#32
  let v574 : BitVec 1 := Scalar.cmpi .sgt v572 c0_i32_187
  let v575 : BitVec 32 := Scalar.extui v574
  let c0_i32_188 : BitVec 32 := 0#32
  let v576 : BitVec 1 := Scalar.cmpi .slt v572 c0_i32_188
  let v577 : BitVec 32 := Scalar.extui v576
  let v578 : BitVec 32 := Scalar.subi v575 v577
  let c16_i32_186 : BitVec 32 := 16#32
  let c0_i32_189 : BitVec 32 := 0#32
  let v579 : BitVec 1 := Scalar.cmpi .sgt c16_i32_186 c0_i32_189
  let v580 : BitVec 32 := Scalar.extui v579
  let c0_i32_190 : BitVec 32 := 0#32
  let v581 : BitVec 1 := Scalar.cmpi .slt c16_i32_186 c0_i32_190
  let v582 : BitVec 32 := Scalar.extui v581
  let v583 : BitVec 32 := Scalar.subi v580 v582
  let v584 : BitVec 1 := Scalar.cmpi .ne v578 v583
  let v585 : BitVec 32 := Scalar.remsi v572 c16_i32_186
  let c0_i32_191 : BitVec 32 := 0#32
  let v586 : BitVec 1 := Scalar.cmpi .ne v585 c0_i32_191
  let v587 : BitVec 1 := Scalar.andi v584 v586
  let v573 : BitVec 32 := Scalar.divsi v572 c16_i32_186
  let c1_i32_192 : BitVec 32 := 1#32
  let v588 : BitVec 32 := Scalar.subi v573 c1_i32_192
  let v589 : BitVec 32 := Scalar.select v587 v588 v573
  let c16_i32_193 : BitVec 32 := 16#32
  let v590 : BitVec 32 := Scalar.muli v589 c16_i32_193
  let v591 : BitVec 32 := v590
  ![v592.toNat, v591.toNat]
def k0_mult22 (v600 : BitVec 32) : BitVec 32 :=
  let c0_i32_196 : BitVec 32 := 0#32
  let v602 : BitVec 1 := Scalar.cmpi .sgt v600 c0_i32_196
  let v603 : BitVec 32 := Scalar.extui v602
  let c0_i32_197 : BitVec 32 := 0#32
  let v604 : BitVec 1 := Scalar.cmpi .slt v600 c0_i32_197
  let v605 : BitVec 32 := Scalar.extui v604
  let v606 : BitVec 32 := Scalar.subi v603 v605
  let c16_i32_195 : BitVec 32 := 16#32
  let c0_i32_198 : BitVec 32 := 0#32
  let v607 : BitVec 1 := Scalar.cmpi .sgt c16_i32_195 c0_i32_198
  let v608 : BitVec 32 := Scalar.extui v607
  let c0_i32_199 : BitVec 32 := 0#32
  let v609 : BitVec 1 := Scalar.cmpi .slt c16_i32_195 c0_i32_199
  let v610 : BitVec 32 := Scalar.extui v609
  let v611 : BitVec 32 := Scalar.subi v608 v610
  let v612 : BitVec 1 := Scalar.cmpi .ne v606 v611
  let v613 : BitVec 32 := Scalar.remsi v600 c16_i32_195
  let c0_i32_200 : BitVec 32 := 0#32
  let v614 : BitVec 1 := Scalar.cmpi .ne v613 c0_i32_200
  let v615 : BitVec 1 := Scalar.andi v612 v614
  let v601 : BitVec 32 := Scalar.divsi v600 c16_i32_195
  let c1_i32_201 : BitVec 32 := 1#32
  let v616 : BitVec 32 := Scalar.subi v601 c1_i32_201
  let v617 : BitVec 32 := Scalar.select v615 v616 v601
  let c16_i32_202 : BitVec 32 := 16#32
  let v618 : BitVec 32 := Scalar.muli v617 c16_i32_202
  v618

def k0_off23 (i : grid0.Coords) (v600 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v620 : BitVec 32 := Scalar.addi v2 c21_i32
  let c0_i32_196 : BitVec 32 := 0#32
  let v602 : BitVec 1 := Scalar.cmpi .sgt v600 c0_i32_196
  let v603 : BitVec 32 := Scalar.extui v602
  let c0_i32_197 : BitVec 32 := 0#32
  let v604 : BitVec 1 := Scalar.cmpi .slt v600 c0_i32_197
  let v605 : BitVec 32 := Scalar.extui v604
  let v606 : BitVec 32 := Scalar.subi v603 v605
  let c16_i32_195 : BitVec 32 := 16#32
  let c0_i32_198 : BitVec 32 := 0#32
  let v607 : BitVec 1 := Scalar.cmpi .sgt c16_i32_195 c0_i32_198
  let v608 : BitVec 32 := Scalar.extui v607
  let c0_i32_199 : BitVec 32 := 0#32
  let v609 : BitVec 1 := Scalar.cmpi .slt c16_i32_195 c0_i32_199
  let v610 : BitVec 32 := Scalar.extui v609
  let v611 : BitVec 32 := Scalar.subi v608 v610
  let v612 : BitVec 1 := Scalar.cmpi .ne v606 v611
  let v613 : BitVec 32 := Scalar.remsi v600 c16_i32_195
  let c0_i32_200 : BitVec 32 := 0#32
  let v614 : BitVec 1 := Scalar.cmpi .ne v613 c0_i32_200
  let v615 : BitVec 1 := Scalar.andi v612 v614
  let v601 : BitVec 32 := Scalar.divsi v600 c16_i32_195
  let c1_i32_201 : BitVec 32 := 1#32
  let v616 : BitVec 32 := Scalar.subi v601 c1_i32_201
  let v617 : BitVec 32 := Scalar.select v615 v616 v601
  let c16_i32_202 : BitVec 32 := 16#32
  let v618 : BitVec 32 := Scalar.muli v617 c16_i32_202
  let v619 : BitVec 32 := v618
  ![v620.toNat, v619.toNat]
def k0_mult23 (v628 : BitVec 32) : BitVec 32 :=
  let c0_i32_205 : BitVec 32 := 0#32
  let v630 : BitVec 1 := Scalar.cmpi .sgt v628 c0_i32_205
  let v631 : BitVec 32 := Scalar.extui v630
  let c0_i32_206 : BitVec 32 := 0#32
  let v632 : BitVec 1 := Scalar.cmpi .slt v628 c0_i32_206
  let v633 : BitVec 32 := Scalar.extui v632
  let v634 : BitVec 32 := Scalar.subi v631 v633
  let c16_i32_204 : BitVec 32 := 16#32
  let c0_i32_207 : BitVec 32 := 0#32
  let v635 : BitVec 1 := Scalar.cmpi .sgt c16_i32_204 c0_i32_207
  let v636 : BitVec 32 := Scalar.extui v635
  let c0_i32_208 : BitVec 32 := 0#32
  let v637 : BitVec 1 := Scalar.cmpi .slt c16_i32_204 c0_i32_208
  let v638 : BitVec 32 := Scalar.extui v637
  let v639 : BitVec 32 := Scalar.subi v636 v638
  let v640 : BitVec 1 := Scalar.cmpi .ne v634 v639
  let v641 : BitVec 32 := Scalar.remsi v628 c16_i32_204
  let c0_i32_209 : BitVec 32 := 0#32
  let v642 : BitVec 1 := Scalar.cmpi .ne v641 c0_i32_209
  let v643 : BitVec 1 := Scalar.andi v640 v642
  let v629 : BitVec 32 := Scalar.divsi v628 c16_i32_204
  let c1_i32_210 : BitVec 32 := 1#32
  let v644 : BitVec 32 := Scalar.subi v629 c1_i32_210
  let v645 : BitVec 32 := Scalar.select v643 v644 v629
  let c16_i32_211 : BitVec 32 := 16#32
  let v646 : BitVec 32 := Scalar.muli v645 c16_i32_211
  v646

def k0_off24 (i : grid0.Coords) (v628 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v648 : BitVec 32 := Scalar.addi v2 c22_i32
  let c0_i32_205 : BitVec 32 := 0#32
  let v630 : BitVec 1 := Scalar.cmpi .sgt v628 c0_i32_205
  let v631 : BitVec 32 := Scalar.extui v630
  let c0_i32_206 : BitVec 32 := 0#32
  let v632 : BitVec 1 := Scalar.cmpi .slt v628 c0_i32_206
  let v633 : BitVec 32 := Scalar.extui v632
  let v634 : BitVec 32 := Scalar.subi v631 v633
  let c16_i32_204 : BitVec 32 := 16#32
  let c0_i32_207 : BitVec 32 := 0#32
  let v635 : BitVec 1 := Scalar.cmpi .sgt c16_i32_204 c0_i32_207
  let v636 : BitVec 32 := Scalar.extui v635
  let c0_i32_208 : BitVec 32 := 0#32
  let v637 : BitVec 1 := Scalar.cmpi .slt c16_i32_204 c0_i32_208
  let v638 : BitVec 32 := Scalar.extui v637
  let v639 : BitVec 32 := Scalar.subi v636 v638
  let v640 : BitVec 1 := Scalar.cmpi .ne v634 v639
  let v641 : BitVec 32 := Scalar.remsi v628 c16_i32_204
  let c0_i32_209 : BitVec 32 := 0#32
  let v642 : BitVec 1 := Scalar.cmpi .ne v641 c0_i32_209
  let v643 : BitVec 1 := Scalar.andi v640 v642
  let v629 : BitVec 32 := Scalar.divsi v628 c16_i32_204
  let c1_i32_210 : BitVec 32 := 1#32
  let v644 : BitVec 32 := Scalar.subi v629 c1_i32_210
  let v645 : BitVec 32 := Scalar.select v643 v644 v629
  let c16_i32_211 : BitVec 32 := 16#32
  let v646 : BitVec 32 := Scalar.muli v645 c16_i32_211
  let v647 : BitVec 32 := v646
  ![v648.toNat, v647.toNat]
def k0_mult24 (v656 : BitVec 32) : BitVec 32 :=
  let c0_i32_214 : BitVec 32 := 0#32
  let v658 : BitVec 1 := Scalar.cmpi .sgt v656 c0_i32_214
  let v659 : BitVec 32 := Scalar.extui v658
  let c0_i32_215 : BitVec 32 := 0#32
  let v660 : BitVec 1 := Scalar.cmpi .slt v656 c0_i32_215
  let v661 : BitVec 32 := Scalar.extui v660
  let v662 : BitVec 32 := Scalar.subi v659 v661
  let c16_i32_213 : BitVec 32 := 16#32
  let c0_i32_216 : BitVec 32 := 0#32
  let v663 : BitVec 1 := Scalar.cmpi .sgt c16_i32_213 c0_i32_216
  let v664 : BitVec 32 := Scalar.extui v663
  let c0_i32_217 : BitVec 32 := 0#32
  let v665 : BitVec 1 := Scalar.cmpi .slt c16_i32_213 c0_i32_217
  let v666 : BitVec 32 := Scalar.extui v665
  let v667 : BitVec 32 := Scalar.subi v664 v666
  let v668 : BitVec 1 := Scalar.cmpi .ne v662 v667
  let v669 : BitVec 32 := Scalar.remsi v656 c16_i32_213
  let c0_i32_218 : BitVec 32 := 0#32
  let v670 : BitVec 1 := Scalar.cmpi .ne v669 c0_i32_218
  let v671 : BitVec 1 := Scalar.andi v668 v670
  let v657 : BitVec 32 := Scalar.divsi v656 c16_i32_213
  let c1_i32_219 : BitVec 32 := 1#32
  let v672 : BitVec 32 := Scalar.subi v657 c1_i32_219
  let v673 : BitVec 32 := Scalar.select v671 v672 v657
  let c16_i32_220 : BitVec 32 := 16#32
  let v674 : BitVec 32 := Scalar.muli v673 c16_i32_220
  v674

def k0_off25 (i : grid0.Coords) (v656 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v676 : BitVec 32 := Scalar.addi v2 c23_i32
  let c0_i32_214 : BitVec 32 := 0#32
  let v658 : BitVec 1 := Scalar.cmpi .sgt v656 c0_i32_214
  let v659 : BitVec 32 := Scalar.extui v658
  let c0_i32_215 : BitVec 32 := 0#32
  let v660 : BitVec 1 := Scalar.cmpi .slt v656 c0_i32_215
  let v661 : BitVec 32 := Scalar.extui v660
  let v662 : BitVec 32 := Scalar.subi v659 v661
  let c16_i32_213 : BitVec 32 := 16#32
  let c0_i32_216 : BitVec 32 := 0#32
  let v663 : BitVec 1 := Scalar.cmpi .sgt c16_i32_213 c0_i32_216
  let v664 : BitVec 32 := Scalar.extui v663
  let c0_i32_217 : BitVec 32 := 0#32
  let v665 : BitVec 1 := Scalar.cmpi .slt c16_i32_213 c0_i32_217
  let v666 : BitVec 32 := Scalar.extui v665
  let v667 : BitVec 32 := Scalar.subi v664 v666
  let v668 : BitVec 1 := Scalar.cmpi .ne v662 v667
  let v669 : BitVec 32 := Scalar.remsi v656 c16_i32_213
  let c0_i32_218 : BitVec 32 := 0#32
  let v670 : BitVec 1 := Scalar.cmpi .ne v669 c0_i32_218
  let v671 : BitVec 1 := Scalar.andi v668 v670
  let v657 : BitVec 32 := Scalar.divsi v656 c16_i32_213
  let c1_i32_219 : BitVec 32 := 1#32
  let v672 : BitVec 32 := Scalar.subi v657 c1_i32_219
  let v673 : BitVec 32 := Scalar.select v671 v672 v657
  let c16_i32_220 : BitVec 32 := 16#32
  let v674 : BitVec 32 := Scalar.muli v673 c16_i32_220
  let v675 : BitVec 32 := v674
  ![v676.toNat, v675.toNat]
def k0_mult25 (v684 : BitVec 32) : BitVec 32 :=
  let c0_i32_223 : BitVec 32 := 0#32
  let v686 : BitVec 1 := Scalar.cmpi .sgt v684 c0_i32_223
  let v687 : BitVec 32 := Scalar.extui v686
  let c0_i32_224 : BitVec 32 := 0#32
  let v688 : BitVec 1 := Scalar.cmpi .slt v684 c0_i32_224
  let v689 : BitVec 32 := Scalar.extui v688
  let v690 : BitVec 32 := Scalar.subi v687 v689
  let c16_i32_222 : BitVec 32 := 16#32
  let c0_i32_225 : BitVec 32 := 0#32
  let v691 : BitVec 1 := Scalar.cmpi .sgt c16_i32_222 c0_i32_225
  let v692 : BitVec 32 := Scalar.extui v691
  let c0_i32_226 : BitVec 32 := 0#32
  let v693 : BitVec 1 := Scalar.cmpi .slt c16_i32_222 c0_i32_226
  let v694 : BitVec 32 := Scalar.extui v693
  let v695 : BitVec 32 := Scalar.subi v692 v694
  let v696 : BitVec 1 := Scalar.cmpi .ne v690 v695
  let v697 : BitVec 32 := Scalar.remsi v684 c16_i32_222
  let c0_i32_227 : BitVec 32 := 0#32
  let v698 : BitVec 1 := Scalar.cmpi .ne v697 c0_i32_227
  let v699 : BitVec 1 := Scalar.andi v696 v698
  let v685 : BitVec 32 := Scalar.divsi v684 c16_i32_222
  let c1_i32_228 : BitVec 32 := 1#32
  let v700 : BitVec 32 := Scalar.subi v685 c1_i32_228
  let v701 : BitVec 32 := Scalar.select v699 v700 v685
  let c16_i32_229 : BitVec 32 := 16#32
  let v702 : BitVec 32 := Scalar.muli v701 c16_i32_229
  v702

def k0_off26 (i : grid0.Coords) (v684 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v704 : BitVec 32 := Scalar.addi v2 c24_i32
  let c0_i32_223 : BitVec 32 := 0#32
  let v686 : BitVec 1 := Scalar.cmpi .sgt v684 c0_i32_223
  let v687 : BitVec 32 := Scalar.extui v686
  let c0_i32_224 : BitVec 32 := 0#32
  let v688 : BitVec 1 := Scalar.cmpi .slt v684 c0_i32_224
  let v689 : BitVec 32 := Scalar.extui v688
  let v690 : BitVec 32 := Scalar.subi v687 v689
  let c16_i32_222 : BitVec 32 := 16#32
  let c0_i32_225 : BitVec 32 := 0#32
  let v691 : BitVec 1 := Scalar.cmpi .sgt c16_i32_222 c0_i32_225
  let v692 : BitVec 32 := Scalar.extui v691
  let c0_i32_226 : BitVec 32 := 0#32
  let v693 : BitVec 1 := Scalar.cmpi .slt c16_i32_222 c0_i32_226
  let v694 : BitVec 32 := Scalar.extui v693
  let v695 : BitVec 32 := Scalar.subi v692 v694
  let v696 : BitVec 1 := Scalar.cmpi .ne v690 v695
  let v697 : BitVec 32 := Scalar.remsi v684 c16_i32_222
  let c0_i32_227 : BitVec 32 := 0#32
  let v698 : BitVec 1 := Scalar.cmpi .ne v697 c0_i32_227
  let v699 : BitVec 1 := Scalar.andi v696 v698
  let v685 : BitVec 32 := Scalar.divsi v684 c16_i32_222
  let c1_i32_228 : BitVec 32 := 1#32
  let v700 : BitVec 32 := Scalar.subi v685 c1_i32_228
  let v701 : BitVec 32 := Scalar.select v699 v700 v685
  let c16_i32_229 : BitVec 32 := 16#32
  let v702 : BitVec 32 := Scalar.muli v701 c16_i32_229
  let v703 : BitVec 32 := v702
  ![v704.toNat, v703.toNat]
def k0_mult26 (v712 : BitVec 32) : BitVec 32 :=
  let c0_i32_232 : BitVec 32 := 0#32
  let v714 : BitVec 1 := Scalar.cmpi .sgt v712 c0_i32_232
  let v715 : BitVec 32 := Scalar.extui v714
  let c0_i32_233 : BitVec 32 := 0#32
  let v716 : BitVec 1 := Scalar.cmpi .slt v712 c0_i32_233
  let v717 : BitVec 32 := Scalar.extui v716
  let v718 : BitVec 32 := Scalar.subi v715 v717
  let c16_i32_231 : BitVec 32 := 16#32
  let c0_i32_234 : BitVec 32 := 0#32
  let v719 : BitVec 1 := Scalar.cmpi .sgt c16_i32_231 c0_i32_234
  let v720 : BitVec 32 := Scalar.extui v719
  let c0_i32_235 : BitVec 32 := 0#32
  let v721 : BitVec 1 := Scalar.cmpi .slt c16_i32_231 c0_i32_235
  let v722 : BitVec 32 := Scalar.extui v721
  let v723 : BitVec 32 := Scalar.subi v720 v722
  let v724 : BitVec 1 := Scalar.cmpi .ne v718 v723
  let v725 : BitVec 32 := Scalar.remsi v712 c16_i32_231
  let c0_i32_236 : BitVec 32 := 0#32
  let v726 : BitVec 1 := Scalar.cmpi .ne v725 c0_i32_236
  let v727 : BitVec 1 := Scalar.andi v724 v726
  let v713 : BitVec 32 := Scalar.divsi v712 c16_i32_231
  let c1_i32_237 : BitVec 32 := 1#32
  let v728 : BitVec 32 := Scalar.subi v713 c1_i32_237
  let v729 : BitVec 32 := Scalar.select v727 v728 v713
  let c16_i32_238 : BitVec 32 := 16#32
  let v730 : BitVec 32 := Scalar.muli v729 c16_i32_238
  v730

def k0_off27 (i : grid0.Coords) (v712 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v732 : BitVec 32 := Scalar.addi v2 c25_i32
  let c0_i32_232 : BitVec 32 := 0#32
  let v714 : BitVec 1 := Scalar.cmpi .sgt v712 c0_i32_232
  let v715 : BitVec 32 := Scalar.extui v714
  let c0_i32_233 : BitVec 32 := 0#32
  let v716 : BitVec 1 := Scalar.cmpi .slt v712 c0_i32_233
  let v717 : BitVec 32 := Scalar.extui v716
  let v718 : BitVec 32 := Scalar.subi v715 v717
  let c16_i32_231 : BitVec 32 := 16#32
  let c0_i32_234 : BitVec 32 := 0#32
  let v719 : BitVec 1 := Scalar.cmpi .sgt c16_i32_231 c0_i32_234
  let v720 : BitVec 32 := Scalar.extui v719
  let c0_i32_235 : BitVec 32 := 0#32
  let v721 : BitVec 1 := Scalar.cmpi .slt c16_i32_231 c0_i32_235
  let v722 : BitVec 32 := Scalar.extui v721
  let v723 : BitVec 32 := Scalar.subi v720 v722
  let v724 : BitVec 1 := Scalar.cmpi .ne v718 v723
  let v725 : BitVec 32 := Scalar.remsi v712 c16_i32_231
  let c0_i32_236 : BitVec 32 := 0#32
  let v726 : BitVec 1 := Scalar.cmpi .ne v725 c0_i32_236
  let v727 : BitVec 1 := Scalar.andi v724 v726
  let v713 : BitVec 32 := Scalar.divsi v712 c16_i32_231
  let c1_i32_237 : BitVec 32 := 1#32
  let v728 : BitVec 32 := Scalar.subi v713 c1_i32_237
  let v729 : BitVec 32 := Scalar.select v727 v728 v713
  let c16_i32_238 : BitVec 32 := 16#32
  let v730 : BitVec 32 := Scalar.muli v729 c16_i32_238
  let v731 : BitVec 32 := v730
  ![v732.toNat, v731.toNat]
def k0_mult27 (v740 : BitVec 32) : BitVec 32 :=
  let c0_i32_241 : BitVec 32 := 0#32
  let v742 : BitVec 1 := Scalar.cmpi .sgt v740 c0_i32_241
  let v743 : BitVec 32 := Scalar.extui v742
  let c0_i32_242 : BitVec 32 := 0#32
  let v744 : BitVec 1 := Scalar.cmpi .slt v740 c0_i32_242
  let v745 : BitVec 32 := Scalar.extui v744
  let v746 : BitVec 32 := Scalar.subi v743 v745
  let c16_i32_240 : BitVec 32 := 16#32
  let c0_i32_243 : BitVec 32 := 0#32
  let v747 : BitVec 1 := Scalar.cmpi .sgt c16_i32_240 c0_i32_243
  let v748 : BitVec 32 := Scalar.extui v747
  let c0_i32_244 : BitVec 32 := 0#32
  let v749 : BitVec 1 := Scalar.cmpi .slt c16_i32_240 c0_i32_244
  let v750 : BitVec 32 := Scalar.extui v749
  let v751 : BitVec 32 := Scalar.subi v748 v750
  let v752 : BitVec 1 := Scalar.cmpi .ne v746 v751
  let v753 : BitVec 32 := Scalar.remsi v740 c16_i32_240
  let c0_i32_245 : BitVec 32 := 0#32
  let v754 : BitVec 1 := Scalar.cmpi .ne v753 c0_i32_245
  let v755 : BitVec 1 := Scalar.andi v752 v754
  let v741 : BitVec 32 := Scalar.divsi v740 c16_i32_240
  let c1_i32_246 : BitVec 32 := 1#32
  let v756 : BitVec 32 := Scalar.subi v741 c1_i32_246
  let v757 : BitVec 32 := Scalar.select v755 v756 v741
  let c16_i32_247 : BitVec 32 := 16#32
  let v758 : BitVec 32 := Scalar.muli v757 c16_i32_247
  v758

def k0_off28 (i : grid0.Coords) (v740 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v760 : BitVec 32 := Scalar.addi v2 c26_i32
  let c0_i32_241 : BitVec 32 := 0#32
  let v742 : BitVec 1 := Scalar.cmpi .sgt v740 c0_i32_241
  let v743 : BitVec 32 := Scalar.extui v742
  let c0_i32_242 : BitVec 32 := 0#32
  let v744 : BitVec 1 := Scalar.cmpi .slt v740 c0_i32_242
  let v745 : BitVec 32 := Scalar.extui v744
  let v746 : BitVec 32 := Scalar.subi v743 v745
  let c16_i32_240 : BitVec 32 := 16#32
  let c0_i32_243 : BitVec 32 := 0#32
  let v747 : BitVec 1 := Scalar.cmpi .sgt c16_i32_240 c0_i32_243
  let v748 : BitVec 32 := Scalar.extui v747
  let c0_i32_244 : BitVec 32 := 0#32
  let v749 : BitVec 1 := Scalar.cmpi .slt c16_i32_240 c0_i32_244
  let v750 : BitVec 32 := Scalar.extui v749
  let v751 : BitVec 32 := Scalar.subi v748 v750
  let v752 : BitVec 1 := Scalar.cmpi .ne v746 v751
  let v753 : BitVec 32 := Scalar.remsi v740 c16_i32_240
  let c0_i32_245 : BitVec 32 := 0#32
  let v754 : BitVec 1 := Scalar.cmpi .ne v753 c0_i32_245
  let v755 : BitVec 1 := Scalar.andi v752 v754
  let v741 : BitVec 32 := Scalar.divsi v740 c16_i32_240
  let c1_i32_246 : BitVec 32 := 1#32
  let v756 : BitVec 32 := Scalar.subi v741 c1_i32_246
  let v757 : BitVec 32 := Scalar.select v755 v756 v741
  let c16_i32_247 : BitVec 32 := 16#32
  let v758 : BitVec 32 := Scalar.muli v757 c16_i32_247
  let v759 : BitVec 32 := v758
  ![v760.toNat, v759.toNat]
def k0_mult28 (v768 : BitVec 32) : BitVec 32 :=
  let c0_i32_250 : BitVec 32 := 0#32
  let v770 : BitVec 1 := Scalar.cmpi .sgt v768 c0_i32_250
  let v771 : BitVec 32 := Scalar.extui v770
  let c0_i32_251 : BitVec 32 := 0#32
  let v772 : BitVec 1 := Scalar.cmpi .slt v768 c0_i32_251
  let v773 : BitVec 32 := Scalar.extui v772
  let v774 : BitVec 32 := Scalar.subi v771 v773
  let c16_i32_249 : BitVec 32 := 16#32
  let c0_i32_252 : BitVec 32 := 0#32
  let v775 : BitVec 1 := Scalar.cmpi .sgt c16_i32_249 c0_i32_252
  let v776 : BitVec 32 := Scalar.extui v775
  let c0_i32_253 : BitVec 32 := 0#32
  let v777 : BitVec 1 := Scalar.cmpi .slt c16_i32_249 c0_i32_253
  let v778 : BitVec 32 := Scalar.extui v777
  let v779 : BitVec 32 := Scalar.subi v776 v778
  let v780 : BitVec 1 := Scalar.cmpi .ne v774 v779
  let v781 : BitVec 32 := Scalar.remsi v768 c16_i32_249
  let c0_i32_254 : BitVec 32 := 0#32
  let v782 : BitVec 1 := Scalar.cmpi .ne v781 c0_i32_254
  let v783 : BitVec 1 := Scalar.andi v780 v782
  let v769 : BitVec 32 := Scalar.divsi v768 c16_i32_249
  let c1_i32_255 : BitVec 32 := 1#32
  let v784 : BitVec 32 := Scalar.subi v769 c1_i32_255
  let v785 : BitVec 32 := Scalar.select v783 v784 v769
  let c16_i32_256 : BitVec 32 := 16#32
  let v786 : BitVec 32 := Scalar.muli v785 c16_i32_256
  v786

def k0_off29 (i : grid0.Coords) (v768 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v788 : BitVec 32 := Scalar.addi v2 c27_i32
  let c0_i32_250 : BitVec 32 := 0#32
  let v770 : BitVec 1 := Scalar.cmpi .sgt v768 c0_i32_250
  let v771 : BitVec 32 := Scalar.extui v770
  let c0_i32_251 : BitVec 32 := 0#32
  let v772 : BitVec 1 := Scalar.cmpi .slt v768 c0_i32_251
  let v773 : BitVec 32 := Scalar.extui v772
  let v774 : BitVec 32 := Scalar.subi v771 v773
  let c16_i32_249 : BitVec 32 := 16#32
  let c0_i32_252 : BitVec 32 := 0#32
  let v775 : BitVec 1 := Scalar.cmpi .sgt c16_i32_249 c0_i32_252
  let v776 : BitVec 32 := Scalar.extui v775
  let c0_i32_253 : BitVec 32 := 0#32
  let v777 : BitVec 1 := Scalar.cmpi .slt c16_i32_249 c0_i32_253
  let v778 : BitVec 32 := Scalar.extui v777
  let v779 : BitVec 32 := Scalar.subi v776 v778
  let v780 : BitVec 1 := Scalar.cmpi .ne v774 v779
  let v781 : BitVec 32 := Scalar.remsi v768 c16_i32_249
  let c0_i32_254 : BitVec 32 := 0#32
  let v782 : BitVec 1 := Scalar.cmpi .ne v781 c0_i32_254
  let v783 : BitVec 1 := Scalar.andi v780 v782
  let v769 : BitVec 32 := Scalar.divsi v768 c16_i32_249
  let c1_i32_255 : BitVec 32 := 1#32
  let v784 : BitVec 32 := Scalar.subi v769 c1_i32_255
  let v785 : BitVec 32 := Scalar.select v783 v784 v769
  let c16_i32_256 : BitVec 32 := 16#32
  let v786 : BitVec 32 := Scalar.muli v785 c16_i32_256
  let v787 : BitVec 32 := v786
  ![v788.toNat, v787.toNat]
def k0_mult29 (v796 : BitVec 32) : BitVec 32 :=
  let c0_i32_259 : BitVec 32 := 0#32
  let v798 : BitVec 1 := Scalar.cmpi .sgt v796 c0_i32_259
  let v799 : BitVec 32 := Scalar.extui v798
  let c0_i32_260 : BitVec 32 := 0#32
  let v800 : BitVec 1 := Scalar.cmpi .slt v796 c0_i32_260
  let v801 : BitVec 32 := Scalar.extui v800
  let v802 : BitVec 32 := Scalar.subi v799 v801
  let c16_i32_258 : BitVec 32 := 16#32
  let c0_i32_261 : BitVec 32 := 0#32
  let v803 : BitVec 1 := Scalar.cmpi .sgt c16_i32_258 c0_i32_261
  let v804 : BitVec 32 := Scalar.extui v803
  let c0_i32_262 : BitVec 32 := 0#32
  let v805 : BitVec 1 := Scalar.cmpi .slt c16_i32_258 c0_i32_262
  let v806 : BitVec 32 := Scalar.extui v805
  let v807 : BitVec 32 := Scalar.subi v804 v806
  let v808 : BitVec 1 := Scalar.cmpi .ne v802 v807
  let v809 : BitVec 32 := Scalar.remsi v796 c16_i32_258
  let c0_i32_263 : BitVec 32 := 0#32
  let v810 : BitVec 1 := Scalar.cmpi .ne v809 c0_i32_263
  let v811 : BitVec 1 := Scalar.andi v808 v810
  let v797 : BitVec 32 := Scalar.divsi v796 c16_i32_258
  let c1_i32_264 : BitVec 32 := 1#32
  let v812 : BitVec 32 := Scalar.subi v797 c1_i32_264
  let v813 : BitVec 32 := Scalar.select v811 v812 v797
  let c16_i32_265 : BitVec 32 := 16#32
  let v814 : BitVec 32 := Scalar.muli v813 c16_i32_265
  v814

def k0_off30 (i : grid0.Coords) (v796 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v816 : BitVec 32 := Scalar.addi v2 c28_i32
  let c0_i32_259 : BitVec 32 := 0#32
  let v798 : BitVec 1 := Scalar.cmpi .sgt v796 c0_i32_259
  let v799 : BitVec 32 := Scalar.extui v798
  let c0_i32_260 : BitVec 32 := 0#32
  let v800 : BitVec 1 := Scalar.cmpi .slt v796 c0_i32_260
  let v801 : BitVec 32 := Scalar.extui v800
  let v802 : BitVec 32 := Scalar.subi v799 v801
  let c16_i32_258 : BitVec 32 := 16#32
  let c0_i32_261 : BitVec 32 := 0#32
  let v803 : BitVec 1 := Scalar.cmpi .sgt c16_i32_258 c0_i32_261
  let v804 : BitVec 32 := Scalar.extui v803
  let c0_i32_262 : BitVec 32 := 0#32
  let v805 : BitVec 1 := Scalar.cmpi .slt c16_i32_258 c0_i32_262
  let v806 : BitVec 32 := Scalar.extui v805
  let v807 : BitVec 32 := Scalar.subi v804 v806
  let v808 : BitVec 1 := Scalar.cmpi .ne v802 v807
  let v809 : BitVec 32 := Scalar.remsi v796 c16_i32_258
  let c0_i32_263 : BitVec 32 := 0#32
  let v810 : BitVec 1 := Scalar.cmpi .ne v809 c0_i32_263
  let v811 : BitVec 1 := Scalar.andi v808 v810
  let v797 : BitVec 32 := Scalar.divsi v796 c16_i32_258
  let c1_i32_264 : BitVec 32 := 1#32
  let v812 : BitVec 32 := Scalar.subi v797 c1_i32_264
  let v813 : BitVec 32 := Scalar.select v811 v812 v797
  let c16_i32_265 : BitVec 32 := 16#32
  let v814 : BitVec 32 := Scalar.muli v813 c16_i32_265
  let v815 : BitVec 32 := v814
  ![v816.toNat, v815.toNat]
def k0_mult30 (v824 : BitVec 32) : BitVec 32 :=
  let c0_i32_268 : BitVec 32 := 0#32
  let v826 : BitVec 1 := Scalar.cmpi .sgt v824 c0_i32_268
  let v827 : BitVec 32 := Scalar.extui v826
  let c0_i32_269 : BitVec 32 := 0#32
  let v828 : BitVec 1 := Scalar.cmpi .slt v824 c0_i32_269
  let v829 : BitVec 32 := Scalar.extui v828
  let v830 : BitVec 32 := Scalar.subi v827 v829
  let c16_i32_267 : BitVec 32 := 16#32
  let c0_i32_270 : BitVec 32 := 0#32
  let v831 : BitVec 1 := Scalar.cmpi .sgt c16_i32_267 c0_i32_270
  let v832 : BitVec 32 := Scalar.extui v831
  let c0_i32_271 : BitVec 32 := 0#32
  let v833 : BitVec 1 := Scalar.cmpi .slt c16_i32_267 c0_i32_271
  let v834 : BitVec 32 := Scalar.extui v833
  let v835 : BitVec 32 := Scalar.subi v832 v834
  let v836 : BitVec 1 := Scalar.cmpi .ne v830 v835
  let v837 : BitVec 32 := Scalar.remsi v824 c16_i32_267
  let c0_i32_272 : BitVec 32 := 0#32
  let v838 : BitVec 1 := Scalar.cmpi .ne v837 c0_i32_272
  let v839 : BitVec 1 := Scalar.andi v836 v838
  let v825 : BitVec 32 := Scalar.divsi v824 c16_i32_267
  let c1_i32_273 : BitVec 32 := 1#32
  let v840 : BitVec 32 := Scalar.subi v825 c1_i32_273
  let v841 : BitVec 32 := Scalar.select v839 v840 v825
  let c16_i32_274 : BitVec 32 := 16#32
  let v842 : BitVec 32 := Scalar.muli v841 c16_i32_274
  v842

def k0_off31 (i : grid0.Coords) (v824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v844 : BitVec 32 := Scalar.addi v2 c29_i32
  let c0_i32_268 : BitVec 32 := 0#32
  let v826 : BitVec 1 := Scalar.cmpi .sgt v824 c0_i32_268
  let v827 : BitVec 32 := Scalar.extui v826
  let c0_i32_269 : BitVec 32 := 0#32
  let v828 : BitVec 1 := Scalar.cmpi .slt v824 c0_i32_269
  let v829 : BitVec 32 := Scalar.extui v828
  let v830 : BitVec 32 := Scalar.subi v827 v829
  let c16_i32_267 : BitVec 32 := 16#32
  let c0_i32_270 : BitVec 32 := 0#32
  let v831 : BitVec 1 := Scalar.cmpi .sgt c16_i32_267 c0_i32_270
  let v832 : BitVec 32 := Scalar.extui v831
  let c0_i32_271 : BitVec 32 := 0#32
  let v833 : BitVec 1 := Scalar.cmpi .slt c16_i32_267 c0_i32_271
  let v834 : BitVec 32 := Scalar.extui v833
  let v835 : BitVec 32 := Scalar.subi v832 v834
  let v836 : BitVec 1 := Scalar.cmpi .ne v830 v835
  let v837 : BitVec 32 := Scalar.remsi v824 c16_i32_267
  let c0_i32_272 : BitVec 32 := 0#32
  let v838 : BitVec 1 := Scalar.cmpi .ne v837 c0_i32_272
  let v839 : BitVec 1 := Scalar.andi v836 v838
  let v825 : BitVec 32 := Scalar.divsi v824 c16_i32_267
  let c1_i32_273 : BitVec 32 := 1#32
  let v840 : BitVec 32 := Scalar.subi v825 c1_i32_273
  let v841 : BitVec 32 := Scalar.select v839 v840 v825
  let c16_i32_274 : BitVec 32 := 16#32
  let v842 : BitVec 32 := Scalar.muli v841 c16_i32_274
  let v843 : BitVec 32 := v842
  ![v844.toNat, v843.toNat]
def k0_mult31 (v852 : BitVec 32) : BitVec 32 :=
  let c0_i32_277 : BitVec 32 := 0#32
  let v854 : BitVec 1 := Scalar.cmpi .sgt v852 c0_i32_277
  let v855 : BitVec 32 := Scalar.extui v854
  let c0_i32_278 : BitVec 32 := 0#32
  let v856 : BitVec 1 := Scalar.cmpi .slt v852 c0_i32_278
  let v857 : BitVec 32 := Scalar.extui v856
  let v858 : BitVec 32 := Scalar.subi v855 v857
  let c16_i32_276 : BitVec 32 := 16#32
  let c0_i32_279 : BitVec 32 := 0#32
  let v859 : BitVec 1 := Scalar.cmpi .sgt c16_i32_276 c0_i32_279
  let v860 : BitVec 32 := Scalar.extui v859
  let c0_i32_280 : BitVec 32 := 0#32
  let v861 : BitVec 1 := Scalar.cmpi .slt c16_i32_276 c0_i32_280
  let v862 : BitVec 32 := Scalar.extui v861
  let v863 : BitVec 32 := Scalar.subi v860 v862
  let v864 : BitVec 1 := Scalar.cmpi .ne v858 v863
  let v865 : BitVec 32 := Scalar.remsi v852 c16_i32_276
  let c0_i32_281 : BitVec 32 := 0#32
  let v866 : BitVec 1 := Scalar.cmpi .ne v865 c0_i32_281
  let v867 : BitVec 1 := Scalar.andi v864 v866
  let v853 : BitVec 32 := Scalar.divsi v852 c16_i32_276
  let c1_i32_282 : BitVec 32 := 1#32
  let v868 : BitVec 32 := Scalar.subi v853 c1_i32_282
  let v869 : BitVec 32 := Scalar.select v867 v868 v853
  let c16_i32_283 : BitVec 32 := 16#32
  let v870 : BitVec 32 := Scalar.muli v869 c16_i32_283
  v870

def k0_off32 (i : grid0.Coords) (v852 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v872 : BitVec 32 := Scalar.addi v2 c30_i32
  let c0_i32_277 : BitVec 32 := 0#32
  let v854 : BitVec 1 := Scalar.cmpi .sgt v852 c0_i32_277
  let v855 : BitVec 32 := Scalar.extui v854
  let c0_i32_278 : BitVec 32 := 0#32
  let v856 : BitVec 1 := Scalar.cmpi .slt v852 c0_i32_278
  let v857 : BitVec 32 := Scalar.extui v856
  let v858 : BitVec 32 := Scalar.subi v855 v857
  let c16_i32_276 : BitVec 32 := 16#32
  let c0_i32_279 : BitVec 32 := 0#32
  let v859 : BitVec 1 := Scalar.cmpi .sgt c16_i32_276 c0_i32_279
  let v860 : BitVec 32 := Scalar.extui v859
  let c0_i32_280 : BitVec 32 := 0#32
  let v861 : BitVec 1 := Scalar.cmpi .slt c16_i32_276 c0_i32_280
  let v862 : BitVec 32 := Scalar.extui v861
  let v863 : BitVec 32 := Scalar.subi v860 v862
  let v864 : BitVec 1 := Scalar.cmpi .ne v858 v863
  let v865 : BitVec 32 := Scalar.remsi v852 c16_i32_276
  let c0_i32_281 : BitVec 32 := 0#32
  let v866 : BitVec 1 := Scalar.cmpi .ne v865 c0_i32_281
  let v867 : BitVec 1 := Scalar.andi v864 v866
  let v853 : BitVec 32 := Scalar.divsi v852 c16_i32_276
  let c1_i32_282 : BitVec 32 := 1#32
  let v868 : BitVec 32 := Scalar.subi v853 c1_i32_282
  let v869 : BitVec 32 := Scalar.select v867 v868 v853
  let c16_i32_283 : BitVec 32 := 16#32
  let v870 : BitVec 32 := Scalar.muli v869 c16_i32_283
  let v871 : BitVec 32 := v870
  ![v872.toNat, v871.toNat]
def k0_mult32 (v880 : BitVec 32) : BitVec 32 :=
  let c0_i32_286 : BitVec 32 := 0#32
  let v882 : BitVec 1 := Scalar.cmpi .sgt v880 c0_i32_286
  let v883 : BitVec 32 := Scalar.extui v882
  let c0_i32_287 : BitVec 32 := 0#32
  let v884 : BitVec 1 := Scalar.cmpi .slt v880 c0_i32_287
  let v885 : BitVec 32 := Scalar.extui v884
  let v886 : BitVec 32 := Scalar.subi v883 v885
  let c16_i32_285 : BitVec 32 := 16#32
  let c0_i32_288 : BitVec 32 := 0#32
  let v887 : BitVec 1 := Scalar.cmpi .sgt c16_i32_285 c0_i32_288
  let v888 : BitVec 32 := Scalar.extui v887
  let c0_i32_289 : BitVec 32 := 0#32
  let v889 : BitVec 1 := Scalar.cmpi .slt c16_i32_285 c0_i32_289
  let v890 : BitVec 32 := Scalar.extui v889
  let v891 : BitVec 32 := Scalar.subi v888 v890
  let v892 : BitVec 1 := Scalar.cmpi .ne v886 v891
  let v893 : BitVec 32 := Scalar.remsi v880 c16_i32_285
  let c0_i32_290 : BitVec 32 := 0#32
  let v894 : BitVec 1 := Scalar.cmpi .ne v893 c0_i32_290
  let v895 : BitVec 1 := Scalar.andi v892 v894
  let v881 : BitVec 32 := Scalar.divsi v880 c16_i32_285
  let c1_i32_291 : BitVec 32 := 1#32
  let v896 : BitVec 32 := Scalar.subi v881 c1_i32_291
  let v897 : BitVec 32 := Scalar.select v895 v896 v881
  let c16_i32_292 : BitVec 32 := 16#32
  let v898 : BitVec 32 := Scalar.muli v897 c16_i32_292
  v898

def k0_off33 (i : grid0.Coords) (v880 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32 : BitVec 32 := 31#32
  let v900 : BitVec 32 := Scalar.addi v2 c31_i32
  let c0_i32_286 : BitVec 32 := 0#32
  let v882 : BitVec 1 := Scalar.cmpi .sgt v880 c0_i32_286
  let v883 : BitVec 32 := Scalar.extui v882
  let c0_i32_287 : BitVec 32 := 0#32
  let v884 : BitVec 1 := Scalar.cmpi .slt v880 c0_i32_287
  let v885 : BitVec 32 := Scalar.extui v884
  let v886 : BitVec 32 := Scalar.subi v883 v885
  let c16_i32_285 : BitVec 32 := 16#32
  let c0_i32_288 : BitVec 32 := 0#32
  let v887 : BitVec 1 := Scalar.cmpi .sgt c16_i32_285 c0_i32_288
  let v888 : BitVec 32 := Scalar.extui v887
  let c0_i32_289 : BitVec 32 := 0#32
  let v889 : BitVec 1 := Scalar.cmpi .slt c16_i32_285 c0_i32_289
  let v890 : BitVec 32 := Scalar.extui v889
  let v891 : BitVec 32 := Scalar.subi v888 v890
  let v892 : BitVec 1 := Scalar.cmpi .ne v886 v891
  let v893 : BitVec 32 := Scalar.remsi v880 c16_i32_285
  let c0_i32_290 : BitVec 32 := 0#32
  let v894 : BitVec 1 := Scalar.cmpi .ne v893 c0_i32_290
  let v895 : BitVec 1 := Scalar.andi v892 v894
  let v881 : BitVec 32 := Scalar.divsi v880 c16_i32_285
  let c1_i32_291 : BitVec 32 := 1#32
  let v896 : BitVec 32 := Scalar.subi v881 c1_i32_291
  let v897 : BitVec 32 := Scalar.select v895 v896 v881
  let c16_i32_292 : BitVec 32 := 16#32
  let v898 : BitVec 32 := Scalar.muli v897 c16_i32_292
  let v899 : BitVec 32 := v898
  ![v900.toNat, v899.toNat]

def k0_chk32 (i : grid0.Coords) (v880 : BitVec 32) : Prop :=
  (16 ∣ (k0_mult32 v880).toNat) ∧
  (∀ a, (k0_off33 i v880) a + S1x16.size a ≤ S1024x100000.size a)
theorem k0_mult32_dvd : ∀ (i : grid0.Coords) (v880 : BitVec 32) (k0_hw32 : k0_chk32 i v880), 16 ∣ (k0_mult32 v880).toNat := fun i v880 k0_hw32 => k0_hw32.1
theorem k0_off33_inb : ∀ (i : grid0.Coords) (v880 : BitVec 32) (k0_hw32 : k0_chk32 i v880), ∀ a, (k0_off33 i v880) a + S1x16.size a ≤ S1024x100000.size a := fun i v880 k0_hw32 => k0_hw32.2

def k0_off34 (i : grid0.Coords) (v8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_6 : BitVec 32 := 0#32
  let v28 : BitVec 32 := Scalar.addi v2 c0_i32_6
  let c0_i32_0 : BitVec 32 := 0#32
  let v10 : BitVec 1 := Scalar.cmpi .sgt v8 c0_i32_0
  let v11 : BitVec 32 := Scalar.extui v10
  let c0_i32_1 : BitVec 32 := 0#32
  let v12 : BitVec 1 := Scalar.cmpi .slt v8 c0_i32_1
  let v13 : BitVec 32 := Scalar.extui v12
  let v14 : BitVec 32 := Scalar.subi v11 v13
  let c16_i32 : BitVec 32 := 16#32
  let c0_i32_2 : BitVec 32 := 0#32
  let v15 : BitVec 1 := Scalar.cmpi .sgt c16_i32 c0_i32_2
  let v16 : BitVec 32 := Scalar.extui v15
  let c0_i32_3 : BitVec 32 := 0#32
  let v17 : BitVec 1 := Scalar.cmpi .slt c16_i32 c0_i32_3
  let v18 : BitVec 32 := Scalar.extui v17
  let v19 : BitVec 32 := Scalar.subi v16 v18
  let v20 : BitVec 1 := Scalar.cmpi .ne v14 v19
  let v21 : BitVec 32 := Scalar.remsi v8 c16_i32
  let c0_i32_4 : BitVec 32 := 0#32
  let v22 : BitVec 1 := Scalar.cmpi .ne v21 c0_i32_4
  let v23 : BitVec 1 := Scalar.andi v20 v22
  let v9 : BitVec 32 := Scalar.divsi v8 c16_i32
  let c1_i32 : BitVec 32 := 1#32
  let v24 : BitVec 32 := Scalar.subi v9 c1_i32
  let v25 : BitVec 32 := Scalar.select v23 v24 v9
  let c16_i32_5 : BitVec 32 := 16#32
  let v26 : BitVec 32 := Scalar.muli v25 c16_i32_5
  let v27 : BitVec 32 := v26
  ![v28.toNat, v27.toNat]

def k0_chk1 (i : grid0.Coords) (v8 : BitVec 32) : Prop :=
  (16 ∣ (k0_mult1 v8).toNat) ∧
  (∀ a, (k0_off2 i v8) a + S1x16.size a ≤ S1024x100000.size a) ∧
  (∀ a, (k0_off34 i v8) a + S1x16.size a ≤ S1024x100000.size a)
theorem k0_mult1_dvd : ∀ (i : grid0.Coords) (v8 : BitVec 32) (k0_hw1 : k0_chk1 i v8), 16 ∣ (k0_mult1 v8).toNat := fun i v8 k0_hw1 => k0_hw1.1
theorem k0_off2_inb : ∀ (i : grid0.Coords) (v8 : BitVec 32) (k0_hw1 : k0_chk1 i v8), ∀ a, (k0_off2 i v8) a + S1x16.size a ≤ S1024x100000.size a := fun i v8 k0_hw1 => k0_hw1.2.1
theorem k0_off34_inb : ∀ (i : grid0.Coords) (v8 : BitVec 32) (k0_hw1 : k0_chk1 i v8), ∀ a, (k0_off34 i v8) a + S1x16.size a ≤ S1024x100000.size a := fun i v8 k0_hw1 => k0_hw1.2.2

def k0_off35 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_17 : BitVec 32 := 1#32
  let v56 : BitVec 32 := Scalar.addi v2 c1_i32_17
  let c0_i32_10 : BitVec 32 := 0#32
  let v38 : BitVec 1 := Scalar.cmpi .sgt v36 c0_i32_10
  let v39 : BitVec 32 := Scalar.extui v38
  let c0_i32_11 : BitVec 32 := 0#32
  let v40 : BitVec 1 := Scalar.cmpi .slt v36 c0_i32_11
  let v41 : BitVec 32 := Scalar.extui v40
  let v42 : BitVec 32 := Scalar.subi v39 v41
  let c16_i32_9 : BitVec 32 := 16#32
  let c0_i32_12 : BitVec 32 := 0#32
  let v43 : BitVec 1 := Scalar.cmpi .sgt c16_i32_9 c0_i32_12
  let v44 : BitVec 32 := Scalar.extui v43
  let c0_i32_13 : BitVec 32 := 0#32
  let v45 : BitVec 1 := Scalar.cmpi .slt c16_i32_9 c0_i32_13
  let v46 : BitVec 32 := Scalar.extui v45
  let v47 : BitVec 32 := Scalar.subi v44 v46
  let v48 : BitVec 1 := Scalar.cmpi .ne v42 v47
  let v49 : BitVec 32 := Scalar.remsi v36 c16_i32_9
  let c0_i32_14 : BitVec 32 := 0#32
  let v50 : BitVec 1 := Scalar.cmpi .ne v49 c0_i32_14
  let v51 : BitVec 1 := Scalar.andi v48 v50
  let v37 : BitVec 32 := Scalar.divsi v36 c16_i32_9
  let c1_i32_15 : BitVec 32 := 1#32
  let v52 : BitVec 32 := Scalar.subi v37 c1_i32_15
  let v53 : BitVec 32 := Scalar.select v51 v52 v37
  let c16_i32_16 : BitVec 32 := 16#32
  let v54 : BitVec 32 := Scalar.muli v53 c16_i32_16
  let v55 : BitVec 32 := v54
  ![v56.toNat, v55.toNat]

def k0_chk2 (i : grid0.Coords) (v36 : BitVec 32) : Prop :=
  (16 ∣ (k0_mult2 v36).toNat) ∧
  (∀ a, (k0_off3 i v36) a + S1x16.size a ≤ S1024x100000.size a) ∧
  (∀ a, (k0_off35 i v36) a + S1x16.size a ≤ S1024x100000.size a)
theorem k0_mult2_dvd : ∀ (i : grid0.Coords) (v36 : BitVec 32) (k0_hw2 : k0_chk2 i v36), 16 ∣ (k0_mult2 v36).toNat := fun i v36 k0_hw2 => k0_hw2.1
theorem k0_off3_inb : ∀ (i : grid0.Coords) (v36 : BitVec 32) (k0_hw2 : k0_chk2 i v36), ∀ a, (k0_off3 i v36) a + S1x16.size a ≤ S1024x100000.size a := fun i v36 k0_hw2 => k0_hw2.2.1
theorem k0_off35_inb : ∀ (i : grid0.Coords) (v36 : BitVec 32) (k0_hw2 : k0_chk2 i v36), ∀ a, (k0_off35 i v36) a + S1x16.size a ≤ S1024x100000.size a := fun i v36 k0_hw2 => k0_hw2.2.2

def k0_off36 (i : grid0.Coords) (v64 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_28 : BitVec 32 := 2#32
  let v84 : BitVec 32 := Scalar.addi v2 c2_i32_28
  let c0_i32_21 : BitVec 32 := 0#32
  let v66 : BitVec 1 := Scalar.cmpi .sgt v64 c0_i32_21
  let v67 : BitVec 32 := Scalar.extui v66
  let c0_i32_22 : BitVec 32 := 0#32
  let v68 : BitVec 1 := Scalar.cmpi .slt v64 c0_i32_22
  let v69 : BitVec 32 := Scalar.extui v68
  let v70 : BitVec 32 := Scalar.subi v67 v69
  let c16_i32_20 : BitVec 32 := 16#32
  let c0_i32_23 : BitVec 32 := 0#32
  let v71 : BitVec 1 := Scalar.cmpi .sgt c16_i32_20 c0_i32_23
  let v72 : BitVec 32 := Scalar.extui v71
  let c0_i32_24 : BitVec 32 := 0#32
  let v73 : BitVec 1 := Scalar.cmpi .slt c16_i32_20 c0_i32_24
  let v74 : BitVec 32 := Scalar.extui v73
  let v75 : BitVec 32 := Scalar.subi v72 v74
  let v76 : BitVec 1 := Scalar.cmpi .ne v70 v75
  let v77 : BitVec 32 := Scalar.remsi v64 c16_i32_20
  let c0_i32_25 : BitVec 32 := 0#32
  let v78 : BitVec 1 := Scalar.cmpi .ne v77 c0_i32_25
  let v79 : BitVec 1 := Scalar.andi v76 v78
  let v65 : BitVec 32 := Scalar.divsi v64 c16_i32_20
  let c1_i32_26 : BitVec 32 := 1#32
  let v80 : BitVec 32 := Scalar.subi v65 c1_i32_26
  let v81 : BitVec 32 := Scalar.select v79 v80 v65
  let c16_i32_27 : BitVec 32 := 16#32
  let v82 : BitVec 32 := Scalar.muli v81 c16_i32_27
  let v83 : BitVec 32 := v82
  ![v84.toNat, v83.toNat]

def k0_chk3 (i : grid0.Coords) (v64 : BitVec 32) : Prop :=
  (16 ∣ (k0_mult3 v64).toNat) ∧
  (∀ a, (k0_off4 i v64) a + S1x16.size a ≤ S1024x100000.size a) ∧
  (∀ a, (k0_off36 i v64) a + S1x16.size a ≤ S1024x100000.size a)
theorem k0_mult3_dvd : ∀ (i : grid0.Coords) (v64 : BitVec 32) (k0_hw3 : k0_chk3 i v64), 16 ∣ (k0_mult3 v64).toNat := fun i v64 k0_hw3 => k0_hw3.1
theorem k0_off4_inb : ∀ (i : grid0.Coords) (v64 : BitVec 32) (k0_hw3 : k0_chk3 i v64), ∀ a, (k0_off4 i v64) a + S1x16.size a ≤ S1024x100000.size a := fun i v64 k0_hw3 => k0_hw3.2.1
theorem k0_off36_inb : ∀ (i : grid0.Coords) (v64 : BitVec 32) (k0_hw3 : k0_chk3 i v64), ∀ a, (k0_off36 i v64) a + S1x16.size a ≤ S1024x100000.size a := fun i v64 k0_hw3 => k0_hw3.2.2

def k0_off37 (i : grid0.Coords) (v92 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v112 : BitVec 32 := Scalar.addi v2 c3_i32
  let c0_i32_32 : BitVec 32 := 0#32
  let v94 : BitVec 1 := Scalar.cmpi .sgt v92 c0_i32_32
  let v95 : BitVec 32 := Scalar.extui v94
  let c0_i32_33 : BitVec 32 := 0#32
  let v96 : BitVec 1 := Scalar.cmpi .slt v92 c0_i32_33
  let v97 : BitVec 32 := Scalar.extui v96
  let v98 : BitVec 32 := Scalar.subi v95 v97
  let c16_i32_31 : BitVec 32 := 16#32
  let c0_i32_34 : BitVec 32 := 0#32
  let v99 : BitVec 1 := Scalar.cmpi .sgt c16_i32_31 c0_i32_34
  let v100 : BitVec 32 := Scalar.extui v99
  let c0_i32_35 : BitVec 32 := 0#32
  let v101 : BitVec 1 := Scalar.cmpi .slt c16_i32_31 c0_i32_35
  let v102 : BitVec 32 := Scalar.extui v101
  let v103 : BitVec 32 := Scalar.subi v100 v102
  let v104 : BitVec 1 := Scalar.cmpi .ne v98 v103
  let v105 : BitVec 32 := Scalar.remsi v92 c16_i32_31
  let c0_i32_36 : BitVec 32 := 0#32
  let v106 : BitVec 1 := Scalar.cmpi .ne v105 c0_i32_36
  let v107 : BitVec 1 := Scalar.andi v104 v106
  let v93 : BitVec 32 := Scalar.divsi v92 c16_i32_31
  let c1_i32_37 : BitVec 32 := 1#32
  let v108 : BitVec 32 := Scalar.subi v93 c1_i32_37
  let v109 : BitVec 32 := Scalar.select v107 v108 v93
  let c16_i32_38 : BitVec 32 := 16#32
  let v110 : BitVec 32 := Scalar.muli v109 c16_i32_38
  let v111 : BitVec 32 := v110
  ![v112.toNat, v111.toNat]

def k0_chk4 (i : grid0.Coords) (v92 : BitVec 32) : Prop :=
  (16 ∣ (k0_mult4 v92).toNat) ∧
  (∀ a, (k0_off5 i v92) a + S1x16.size a ≤ S1024x100000.size a) ∧
  (∀ a, (k0_off37 i v92) a + S1x16.size a ≤ S1024x100000.size a)
theorem k0_mult4_dvd : ∀ (i : grid0.Coords) (v92 : BitVec 32) (k0_hw4 : k0_chk4 i v92), 16 ∣ (k0_mult4 v92).toNat := fun i v92 k0_hw4 => k0_hw4.1
theorem k0_off5_inb : ∀ (i : grid0.Coords) (v92 : BitVec 32) (k0_hw4 : k0_chk4 i v92), ∀ a, (k0_off5 i v92) a + S1x16.size a ≤ S1024x100000.size a := fun i v92 k0_hw4 => k0_hw4.2.1
theorem k0_off37_inb : ∀ (i : grid0.Coords) (v92 : BitVec 32) (k0_hw4 : k0_chk4 i v92), ∀ a, (k0_off37 i v92) a + S1x16.size a ≤ S1024x100000.size a := fun i v92 k0_hw4 => k0_hw4.2.2

def k0_off38 (i : grid0.Coords) (v120 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v140 : BitVec 32 := Scalar.addi v2 c4_i32
  let c0_i32_41 : BitVec 32 := 0#32
  let v122 : BitVec 1 := Scalar.cmpi .sgt v120 c0_i32_41
  let v123 : BitVec 32 := Scalar.extui v122
  let c0_i32_42 : BitVec 32 := 0#32
  let v124 : BitVec 1 := Scalar.cmpi .slt v120 c0_i32_42
  let v125 : BitVec 32 := Scalar.extui v124
  let v126 : BitVec 32 := Scalar.subi v123 v125
  let c16_i32_40 : BitVec 32 := 16#32
  let c0_i32_43 : BitVec 32 := 0#32
  let v127 : BitVec 1 := Scalar.cmpi .sgt c16_i32_40 c0_i32_43
  let v128 : BitVec 32 := Scalar.extui v127
  let c0_i32_44 : BitVec 32 := 0#32
  let v129 : BitVec 1 := Scalar.cmpi .slt c16_i32_40 c0_i32_44
  let v130 : BitVec 32 := Scalar.extui v129
  let v131 : BitVec 32 := Scalar.subi v128 v130
  let v132 : BitVec 1 := Scalar.cmpi .ne v126 v131
  let v133 : BitVec 32 := Scalar.remsi v120 c16_i32_40
  let c0_i32_45 : BitVec 32 := 0#32
  let v134 : BitVec 1 := Scalar.cmpi .ne v133 c0_i32_45
  let v135 : BitVec 1 := Scalar.andi v132 v134
  let v121 : BitVec 32 := Scalar.divsi v120 c16_i32_40
  let c1_i32_46 : BitVec 32 := 1#32
  let v136 : BitVec 32 := Scalar.subi v121 c1_i32_46
  let v137 : BitVec 32 := Scalar.select v135 v136 v121
  let c16_i32_47 : BitVec 32 := 16#32
  let v138 : BitVec 32 := Scalar.muli v137 c16_i32_47
  let v139 : BitVec 32 := v138
  ![v140.toNat, v139.toNat]

def k0_chk5 (i : grid0.Coords) (v120 : BitVec 32) : Prop :=
  (16 ∣ (k0_mult5 v120).toNat) ∧
  (∀ a, (k0_off6 i v120) a + S1x16.size a ≤ S1024x100000.size a) ∧
  (∀ a, (k0_off38 i v120) a + S1x16.size a ≤ S1024x100000.size a)
theorem k0_mult5_dvd : ∀ (i : grid0.Coords) (v120 : BitVec 32) (k0_hw5 : k0_chk5 i v120), 16 ∣ (k0_mult5 v120).toNat := fun i v120 k0_hw5 => k0_hw5.1
theorem k0_off6_inb : ∀ (i : grid0.Coords) (v120 : BitVec 32) (k0_hw5 : k0_chk5 i v120), ∀ a, (k0_off6 i v120) a + S1x16.size a ≤ S1024x100000.size a := fun i v120 k0_hw5 => k0_hw5.2.1
theorem k0_off38_inb : ∀ (i : grid0.Coords) (v120 : BitVec 32) (k0_hw5 : k0_chk5 i v120), ∀ a, (k0_off38 i v120) a + S1x16.size a ≤ S1024x100000.size a := fun i v120 k0_hw5 => k0_hw5.2.2

def k0_off39 (i : grid0.Coords) (v148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v168 : BitVec 32 := Scalar.addi v2 c5_i32
  let c0_i32_50 : BitVec 32 := 0#32
  let v150 : BitVec 1 := Scalar.cmpi .sgt v148 c0_i32_50
  let v151 : BitVec 32 := Scalar.extui v150
  let c0_i32_51 : BitVec 32 := 0#32
  let v152 : BitVec 1 := Scalar.cmpi .slt v148 c0_i32_51
  let v153 : BitVec 32 := Scalar.extui v152
  let v154 : BitVec 32 := Scalar.subi v151 v153
  let c16_i32_49 : BitVec 32 := 16#32
  let c0_i32_52 : BitVec 32 := 0#32
  let v155 : BitVec 1 := Scalar.cmpi .sgt c16_i32_49 c0_i32_52
  let v156 : BitVec 32 := Scalar.extui v155
  let c0_i32_53 : BitVec 32 := 0#32
  let v157 : BitVec 1 := Scalar.cmpi .slt c16_i32_49 c0_i32_53
  let v158 : BitVec 32 := Scalar.extui v157
  let v159 : BitVec 32 := Scalar.subi v156 v158
  let v160 : BitVec 1 := Scalar.cmpi .ne v154 v159
  let v161 : BitVec 32 := Scalar.remsi v148 c16_i32_49
  let c0_i32_54 : BitVec 32 := 0#32
  let v162 : BitVec 1 := Scalar.cmpi .ne v161 c0_i32_54
  let v163 : BitVec 1 := Scalar.andi v160 v162
  let v149 : BitVec 32 := Scalar.divsi v148 c16_i32_49
  let c1_i32_55 : BitVec 32 := 1#32
  let v164 : BitVec 32 := Scalar.subi v149 c1_i32_55
  let v165 : BitVec 32 := Scalar.select v163 v164 v149
  let c16_i32_56 : BitVec 32 := 16#32
  let v166 : BitVec 32 := Scalar.muli v165 c16_i32_56
  let v167 : BitVec 32 := v166
  ![v168.toNat, v167.toNat]

def k0_chk6 (i : grid0.Coords) (v148 : BitVec 32) : Prop :=
  (16 ∣ (k0_mult6 v148).toNat) ∧
  (∀ a, (k0_off7 i v148) a + S1x16.size a ≤ S1024x100000.size a) ∧
  (∀ a, (k0_off39 i v148) a + S1x16.size a ≤ S1024x100000.size a)
theorem k0_mult6_dvd : ∀ (i : grid0.Coords) (v148 : BitVec 32) (k0_hw6 : k0_chk6 i v148), 16 ∣ (k0_mult6 v148).toNat := fun i v148 k0_hw6 => k0_hw6.1
theorem k0_off7_inb : ∀ (i : grid0.Coords) (v148 : BitVec 32) (k0_hw6 : k0_chk6 i v148), ∀ a, (k0_off7 i v148) a + S1x16.size a ≤ S1024x100000.size a := fun i v148 k0_hw6 => k0_hw6.2.1
theorem k0_off39_inb : ∀ (i : grid0.Coords) (v148 : BitVec 32) (k0_hw6 : k0_chk6 i v148), ∀ a, (k0_off39 i v148) a + S1x16.size a ≤ S1024x100000.size a := fun i v148 k0_hw6 => k0_hw6.2.2

def k0_off40 (i : grid0.Coords) (v176 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v196 : BitVec 32 := Scalar.addi v2 c6_i32
  let c0_i32_59 : BitVec 32 := 0#32
  let v178 : BitVec 1 := Scalar.cmpi .sgt v176 c0_i32_59
  let v179 : BitVec 32 := Scalar.extui v178
  let c0_i32_60 : BitVec 32 := 0#32
  let v180 : BitVec 1 := Scalar.cmpi .slt v176 c0_i32_60
  let v181 : BitVec 32 := Scalar.extui v180
  let v182 : BitVec 32 := Scalar.subi v179 v181
  let c16_i32_58 : BitVec 32 := 16#32
  let c0_i32_61 : BitVec 32 := 0#32
  let v183 : BitVec 1 := Scalar.cmpi .sgt c16_i32_58 c0_i32_61
  let v184 : BitVec 32 := Scalar.extui v183
  let c0_i32_62 : BitVec 32 := 0#32
  let v185 : BitVec 1 := Scalar.cmpi .slt c16_i32_58 c0_i32_62
  let v186 : BitVec 32 := Scalar.extui v185
  let v187 : BitVec 32 := Scalar.subi v184 v186
  let v188 : BitVec 1 := Scalar.cmpi .ne v182 v187
  let v189 : BitVec 32 := Scalar.remsi v176 c16_i32_58
  let c0_i32_63 : BitVec 32 := 0#32
  let v190 : BitVec 1 := Scalar.cmpi .ne v189 c0_i32_63
  let v191 : BitVec 1 := Scalar.andi v188 v190
  let v177 : BitVec 32 := Scalar.divsi v176 c16_i32_58
  let c1_i32_64 : BitVec 32 := 1#32
  let v192 : BitVec 32 := Scalar.subi v177 c1_i32_64
  let v193 : BitVec 32 := Scalar.select v191 v192 v177
  let c16_i32_65 : BitVec 32 := 16#32
  let v194 : BitVec 32 := Scalar.muli v193 c16_i32_65
  let v195 : BitVec 32 := v194
  ![v196.toNat, v195.toNat]

def k0_chk7 (i : grid0.Coords) (v176 : BitVec 32) : Prop :=
  (16 ∣ (k0_mult7 v176).toNat) ∧
  (∀ a, (k0_off8 i v176) a + S1x16.size a ≤ S1024x100000.size a) ∧
  (∀ a, (k0_off40 i v176) a + S1x16.size a ≤ S1024x100000.size a)
theorem k0_mult7_dvd : ∀ (i : grid0.Coords) (v176 : BitVec 32) (k0_hw7 : k0_chk7 i v176), 16 ∣ (k0_mult7 v176).toNat := fun i v176 k0_hw7 => k0_hw7.1
theorem k0_off8_inb : ∀ (i : grid0.Coords) (v176 : BitVec 32) (k0_hw7 : k0_chk7 i v176), ∀ a, (k0_off8 i v176) a + S1x16.size a ≤ S1024x100000.size a := fun i v176 k0_hw7 => k0_hw7.2.1
theorem k0_off40_inb : ∀ (i : grid0.Coords) (v176 : BitVec 32) (k0_hw7 : k0_chk7 i v176), ∀ a, (k0_off40 i v176) a + S1x16.size a ≤ S1024x100000.size a := fun i v176 k0_hw7 => k0_hw7.2.2

def k0_off41 (i : grid0.Coords) (v204 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32 : BitVec 32 := 7#32
  let v224 : BitVec 32 := Scalar.addi v2 c7_i32
  let c0_i32_68 : BitVec 32 := 0#32
  let v206 : BitVec 1 := Scalar.cmpi .sgt v204 c0_i32_68
  let v207 : BitVec 32 := Scalar.extui v206
  let c0_i32_69 : BitVec 32 := 0#32
  let v208 : BitVec 1 := Scalar.cmpi .slt v204 c0_i32_69
  let v209 : BitVec 32 := Scalar.extui v208
  let v210 : BitVec 32 := Scalar.subi v207 v209
  let c16_i32_67 : BitVec 32 := 16#32
  let c0_i32_70 : BitVec 32 := 0#32
  let v211 : BitVec 1 := Scalar.cmpi .sgt c16_i32_67 c0_i32_70
  let v212 : BitVec 32 := Scalar.extui v211
  let c0_i32_71 : BitVec 32 := 0#32
  let v213 : BitVec 1 := Scalar.cmpi .slt c16_i32_67 c0_i32_71
  let v214 : BitVec 32 := Scalar.extui v213
  let v215 : BitVec 32 := Scalar.subi v212 v214
  let v216 : BitVec 1 := Scalar.cmpi .ne v210 v215
  let v217 : BitVec 32 := Scalar.remsi v204 c16_i32_67
  let c0_i32_72 : BitVec 32 := 0#32
  let v218 : BitVec 1 := Scalar.cmpi .ne v217 c0_i32_72
  let v219 : BitVec 1 := Scalar.andi v216 v218
  let v205 : BitVec 32 := Scalar.divsi v204 c16_i32_67
  let c1_i32_73 : BitVec 32 := 1#32
  let v220 : BitVec 32 := Scalar.subi v205 c1_i32_73
  let v221 : BitVec 32 := Scalar.select v219 v220 v205
  let c16_i32_74 : BitVec 32 := 16#32
  let v222 : BitVec 32 := Scalar.muli v221 c16_i32_74
  let v223 : BitVec 32 := v222
  ![v224.toNat, v223.toNat]

def k0_chk8 (i : grid0.Coords) (v204 : BitVec 32) : Prop :=
  (16 ∣ (k0_mult8 v204).toNat) ∧
  (∀ a, (k0_off9 i v204) a + S1x16.size a ≤ S1024x100000.size a) ∧
  (∀ a, (k0_off41 i v204) a + S1x16.size a ≤ S1024x100000.size a)
theorem k0_mult8_dvd : ∀ (i : grid0.Coords) (v204 : BitVec 32) (k0_hw8 : k0_chk8 i v204), 16 ∣ (k0_mult8 v204).toNat := fun i v204 k0_hw8 => k0_hw8.1
theorem k0_off9_inb : ∀ (i : grid0.Coords) (v204 : BitVec 32) (k0_hw8 : k0_chk8 i v204), ∀ a, (k0_off9 i v204) a + S1x16.size a ≤ S1024x100000.size a := fun i v204 k0_hw8 => k0_hw8.2.1
theorem k0_off41_inb : ∀ (i : grid0.Coords) (v204 : BitVec 32) (k0_hw8 : k0_chk8 i v204), ∀ a, (k0_off41 i v204) a + S1x16.size a ≤ S1024x100000.size a := fun i v204 k0_hw8 => k0_hw8.2.2

def k0_off42 (i : grid0.Coords) (v232 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v252 : BitVec 32 := Scalar.addi v2 c8_i32
  let c0_i32_77 : BitVec 32 := 0#32
  let v234 : BitVec 1 := Scalar.cmpi .sgt v232 c0_i32_77
  let v235 : BitVec 32 := Scalar.extui v234
  let c0_i32_78 : BitVec 32 := 0#32
  let v236 : BitVec 1 := Scalar.cmpi .slt v232 c0_i32_78
  let v237 : BitVec 32 := Scalar.extui v236
  let v238 : BitVec 32 := Scalar.subi v235 v237
  let c16_i32_76 : BitVec 32 := 16#32
  let c0_i32_79 : BitVec 32 := 0#32
  let v239 : BitVec 1 := Scalar.cmpi .sgt c16_i32_76 c0_i32_79
  let v240 : BitVec 32 := Scalar.extui v239
  let c0_i32_80 : BitVec 32 := 0#32
  let v241 : BitVec 1 := Scalar.cmpi .slt c16_i32_76 c0_i32_80
  let v242 : BitVec 32 := Scalar.extui v241
  let v243 : BitVec 32 := Scalar.subi v240 v242
  let v244 : BitVec 1 := Scalar.cmpi .ne v238 v243
  let v245 : BitVec 32 := Scalar.remsi v232 c16_i32_76
  let c0_i32_81 : BitVec 32 := 0#32
  let v246 : BitVec 1 := Scalar.cmpi .ne v245 c0_i32_81
  let v247 : BitVec 1 := Scalar.andi v244 v246
  let v233 : BitVec 32 := Scalar.divsi v232 c16_i32_76
  let c1_i32_82 : BitVec 32 := 1#32
  let v248 : BitVec 32 := Scalar.subi v233 c1_i32_82
  let v249 : BitVec 32 := Scalar.select v247 v248 v233
  let c16_i32_83 : BitVec 32 := 16#32
  let v250 : BitVec 32 := Scalar.muli v249 c16_i32_83
  let v251 : BitVec 32 := v250
  ![v252.toNat, v251.toNat]

def k0_chk9 (i : grid0.Coords) (v232 : BitVec 32) : Prop :=
  (16 ∣ (k0_mult9 v232).toNat) ∧
  (∀ a, (k0_off10 i v232) a + S1x16.size a ≤ S1024x100000.size a) ∧
  (∀ a, (k0_off42 i v232) a + S1x16.size a ≤ S1024x100000.size a)
theorem k0_mult9_dvd : ∀ (i : grid0.Coords) (v232 : BitVec 32) (k0_hw9 : k0_chk9 i v232), 16 ∣ (k0_mult9 v232).toNat := fun i v232 k0_hw9 => k0_hw9.1
theorem k0_off10_inb : ∀ (i : grid0.Coords) (v232 : BitVec 32) (k0_hw9 : k0_chk9 i v232), ∀ a, (k0_off10 i v232) a + S1x16.size a ≤ S1024x100000.size a := fun i v232 k0_hw9 => k0_hw9.2.1
theorem k0_off42_inb : ∀ (i : grid0.Coords) (v232 : BitVec 32) (k0_hw9 : k0_chk9 i v232), ∀ a, (k0_off42 i v232) a + S1x16.size a ≤ S1024x100000.size a := fun i v232 k0_hw9 => k0_hw9.2.2

def k0_off43 (i : grid0.Coords) (v260 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v280 : BitVec 32 := Scalar.addi v2 c9_i32
  let c0_i32_86 : BitVec 32 := 0#32
  let v262 : BitVec 1 := Scalar.cmpi .sgt v260 c0_i32_86
  let v263 : BitVec 32 := Scalar.extui v262
  let c0_i32_87 : BitVec 32 := 0#32
  let v264 : BitVec 1 := Scalar.cmpi .slt v260 c0_i32_87
  let v265 : BitVec 32 := Scalar.extui v264
  let v266 : BitVec 32 := Scalar.subi v263 v265
  let c16_i32_85 : BitVec 32 := 16#32
  let c0_i32_88 : BitVec 32 := 0#32
  let v267 : BitVec 1 := Scalar.cmpi .sgt c16_i32_85 c0_i32_88
  let v268 : BitVec 32 := Scalar.extui v267
  let c0_i32_89 : BitVec 32 := 0#32
  let v269 : BitVec 1 := Scalar.cmpi .slt c16_i32_85 c0_i32_89
  let v270 : BitVec 32 := Scalar.extui v269
  let v271 : BitVec 32 := Scalar.subi v268 v270
  let v272 : BitVec 1 := Scalar.cmpi .ne v266 v271
  let v273 : BitVec 32 := Scalar.remsi v260 c16_i32_85
  let c0_i32_90 : BitVec 32 := 0#32
  let v274 : BitVec 1 := Scalar.cmpi .ne v273 c0_i32_90
  let v275 : BitVec 1 := Scalar.andi v272 v274
  let v261 : BitVec 32 := Scalar.divsi v260 c16_i32_85
  let c1_i32_91 : BitVec 32 := 1#32
  let v276 : BitVec 32 := Scalar.subi v261 c1_i32_91
  let v277 : BitVec 32 := Scalar.select v275 v276 v261
  let c16_i32_92 : BitVec 32 := 16#32
  let v278 : BitVec 32 := Scalar.muli v277 c16_i32_92
  let v279 : BitVec 32 := v278
  ![v280.toNat, v279.toNat]

def k0_chk10 (i : grid0.Coords) (v260 : BitVec 32) : Prop :=
  (16 ∣ (k0_mult10 v260).toNat) ∧
  (∀ a, (k0_off11 i v260) a + S1x16.size a ≤ S1024x100000.size a) ∧
  (∀ a, (k0_off43 i v260) a + S1x16.size a ≤ S1024x100000.size a)
theorem k0_mult10_dvd : ∀ (i : grid0.Coords) (v260 : BitVec 32) (k0_hw10 : k0_chk10 i v260), 16 ∣ (k0_mult10 v260).toNat := fun i v260 k0_hw10 => k0_hw10.1
theorem k0_off11_inb : ∀ (i : grid0.Coords) (v260 : BitVec 32) (k0_hw10 : k0_chk10 i v260), ∀ a, (k0_off11 i v260) a + S1x16.size a ≤ S1024x100000.size a := fun i v260 k0_hw10 => k0_hw10.2.1
theorem k0_off43_inb : ∀ (i : grid0.Coords) (v260 : BitVec 32) (k0_hw10 : k0_chk10 i v260), ∀ a, (k0_off43 i v260) a + S1x16.size a ≤ S1024x100000.size a := fun i v260 k0_hw10 => k0_hw10.2.2

def k0_off44 (i : grid0.Coords) (v288 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v308 : BitVec 32 := Scalar.addi v2 c10_i32
  let c0_i32_95 : BitVec 32 := 0#32
  let v290 : BitVec 1 := Scalar.cmpi .sgt v288 c0_i32_95
  let v291 : BitVec 32 := Scalar.extui v290
  let c0_i32_96 : BitVec 32 := 0#32
  let v292 : BitVec 1 := Scalar.cmpi .slt v288 c0_i32_96
  let v293 : BitVec 32 := Scalar.extui v292
  let v294 : BitVec 32 := Scalar.subi v291 v293
  let c16_i32_94 : BitVec 32 := 16#32
  let c0_i32_97 : BitVec 32 := 0#32
  let v295 : BitVec 1 := Scalar.cmpi .sgt c16_i32_94 c0_i32_97
  let v296 : BitVec 32 := Scalar.extui v295
  let c0_i32_98 : BitVec 32 := 0#32
  let v297 : BitVec 1 := Scalar.cmpi .slt c16_i32_94 c0_i32_98
  let v298 : BitVec 32 := Scalar.extui v297
  let v299 : BitVec 32 := Scalar.subi v296 v298
  let v300 : BitVec 1 := Scalar.cmpi .ne v294 v299
  let v301 : BitVec 32 := Scalar.remsi v288 c16_i32_94
  let c0_i32_99 : BitVec 32 := 0#32
  let v302 : BitVec 1 := Scalar.cmpi .ne v301 c0_i32_99
  let v303 : BitVec 1 := Scalar.andi v300 v302
  let v289 : BitVec 32 := Scalar.divsi v288 c16_i32_94
  let c1_i32_100 : BitVec 32 := 1#32
  let v304 : BitVec 32 := Scalar.subi v289 c1_i32_100
  let v305 : BitVec 32 := Scalar.select v303 v304 v289
  let c16_i32_101 : BitVec 32 := 16#32
  let v306 : BitVec 32 := Scalar.muli v305 c16_i32_101
  let v307 : BitVec 32 := v306
  ![v308.toNat, v307.toNat]

def k0_chk11 (i : grid0.Coords) (v288 : BitVec 32) : Prop :=
  (16 ∣ (k0_mult11 v288).toNat) ∧
  (∀ a, (k0_off12 i v288) a + S1x16.size a ≤ S1024x100000.size a) ∧
  (∀ a, (k0_off44 i v288) a + S1x16.size a ≤ S1024x100000.size a)
theorem k0_mult11_dvd : ∀ (i : grid0.Coords) (v288 : BitVec 32) (k0_hw11 : k0_chk11 i v288), 16 ∣ (k0_mult11 v288).toNat := fun i v288 k0_hw11 => k0_hw11.1
theorem k0_off12_inb : ∀ (i : grid0.Coords) (v288 : BitVec 32) (k0_hw11 : k0_chk11 i v288), ∀ a, (k0_off12 i v288) a + S1x16.size a ≤ S1024x100000.size a := fun i v288 k0_hw11 => k0_hw11.2.1
theorem k0_off44_inb : ∀ (i : grid0.Coords) (v288 : BitVec 32) (k0_hw11 : k0_chk11 i v288), ∀ a, (k0_off44 i v288) a + S1x16.size a ≤ S1024x100000.size a := fun i v288 k0_hw11 => k0_hw11.2.2

def k0_off45 (i : grid0.Coords) (v316 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v336 : BitVec 32 := Scalar.addi v2 c11_i32
  let c0_i32_104 : BitVec 32 := 0#32
  let v318 : BitVec 1 := Scalar.cmpi .sgt v316 c0_i32_104
  let v319 : BitVec 32 := Scalar.extui v318
  let c0_i32_105 : BitVec 32 := 0#32
  let v320 : BitVec 1 := Scalar.cmpi .slt v316 c0_i32_105
  let v321 : BitVec 32 := Scalar.extui v320
  let v322 : BitVec 32 := Scalar.subi v319 v321
  let c16_i32_103 : BitVec 32 := 16#32
  let c0_i32_106 : BitVec 32 := 0#32
  let v323 : BitVec 1 := Scalar.cmpi .sgt c16_i32_103 c0_i32_106
  let v324 : BitVec 32 := Scalar.extui v323
  let c0_i32_107 : BitVec 32 := 0#32
  let v325 : BitVec 1 := Scalar.cmpi .slt c16_i32_103 c0_i32_107
  let v326 : BitVec 32 := Scalar.extui v325
  let v327 : BitVec 32 := Scalar.subi v324 v326
  let v328 : BitVec 1 := Scalar.cmpi .ne v322 v327
  let v329 : BitVec 32 := Scalar.remsi v316 c16_i32_103
  let c0_i32_108 : BitVec 32 := 0#32
  let v330 : BitVec 1 := Scalar.cmpi .ne v329 c0_i32_108
  let v331 : BitVec 1 := Scalar.andi v328 v330
  let v317 : BitVec 32 := Scalar.divsi v316 c16_i32_103
  let c1_i32_109 : BitVec 32 := 1#32
  let v332 : BitVec 32 := Scalar.subi v317 c1_i32_109
  let v333 : BitVec 32 := Scalar.select v331 v332 v317
  let c16_i32_110 : BitVec 32 := 16#32
  let v334 : BitVec 32 := Scalar.muli v333 c16_i32_110
  let v335 : BitVec 32 := v334
  ![v336.toNat, v335.toNat]

def k0_chk12 (i : grid0.Coords) (v316 : BitVec 32) : Prop :=
  (16 ∣ (k0_mult12 v316).toNat) ∧
  (∀ a, (k0_off13 i v316) a + S1x16.size a ≤ S1024x100000.size a) ∧
  (∀ a, (k0_off45 i v316) a + S1x16.size a ≤ S1024x100000.size a)
theorem k0_mult12_dvd : ∀ (i : grid0.Coords) (v316 : BitVec 32) (k0_hw12 : k0_chk12 i v316), 16 ∣ (k0_mult12 v316).toNat := fun i v316 k0_hw12 => k0_hw12.1
theorem k0_off13_inb : ∀ (i : grid0.Coords) (v316 : BitVec 32) (k0_hw12 : k0_chk12 i v316), ∀ a, (k0_off13 i v316) a + S1x16.size a ≤ S1024x100000.size a := fun i v316 k0_hw12 => k0_hw12.2.1
theorem k0_off45_inb : ∀ (i : grid0.Coords) (v316 : BitVec 32) (k0_hw12 : k0_chk12 i v316), ∀ a, (k0_off45 i v316) a + S1x16.size a ≤ S1024x100000.size a := fun i v316 k0_hw12 => k0_hw12.2.2

def k0_off46 (i : grid0.Coords) (v344 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v364 : BitVec 32 := Scalar.addi v2 c12_i32
  let c0_i32_113 : BitVec 32 := 0#32
  let v346 : BitVec 1 := Scalar.cmpi .sgt v344 c0_i32_113
  let v347 : BitVec 32 := Scalar.extui v346
  let c0_i32_114 : BitVec 32 := 0#32
  let v348 : BitVec 1 := Scalar.cmpi .slt v344 c0_i32_114
  let v349 : BitVec 32 := Scalar.extui v348
  let v350 : BitVec 32 := Scalar.subi v347 v349
  let c16_i32_112 : BitVec 32 := 16#32
  let c0_i32_115 : BitVec 32 := 0#32
  let v351 : BitVec 1 := Scalar.cmpi .sgt c16_i32_112 c0_i32_115
  let v352 : BitVec 32 := Scalar.extui v351
  let c0_i32_116 : BitVec 32 := 0#32
  let v353 : BitVec 1 := Scalar.cmpi .slt c16_i32_112 c0_i32_116
  let v354 : BitVec 32 := Scalar.extui v353
  let v355 : BitVec 32 := Scalar.subi v352 v354
  let v356 : BitVec 1 := Scalar.cmpi .ne v350 v355
  let v357 : BitVec 32 := Scalar.remsi v344 c16_i32_112
  let c0_i32_117 : BitVec 32 := 0#32
  let v358 : BitVec 1 := Scalar.cmpi .ne v357 c0_i32_117
  let v359 : BitVec 1 := Scalar.andi v356 v358
  let v345 : BitVec 32 := Scalar.divsi v344 c16_i32_112
  let c1_i32_118 : BitVec 32 := 1#32
  let v360 : BitVec 32 := Scalar.subi v345 c1_i32_118
  let v361 : BitVec 32 := Scalar.select v359 v360 v345
  let c16_i32_119 : BitVec 32 := 16#32
  let v362 : BitVec 32 := Scalar.muli v361 c16_i32_119
  let v363 : BitVec 32 := v362
  ![v364.toNat, v363.toNat]

def k0_chk13 (i : grid0.Coords) (v344 : BitVec 32) : Prop :=
  (16 ∣ (k0_mult13 v344).toNat) ∧
  (∀ a, (k0_off14 i v344) a + S1x16.size a ≤ S1024x100000.size a) ∧
  (∀ a, (k0_off46 i v344) a + S1x16.size a ≤ S1024x100000.size a)
theorem k0_mult13_dvd : ∀ (i : grid0.Coords) (v344 : BitVec 32) (k0_hw13 : k0_chk13 i v344), 16 ∣ (k0_mult13 v344).toNat := fun i v344 k0_hw13 => k0_hw13.1
theorem k0_off14_inb : ∀ (i : grid0.Coords) (v344 : BitVec 32) (k0_hw13 : k0_chk13 i v344), ∀ a, (k0_off14 i v344) a + S1x16.size a ≤ S1024x100000.size a := fun i v344 k0_hw13 => k0_hw13.2.1
theorem k0_off46_inb : ∀ (i : grid0.Coords) (v344 : BitVec 32) (k0_hw13 : k0_chk13 i v344), ∀ a, (k0_off46 i v344) a + S1x16.size a ≤ S1024x100000.size a := fun i v344 k0_hw13 => k0_hw13.2.2

def k0_off47 (i : grid0.Coords) (v372 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v392 : BitVec 32 := Scalar.addi v2 c13_i32
  let c0_i32_122 : BitVec 32 := 0#32
  let v374 : BitVec 1 := Scalar.cmpi .sgt v372 c0_i32_122
  let v375 : BitVec 32 := Scalar.extui v374
  let c0_i32_123 : BitVec 32 := 0#32
  let v376 : BitVec 1 := Scalar.cmpi .slt v372 c0_i32_123
  let v377 : BitVec 32 := Scalar.extui v376
  let v378 : BitVec 32 := Scalar.subi v375 v377
  let c16_i32_121 : BitVec 32 := 16#32
  let c0_i32_124 : BitVec 32 := 0#32
  let v379 : BitVec 1 := Scalar.cmpi .sgt c16_i32_121 c0_i32_124
  let v380 : BitVec 32 := Scalar.extui v379
  let c0_i32_125 : BitVec 32 := 0#32
  let v381 : BitVec 1 := Scalar.cmpi .slt c16_i32_121 c0_i32_125
  let v382 : BitVec 32 := Scalar.extui v381
  let v383 : BitVec 32 := Scalar.subi v380 v382
  let v384 : BitVec 1 := Scalar.cmpi .ne v378 v383
  let v385 : BitVec 32 := Scalar.remsi v372 c16_i32_121
  let c0_i32_126 : BitVec 32 := 0#32
  let v386 : BitVec 1 := Scalar.cmpi .ne v385 c0_i32_126
  let v387 : BitVec 1 := Scalar.andi v384 v386
  let v373 : BitVec 32 := Scalar.divsi v372 c16_i32_121
  let c1_i32_127 : BitVec 32 := 1#32
  let v388 : BitVec 32 := Scalar.subi v373 c1_i32_127
  let v389 : BitVec 32 := Scalar.select v387 v388 v373
  let c16_i32_128 : BitVec 32 := 16#32
  let v390 : BitVec 32 := Scalar.muli v389 c16_i32_128
  let v391 : BitVec 32 := v390
  ![v392.toNat, v391.toNat]

def k0_chk14 (i : grid0.Coords) (v372 : BitVec 32) : Prop :=
  (16 ∣ (k0_mult14 v372).toNat) ∧
  (∀ a, (k0_off15 i v372) a + S1x16.size a ≤ S1024x100000.size a) ∧
  (∀ a, (k0_off47 i v372) a + S1x16.size a ≤ S1024x100000.size a)
theorem k0_mult14_dvd : ∀ (i : grid0.Coords) (v372 : BitVec 32) (k0_hw14 : k0_chk14 i v372), 16 ∣ (k0_mult14 v372).toNat := fun i v372 k0_hw14 => k0_hw14.1
theorem k0_off15_inb : ∀ (i : grid0.Coords) (v372 : BitVec 32) (k0_hw14 : k0_chk14 i v372), ∀ a, (k0_off15 i v372) a + S1x16.size a ≤ S1024x100000.size a := fun i v372 k0_hw14 => k0_hw14.2.1
theorem k0_off47_inb : ∀ (i : grid0.Coords) (v372 : BitVec 32) (k0_hw14 : k0_chk14 i v372), ∀ a, (k0_off47 i v372) a + S1x16.size a ≤ S1024x100000.size a := fun i v372 k0_hw14 => k0_hw14.2.2

def k0_off48 (i : grid0.Coords) (v400 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v420 : BitVec 32 := Scalar.addi v2 c14_i32
  let c0_i32_131 : BitVec 32 := 0#32
  let v402 : BitVec 1 := Scalar.cmpi .sgt v400 c0_i32_131
  let v403 : BitVec 32 := Scalar.extui v402
  let c0_i32_132 : BitVec 32 := 0#32
  let v404 : BitVec 1 := Scalar.cmpi .slt v400 c0_i32_132
  let v405 : BitVec 32 := Scalar.extui v404
  let v406 : BitVec 32 := Scalar.subi v403 v405
  let c16_i32_130 : BitVec 32 := 16#32
  let c0_i32_133 : BitVec 32 := 0#32
  let v407 : BitVec 1 := Scalar.cmpi .sgt c16_i32_130 c0_i32_133
  let v408 : BitVec 32 := Scalar.extui v407
  let c0_i32_134 : BitVec 32 := 0#32
  let v409 : BitVec 1 := Scalar.cmpi .slt c16_i32_130 c0_i32_134
  let v410 : BitVec 32 := Scalar.extui v409
  let v411 : BitVec 32 := Scalar.subi v408 v410
  let v412 : BitVec 1 := Scalar.cmpi .ne v406 v411
  let v413 : BitVec 32 := Scalar.remsi v400 c16_i32_130
  let c0_i32_135 : BitVec 32 := 0#32
  let v414 : BitVec 1 := Scalar.cmpi .ne v413 c0_i32_135
  let v415 : BitVec 1 := Scalar.andi v412 v414
  let v401 : BitVec 32 := Scalar.divsi v400 c16_i32_130
  let c1_i32_136 : BitVec 32 := 1#32
  let v416 : BitVec 32 := Scalar.subi v401 c1_i32_136
  let v417 : BitVec 32 := Scalar.select v415 v416 v401
  let c16_i32_137 : BitVec 32 := 16#32
  let v418 : BitVec 32 := Scalar.muli v417 c16_i32_137
  let v419 : BitVec 32 := v418
  ![v420.toNat, v419.toNat]

def k0_chk15 (i : grid0.Coords) (v400 : BitVec 32) : Prop :=
  (16 ∣ (k0_mult15 v400).toNat) ∧
  (∀ a, (k0_off16 i v400) a + S1x16.size a ≤ S1024x100000.size a) ∧
  (∀ a, (k0_off48 i v400) a + S1x16.size a ≤ S1024x100000.size a)
theorem k0_mult15_dvd : ∀ (i : grid0.Coords) (v400 : BitVec 32) (k0_hw15 : k0_chk15 i v400), 16 ∣ (k0_mult15 v400).toNat := fun i v400 k0_hw15 => k0_hw15.1
theorem k0_off16_inb : ∀ (i : grid0.Coords) (v400 : BitVec 32) (k0_hw15 : k0_chk15 i v400), ∀ a, (k0_off16 i v400) a + S1x16.size a ≤ S1024x100000.size a := fun i v400 k0_hw15 => k0_hw15.2.1
theorem k0_off48_inb : ∀ (i : grid0.Coords) (v400 : BitVec 32) (k0_hw15 : k0_chk15 i v400), ∀ a, (k0_off48 i v400) a + S1x16.size a ≤ S1024x100000.size a := fun i v400 k0_hw15 => k0_hw15.2.2

def k0_off49 (i : grid0.Coords) (v428 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v448 : BitVec 32 := Scalar.addi v2 c15_i32
  let c0_i32_140 : BitVec 32 := 0#32
  let v430 : BitVec 1 := Scalar.cmpi .sgt v428 c0_i32_140
  let v431 : BitVec 32 := Scalar.extui v430
  let c0_i32_141 : BitVec 32 := 0#32
  let v432 : BitVec 1 := Scalar.cmpi .slt v428 c0_i32_141
  let v433 : BitVec 32 := Scalar.extui v432
  let v434 : BitVec 32 := Scalar.subi v431 v433
  let c16_i32_139 : BitVec 32 := 16#32
  let c0_i32_142 : BitVec 32 := 0#32
  let v435 : BitVec 1 := Scalar.cmpi .sgt c16_i32_139 c0_i32_142
  let v436 : BitVec 32 := Scalar.extui v435
  let c0_i32_143 : BitVec 32 := 0#32
  let v437 : BitVec 1 := Scalar.cmpi .slt c16_i32_139 c0_i32_143
  let v438 : BitVec 32 := Scalar.extui v437
  let v439 : BitVec 32 := Scalar.subi v436 v438
  let v440 : BitVec 1 := Scalar.cmpi .ne v434 v439
  let v441 : BitVec 32 := Scalar.remsi v428 c16_i32_139
  let c0_i32_144 : BitVec 32 := 0#32
  let v442 : BitVec 1 := Scalar.cmpi .ne v441 c0_i32_144
  let v443 : BitVec 1 := Scalar.andi v440 v442
  let v429 : BitVec 32 := Scalar.divsi v428 c16_i32_139
  let c1_i32_145 : BitVec 32 := 1#32
  let v444 : BitVec 32 := Scalar.subi v429 c1_i32_145
  let v445 : BitVec 32 := Scalar.select v443 v444 v429
  let c16_i32_146 : BitVec 32 := 16#32
  let v446 : BitVec 32 := Scalar.muli v445 c16_i32_146
  let v447 : BitVec 32 := v446
  ![v448.toNat, v447.toNat]

def k0_chk16 (i : grid0.Coords) (v428 : BitVec 32) : Prop :=
  (16 ∣ (k0_mult16 v428).toNat) ∧
  (∀ a, (k0_off17 i v428) a + S1x16.size a ≤ S1024x100000.size a) ∧
  (∀ a, (k0_off49 i v428) a + S1x16.size a ≤ S1024x100000.size a)
theorem k0_mult16_dvd : ∀ (i : grid0.Coords) (v428 : BitVec 32) (k0_hw16 : k0_chk16 i v428), 16 ∣ (k0_mult16 v428).toNat := fun i v428 k0_hw16 => k0_hw16.1
theorem k0_off17_inb : ∀ (i : grid0.Coords) (v428 : BitVec 32) (k0_hw16 : k0_chk16 i v428), ∀ a, (k0_off17 i v428) a + S1x16.size a ≤ S1024x100000.size a := fun i v428 k0_hw16 => k0_hw16.2.1
theorem k0_off49_inb : ∀ (i : grid0.Coords) (v428 : BitVec 32) (k0_hw16 : k0_chk16 i v428), ∀ a, (k0_off49 i v428) a + S1x16.size a ≤ S1024x100000.size a := fun i v428 k0_hw16 => k0_hw16.2.2

def k0_off50 (i : grid0.Coords) (v460 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_157 : BitVec 32 := 16#32
  let v480 : BitVec 32 := Scalar.addi v2 c16_i32_157
  let c0_i32_150 : BitVec 32 := 0#32
  let v462 : BitVec 1 := Scalar.cmpi .sgt v460 c0_i32_150
  let v463 : BitVec 32 := Scalar.extui v462
  let c0_i32_151 : BitVec 32 := 0#32
  let v464 : BitVec 1 := Scalar.cmpi .slt v460 c0_i32_151
  let v465 : BitVec 32 := Scalar.extui v464
  let v466 : BitVec 32 := Scalar.subi v463 v465
  let c16_i32_149 : BitVec 32 := 16#32
  let c0_i32_152 : BitVec 32 := 0#32
  let v467 : BitVec 1 := Scalar.cmpi .sgt c16_i32_149 c0_i32_152
  let v468 : BitVec 32 := Scalar.extui v467
  let c0_i32_153 : BitVec 32 := 0#32
  let v469 : BitVec 1 := Scalar.cmpi .slt c16_i32_149 c0_i32_153
  let v470 : BitVec 32 := Scalar.extui v469
  let v471 : BitVec 32 := Scalar.subi v468 v470
  let v472 : BitVec 1 := Scalar.cmpi .ne v466 v471
  let v473 : BitVec 32 := Scalar.remsi v460 c16_i32_149
  let c0_i32_154 : BitVec 32 := 0#32
  let v474 : BitVec 1 := Scalar.cmpi .ne v473 c0_i32_154
  let v475 : BitVec 1 := Scalar.andi v472 v474
  let v461 : BitVec 32 := Scalar.divsi v460 c16_i32_149
  let c1_i32_155 : BitVec 32 := 1#32
  let v476 : BitVec 32 := Scalar.subi v461 c1_i32_155
  let v477 : BitVec 32 := Scalar.select v475 v476 v461
  let c16_i32_156 : BitVec 32 := 16#32
  let v478 : BitVec 32 := Scalar.muli v477 c16_i32_156
  let v479 : BitVec 32 := v478
  ![v480.toNat, v479.toNat]

def k0_chk17 (i : grid0.Coords) (v460 : BitVec 32) : Prop :=
  (16 ∣ (k0_mult17 v460).toNat) ∧
  (∀ a, (k0_off18 i v460) a + S1x16.size a ≤ S1024x100000.size a) ∧
  (∀ a, (k0_off50 i v460) a + S1x16.size a ≤ S1024x100000.size a)
theorem k0_mult17_dvd : ∀ (i : grid0.Coords) (v460 : BitVec 32) (k0_hw17 : k0_chk17 i v460), 16 ∣ (k0_mult17 v460).toNat := fun i v460 k0_hw17 => k0_hw17.1
theorem k0_off18_inb : ∀ (i : grid0.Coords) (v460 : BitVec 32) (k0_hw17 : k0_chk17 i v460), ∀ a, (k0_off18 i v460) a + S1x16.size a ≤ S1024x100000.size a := fun i v460 k0_hw17 => k0_hw17.2.1
theorem k0_off50_inb : ∀ (i : grid0.Coords) (v460 : BitVec 32) (k0_hw17 : k0_chk17 i v460), ∀ a, (k0_off50 i v460) a + S1x16.size a ≤ S1024x100000.size a := fun i v460 k0_hw17 => k0_hw17.2.2

def k0_off51 (i : grid0.Coords) (v488 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v508 : BitVec 32 := Scalar.addi v2 c17_i32
  let c0_i32_160 : BitVec 32 := 0#32
  let v490 : BitVec 1 := Scalar.cmpi .sgt v488 c0_i32_160
  let v491 : BitVec 32 := Scalar.extui v490
  let c0_i32_161 : BitVec 32 := 0#32
  let v492 : BitVec 1 := Scalar.cmpi .slt v488 c0_i32_161
  let v493 : BitVec 32 := Scalar.extui v492
  let v494 : BitVec 32 := Scalar.subi v491 v493
  let c16_i32_159 : BitVec 32 := 16#32
  let c0_i32_162 : BitVec 32 := 0#32
  let v495 : BitVec 1 := Scalar.cmpi .sgt c16_i32_159 c0_i32_162
  let v496 : BitVec 32 := Scalar.extui v495
  let c0_i32_163 : BitVec 32 := 0#32
  let v497 : BitVec 1 := Scalar.cmpi .slt c16_i32_159 c0_i32_163
  let v498 : BitVec 32 := Scalar.extui v497
  let v499 : BitVec 32 := Scalar.subi v496 v498
  let v500 : BitVec 1 := Scalar.cmpi .ne v494 v499
  let v501 : BitVec 32 := Scalar.remsi v488 c16_i32_159
  let c0_i32_164 : BitVec 32 := 0#32
  let v502 : BitVec 1 := Scalar.cmpi .ne v501 c0_i32_164
  let v503 : BitVec 1 := Scalar.andi v500 v502
  let v489 : BitVec 32 := Scalar.divsi v488 c16_i32_159
  let c1_i32_165 : BitVec 32 := 1#32
  let v504 : BitVec 32 := Scalar.subi v489 c1_i32_165
  let v505 : BitVec 32 := Scalar.select v503 v504 v489
  let c16_i32_166 : BitVec 32 := 16#32
  let v506 : BitVec 32 := Scalar.muli v505 c16_i32_166
  let v507 : BitVec 32 := v506
  ![v508.toNat, v507.toNat]

def k0_chk18 (i : grid0.Coords) (v488 : BitVec 32) : Prop :=
  (16 ∣ (k0_mult18 v488).toNat) ∧
  (∀ a, (k0_off19 i v488) a + S1x16.size a ≤ S1024x100000.size a) ∧
  (∀ a, (k0_off51 i v488) a + S1x16.size a ≤ S1024x100000.size a)
theorem k0_mult18_dvd : ∀ (i : grid0.Coords) (v488 : BitVec 32) (k0_hw18 : k0_chk18 i v488), 16 ∣ (k0_mult18 v488).toNat := fun i v488 k0_hw18 => k0_hw18.1
theorem k0_off19_inb : ∀ (i : grid0.Coords) (v488 : BitVec 32) (k0_hw18 : k0_chk18 i v488), ∀ a, (k0_off19 i v488) a + S1x16.size a ≤ S1024x100000.size a := fun i v488 k0_hw18 => k0_hw18.2.1
theorem k0_off51_inb : ∀ (i : grid0.Coords) (v488 : BitVec 32) (k0_hw18 : k0_chk18 i v488), ∀ a, (k0_off51 i v488) a + S1x16.size a ≤ S1024x100000.size a := fun i v488 k0_hw18 => k0_hw18.2.2

def k0_off52 (i : grid0.Coords) (v516 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v536 : BitVec 32 := Scalar.addi v2 c18_i32
  let c0_i32_169 : BitVec 32 := 0#32
  let v518 : BitVec 1 := Scalar.cmpi .sgt v516 c0_i32_169
  let v519 : BitVec 32 := Scalar.extui v518
  let c0_i32_170 : BitVec 32 := 0#32
  let v520 : BitVec 1 := Scalar.cmpi .slt v516 c0_i32_170
  let v521 : BitVec 32 := Scalar.extui v520
  let v522 : BitVec 32 := Scalar.subi v519 v521
  let c16_i32_168 : BitVec 32 := 16#32
  let c0_i32_171 : BitVec 32 := 0#32
  let v523 : BitVec 1 := Scalar.cmpi .sgt c16_i32_168 c0_i32_171
  let v524 : BitVec 32 := Scalar.extui v523
  let c0_i32_172 : BitVec 32 := 0#32
  let v525 : BitVec 1 := Scalar.cmpi .slt c16_i32_168 c0_i32_172
  let v526 : BitVec 32 := Scalar.extui v525
  let v527 : BitVec 32 := Scalar.subi v524 v526
  let v528 : BitVec 1 := Scalar.cmpi .ne v522 v527
  let v529 : BitVec 32 := Scalar.remsi v516 c16_i32_168
  let c0_i32_173 : BitVec 32 := 0#32
  let v530 : BitVec 1 := Scalar.cmpi .ne v529 c0_i32_173
  let v531 : BitVec 1 := Scalar.andi v528 v530
  let v517 : BitVec 32 := Scalar.divsi v516 c16_i32_168
  let c1_i32_174 : BitVec 32 := 1#32
  let v532 : BitVec 32 := Scalar.subi v517 c1_i32_174
  let v533 : BitVec 32 := Scalar.select v531 v532 v517
  let c16_i32_175 : BitVec 32 := 16#32
  let v534 : BitVec 32 := Scalar.muli v533 c16_i32_175
  let v535 : BitVec 32 := v534
  ![v536.toNat, v535.toNat]

def k0_chk19 (i : grid0.Coords) (v516 : BitVec 32) : Prop :=
  (16 ∣ (k0_mult19 v516).toNat) ∧
  (∀ a, (k0_off20 i v516) a + S1x16.size a ≤ S1024x100000.size a) ∧
  (∀ a, (k0_off52 i v516) a + S1x16.size a ≤ S1024x100000.size a)
theorem k0_mult19_dvd : ∀ (i : grid0.Coords) (v516 : BitVec 32) (k0_hw19 : k0_chk19 i v516), 16 ∣ (k0_mult19 v516).toNat := fun i v516 k0_hw19 => k0_hw19.1
theorem k0_off20_inb : ∀ (i : grid0.Coords) (v516 : BitVec 32) (k0_hw19 : k0_chk19 i v516), ∀ a, (k0_off20 i v516) a + S1x16.size a ≤ S1024x100000.size a := fun i v516 k0_hw19 => k0_hw19.2.1
theorem k0_off52_inb : ∀ (i : grid0.Coords) (v516 : BitVec 32) (k0_hw19 : k0_chk19 i v516), ∀ a, (k0_off52 i v516) a + S1x16.size a ≤ S1024x100000.size a := fun i v516 k0_hw19 => k0_hw19.2.2

def k0_off53 (i : grid0.Coords) (v544 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v564 : BitVec 32 := Scalar.addi v2 c19_i32
  let c0_i32_178 : BitVec 32 := 0#32
  let v546 : BitVec 1 := Scalar.cmpi .sgt v544 c0_i32_178
  let v547 : BitVec 32 := Scalar.extui v546
  let c0_i32_179 : BitVec 32 := 0#32
  let v548 : BitVec 1 := Scalar.cmpi .slt v544 c0_i32_179
  let v549 : BitVec 32 := Scalar.extui v548
  let v550 : BitVec 32 := Scalar.subi v547 v549
  let c16_i32_177 : BitVec 32 := 16#32
  let c0_i32_180 : BitVec 32 := 0#32
  let v551 : BitVec 1 := Scalar.cmpi .sgt c16_i32_177 c0_i32_180
  let v552 : BitVec 32 := Scalar.extui v551
  let c0_i32_181 : BitVec 32 := 0#32
  let v553 : BitVec 1 := Scalar.cmpi .slt c16_i32_177 c0_i32_181
  let v554 : BitVec 32 := Scalar.extui v553
  let v555 : BitVec 32 := Scalar.subi v552 v554
  let v556 : BitVec 1 := Scalar.cmpi .ne v550 v555
  let v557 : BitVec 32 := Scalar.remsi v544 c16_i32_177
  let c0_i32_182 : BitVec 32 := 0#32
  let v558 : BitVec 1 := Scalar.cmpi .ne v557 c0_i32_182
  let v559 : BitVec 1 := Scalar.andi v556 v558
  let v545 : BitVec 32 := Scalar.divsi v544 c16_i32_177
  let c1_i32_183 : BitVec 32 := 1#32
  let v560 : BitVec 32 := Scalar.subi v545 c1_i32_183
  let v561 : BitVec 32 := Scalar.select v559 v560 v545
  let c16_i32_184 : BitVec 32 := 16#32
  let v562 : BitVec 32 := Scalar.muli v561 c16_i32_184
  let v563 : BitVec 32 := v562
  ![v564.toNat, v563.toNat]

def k0_chk20 (i : grid0.Coords) (v544 : BitVec 32) : Prop :=
  (16 ∣ (k0_mult20 v544).toNat) ∧
  (∀ a, (k0_off21 i v544) a + S1x16.size a ≤ S1024x100000.size a) ∧
  (∀ a, (k0_off53 i v544) a + S1x16.size a ≤ S1024x100000.size a)
theorem k0_mult20_dvd : ∀ (i : grid0.Coords) (v544 : BitVec 32) (k0_hw20 : k0_chk20 i v544), 16 ∣ (k0_mult20 v544).toNat := fun i v544 k0_hw20 => k0_hw20.1
theorem k0_off21_inb : ∀ (i : grid0.Coords) (v544 : BitVec 32) (k0_hw20 : k0_chk20 i v544), ∀ a, (k0_off21 i v544) a + S1x16.size a ≤ S1024x100000.size a := fun i v544 k0_hw20 => k0_hw20.2.1
theorem k0_off53_inb : ∀ (i : grid0.Coords) (v544 : BitVec 32) (k0_hw20 : k0_chk20 i v544), ∀ a, (k0_off53 i v544) a + S1x16.size a ≤ S1024x100000.size a := fun i v544 k0_hw20 => k0_hw20.2.2

def k0_off54 (i : grid0.Coords) (v572 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v592 : BitVec 32 := Scalar.addi v2 c20_i32
  let c0_i32_187 : BitVec 32 := 0#32
  let v574 : BitVec 1 := Scalar.cmpi .sgt v572 c0_i32_187
  let v575 : BitVec 32 := Scalar.extui v574
  let c0_i32_188 : BitVec 32 := 0#32
  let v576 : BitVec 1 := Scalar.cmpi .slt v572 c0_i32_188
  let v577 : BitVec 32 := Scalar.extui v576
  let v578 : BitVec 32 := Scalar.subi v575 v577
  let c16_i32_186 : BitVec 32 := 16#32
  let c0_i32_189 : BitVec 32 := 0#32
  let v579 : BitVec 1 := Scalar.cmpi .sgt c16_i32_186 c0_i32_189
  let v580 : BitVec 32 := Scalar.extui v579
  let c0_i32_190 : BitVec 32 := 0#32
  let v581 : BitVec 1 := Scalar.cmpi .slt c16_i32_186 c0_i32_190
  let v582 : BitVec 32 := Scalar.extui v581
  let v583 : BitVec 32 := Scalar.subi v580 v582
  let v584 : BitVec 1 := Scalar.cmpi .ne v578 v583
  let v585 : BitVec 32 := Scalar.remsi v572 c16_i32_186
  let c0_i32_191 : BitVec 32 := 0#32
  let v586 : BitVec 1 := Scalar.cmpi .ne v585 c0_i32_191
  let v587 : BitVec 1 := Scalar.andi v584 v586
  let v573 : BitVec 32 := Scalar.divsi v572 c16_i32_186
  let c1_i32_192 : BitVec 32 := 1#32
  let v588 : BitVec 32 := Scalar.subi v573 c1_i32_192
  let v589 : BitVec 32 := Scalar.select v587 v588 v573
  let c16_i32_193 : BitVec 32 := 16#32
  let v590 : BitVec 32 := Scalar.muli v589 c16_i32_193
  let v591 : BitVec 32 := v590
  ![v592.toNat, v591.toNat]

def k0_chk21 (i : grid0.Coords) (v572 : BitVec 32) : Prop :=
  (16 ∣ (k0_mult21 v572).toNat) ∧
  (∀ a, (k0_off22 i v572) a + S1x16.size a ≤ S1024x100000.size a) ∧
  (∀ a, (k0_off54 i v572) a + S1x16.size a ≤ S1024x100000.size a)
theorem k0_mult21_dvd : ∀ (i : grid0.Coords) (v572 : BitVec 32) (k0_hw21 : k0_chk21 i v572), 16 ∣ (k0_mult21 v572).toNat := fun i v572 k0_hw21 => k0_hw21.1
theorem k0_off22_inb : ∀ (i : grid0.Coords) (v572 : BitVec 32) (k0_hw21 : k0_chk21 i v572), ∀ a, (k0_off22 i v572) a + S1x16.size a ≤ S1024x100000.size a := fun i v572 k0_hw21 => k0_hw21.2.1
theorem k0_off54_inb : ∀ (i : grid0.Coords) (v572 : BitVec 32) (k0_hw21 : k0_chk21 i v572), ∀ a, (k0_off54 i v572) a + S1x16.size a ≤ S1024x100000.size a := fun i v572 k0_hw21 => k0_hw21.2.2

def k0_off55 (i : grid0.Coords) (v600 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v620 : BitVec 32 := Scalar.addi v2 c21_i32
  let c0_i32_196 : BitVec 32 := 0#32
  let v602 : BitVec 1 := Scalar.cmpi .sgt v600 c0_i32_196
  let v603 : BitVec 32 := Scalar.extui v602
  let c0_i32_197 : BitVec 32 := 0#32
  let v604 : BitVec 1 := Scalar.cmpi .slt v600 c0_i32_197
  let v605 : BitVec 32 := Scalar.extui v604
  let v606 : BitVec 32 := Scalar.subi v603 v605
  let c16_i32_195 : BitVec 32 := 16#32
  let c0_i32_198 : BitVec 32 := 0#32
  let v607 : BitVec 1 := Scalar.cmpi .sgt c16_i32_195 c0_i32_198
  let v608 : BitVec 32 := Scalar.extui v607
  let c0_i32_199 : BitVec 32 := 0#32
  let v609 : BitVec 1 := Scalar.cmpi .slt c16_i32_195 c0_i32_199
  let v610 : BitVec 32 := Scalar.extui v609
  let v611 : BitVec 32 := Scalar.subi v608 v610
  let v612 : BitVec 1 := Scalar.cmpi .ne v606 v611
  let v613 : BitVec 32 := Scalar.remsi v600 c16_i32_195
  let c0_i32_200 : BitVec 32 := 0#32
  let v614 : BitVec 1 := Scalar.cmpi .ne v613 c0_i32_200
  let v615 : BitVec 1 := Scalar.andi v612 v614
  let v601 : BitVec 32 := Scalar.divsi v600 c16_i32_195
  let c1_i32_201 : BitVec 32 := 1#32
  let v616 : BitVec 32 := Scalar.subi v601 c1_i32_201
  let v617 : BitVec 32 := Scalar.select v615 v616 v601
  let c16_i32_202 : BitVec 32 := 16#32
  let v618 : BitVec 32 := Scalar.muli v617 c16_i32_202
  let v619 : BitVec 32 := v618
  ![v620.toNat, v619.toNat]

def k0_chk22 (i : grid0.Coords) (v600 : BitVec 32) : Prop :=
  (16 ∣ (k0_mult22 v600).toNat) ∧
  (∀ a, (k0_off23 i v600) a + S1x16.size a ≤ S1024x100000.size a) ∧
  (∀ a, (k0_off55 i v600) a + S1x16.size a ≤ S1024x100000.size a)
theorem k0_mult22_dvd : ∀ (i : grid0.Coords) (v600 : BitVec 32) (k0_hw22 : k0_chk22 i v600), 16 ∣ (k0_mult22 v600).toNat := fun i v600 k0_hw22 => k0_hw22.1
theorem k0_off23_inb : ∀ (i : grid0.Coords) (v600 : BitVec 32) (k0_hw22 : k0_chk22 i v600), ∀ a, (k0_off23 i v600) a + S1x16.size a ≤ S1024x100000.size a := fun i v600 k0_hw22 => k0_hw22.2.1
theorem k0_off55_inb : ∀ (i : grid0.Coords) (v600 : BitVec 32) (k0_hw22 : k0_chk22 i v600), ∀ a, (k0_off55 i v600) a + S1x16.size a ≤ S1024x100000.size a := fun i v600 k0_hw22 => k0_hw22.2.2

def k0_off56 (i : grid0.Coords) (v628 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v648 : BitVec 32 := Scalar.addi v2 c22_i32
  let c0_i32_205 : BitVec 32 := 0#32
  let v630 : BitVec 1 := Scalar.cmpi .sgt v628 c0_i32_205
  let v631 : BitVec 32 := Scalar.extui v630
  let c0_i32_206 : BitVec 32 := 0#32
  let v632 : BitVec 1 := Scalar.cmpi .slt v628 c0_i32_206
  let v633 : BitVec 32 := Scalar.extui v632
  let v634 : BitVec 32 := Scalar.subi v631 v633
  let c16_i32_204 : BitVec 32 := 16#32
  let c0_i32_207 : BitVec 32 := 0#32
  let v635 : BitVec 1 := Scalar.cmpi .sgt c16_i32_204 c0_i32_207
  let v636 : BitVec 32 := Scalar.extui v635
  let c0_i32_208 : BitVec 32 := 0#32
  let v637 : BitVec 1 := Scalar.cmpi .slt c16_i32_204 c0_i32_208
  let v638 : BitVec 32 := Scalar.extui v637
  let v639 : BitVec 32 := Scalar.subi v636 v638
  let v640 : BitVec 1 := Scalar.cmpi .ne v634 v639
  let v641 : BitVec 32 := Scalar.remsi v628 c16_i32_204
  let c0_i32_209 : BitVec 32 := 0#32
  let v642 : BitVec 1 := Scalar.cmpi .ne v641 c0_i32_209
  let v643 : BitVec 1 := Scalar.andi v640 v642
  let v629 : BitVec 32 := Scalar.divsi v628 c16_i32_204
  let c1_i32_210 : BitVec 32 := 1#32
  let v644 : BitVec 32 := Scalar.subi v629 c1_i32_210
  let v645 : BitVec 32 := Scalar.select v643 v644 v629
  let c16_i32_211 : BitVec 32 := 16#32
  let v646 : BitVec 32 := Scalar.muli v645 c16_i32_211
  let v647 : BitVec 32 := v646
  ![v648.toNat, v647.toNat]

def k0_chk23 (i : grid0.Coords) (v628 : BitVec 32) : Prop :=
  (16 ∣ (k0_mult23 v628).toNat) ∧
  (∀ a, (k0_off24 i v628) a + S1x16.size a ≤ S1024x100000.size a) ∧
  (∀ a, (k0_off56 i v628) a + S1x16.size a ≤ S1024x100000.size a)
theorem k0_mult23_dvd : ∀ (i : grid0.Coords) (v628 : BitVec 32) (k0_hw23 : k0_chk23 i v628), 16 ∣ (k0_mult23 v628).toNat := fun i v628 k0_hw23 => k0_hw23.1
theorem k0_off24_inb : ∀ (i : grid0.Coords) (v628 : BitVec 32) (k0_hw23 : k0_chk23 i v628), ∀ a, (k0_off24 i v628) a + S1x16.size a ≤ S1024x100000.size a := fun i v628 k0_hw23 => k0_hw23.2.1
theorem k0_off56_inb : ∀ (i : grid0.Coords) (v628 : BitVec 32) (k0_hw23 : k0_chk23 i v628), ∀ a, (k0_off56 i v628) a + S1x16.size a ≤ S1024x100000.size a := fun i v628 k0_hw23 => k0_hw23.2.2

def k0_off57 (i : grid0.Coords) (v656 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v676 : BitVec 32 := Scalar.addi v2 c23_i32
  let c0_i32_214 : BitVec 32 := 0#32
  let v658 : BitVec 1 := Scalar.cmpi .sgt v656 c0_i32_214
  let v659 : BitVec 32 := Scalar.extui v658
  let c0_i32_215 : BitVec 32 := 0#32
  let v660 : BitVec 1 := Scalar.cmpi .slt v656 c0_i32_215
  let v661 : BitVec 32 := Scalar.extui v660
  let v662 : BitVec 32 := Scalar.subi v659 v661
  let c16_i32_213 : BitVec 32 := 16#32
  let c0_i32_216 : BitVec 32 := 0#32
  let v663 : BitVec 1 := Scalar.cmpi .sgt c16_i32_213 c0_i32_216
  let v664 : BitVec 32 := Scalar.extui v663
  let c0_i32_217 : BitVec 32 := 0#32
  let v665 : BitVec 1 := Scalar.cmpi .slt c16_i32_213 c0_i32_217
  let v666 : BitVec 32 := Scalar.extui v665
  let v667 : BitVec 32 := Scalar.subi v664 v666
  let v668 : BitVec 1 := Scalar.cmpi .ne v662 v667
  let v669 : BitVec 32 := Scalar.remsi v656 c16_i32_213
  let c0_i32_218 : BitVec 32 := 0#32
  let v670 : BitVec 1 := Scalar.cmpi .ne v669 c0_i32_218
  let v671 : BitVec 1 := Scalar.andi v668 v670
  let v657 : BitVec 32 := Scalar.divsi v656 c16_i32_213
  let c1_i32_219 : BitVec 32 := 1#32
  let v672 : BitVec 32 := Scalar.subi v657 c1_i32_219
  let v673 : BitVec 32 := Scalar.select v671 v672 v657
  let c16_i32_220 : BitVec 32 := 16#32
  let v674 : BitVec 32 := Scalar.muli v673 c16_i32_220
  let v675 : BitVec 32 := v674
  ![v676.toNat, v675.toNat]

def k0_chk24 (i : grid0.Coords) (v656 : BitVec 32) : Prop :=
  (16 ∣ (k0_mult24 v656).toNat) ∧
  (∀ a, (k0_off25 i v656) a + S1x16.size a ≤ S1024x100000.size a) ∧
  (∀ a, (k0_off57 i v656) a + S1x16.size a ≤ S1024x100000.size a)
theorem k0_mult24_dvd : ∀ (i : grid0.Coords) (v656 : BitVec 32) (k0_hw24 : k0_chk24 i v656), 16 ∣ (k0_mult24 v656).toNat := fun i v656 k0_hw24 => k0_hw24.1
theorem k0_off25_inb : ∀ (i : grid0.Coords) (v656 : BitVec 32) (k0_hw24 : k0_chk24 i v656), ∀ a, (k0_off25 i v656) a + S1x16.size a ≤ S1024x100000.size a := fun i v656 k0_hw24 => k0_hw24.2.1
theorem k0_off57_inb : ∀ (i : grid0.Coords) (v656 : BitVec 32) (k0_hw24 : k0_chk24 i v656), ∀ a, (k0_off57 i v656) a + S1x16.size a ≤ S1024x100000.size a := fun i v656 k0_hw24 => k0_hw24.2.2

def k0_off58 (i : grid0.Coords) (v684 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v704 : BitVec 32 := Scalar.addi v2 c24_i32
  let c0_i32_223 : BitVec 32 := 0#32
  let v686 : BitVec 1 := Scalar.cmpi .sgt v684 c0_i32_223
  let v687 : BitVec 32 := Scalar.extui v686
  let c0_i32_224 : BitVec 32 := 0#32
  let v688 : BitVec 1 := Scalar.cmpi .slt v684 c0_i32_224
  let v689 : BitVec 32 := Scalar.extui v688
  let v690 : BitVec 32 := Scalar.subi v687 v689
  let c16_i32_222 : BitVec 32 := 16#32
  let c0_i32_225 : BitVec 32 := 0#32
  let v691 : BitVec 1 := Scalar.cmpi .sgt c16_i32_222 c0_i32_225
  let v692 : BitVec 32 := Scalar.extui v691
  let c0_i32_226 : BitVec 32 := 0#32
  let v693 : BitVec 1 := Scalar.cmpi .slt c16_i32_222 c0_i32_226
  let v694 : BitVec 32 := Scalar.extui v693
  let v695 : BitVec 32 := Scalar.subi v692 v694
  let v696 : BitVec 1 := Scalar.cmpi .ne v690 v695
  let v697 : BitVec 32 := Scalar.remsi v684 c16_i32_222
  let c0_i32_227 : BitVec 32 := 0#32
  let v698 : BitVec 1 := Scalar.cmpi .ne v697 c0_i32_227
  let v699 : BitVec 1 := Scalar.andi v696 v698
  let v685 : BitVec 32 := Scalar.divsi v684 c16_i32_222
  let c1_i32_228 : BitVec 32 := 1#32
  let v700 : BitVec 32 := Scalar.subi v685 c1_i32_228
  let v701 : BitVec 32 := Scalar.select v699 v700 v685
  let c16_i32_229 : BitVec 32 := 16#32
  let v702 : BitVec 32 := Scalar.muli v701 c16_i32_229
  let v703 : BitVec 32 := v702
  ![v704.toNat, v703.toNat]

def k0_chk25 (i : grid0.Coords) (v684 : BitVec 32) : Prop :=
  (16 ∣ (k0_mult25 v684).toNat) ∧
  (∀ a, (k0_off26 i v684) a + S1x16.size a ≤ S1024x100000.size a) ∧
  (∀ a, (k0_off58 i v684) a + S1x16.size a ≤ S1024x100000.size a)
theorem k0_mult25_dvd : ∀ (i : grid0.Coords) (v684 : BitVec 32) (k0_hw25 : k0_chk25 i v684), 16 ∣ (k0_mult25 v684).toNat := fun i v684 k0_hw25 => k0_hw25.1
theorem k0_off26_inb : ∀ (i : grid0.Coords) (v684 : BitVec 32) (k0_hw25 : k0_chk25 i v684), ∀ a, (k0_off26 i v684) a + S1x16.size a ≤ S1024x100000.size a := fun i v684 k0_hw25 => k0_hw25.2.1
theorem k0_off58_inb : ∀ (i : grid0.Coords) (v684 : BitVec 32) (k0_hw25 : k0_chk25 i v684), ∀ a, (k0_off58 i v684) a + S1x16.size a ≤ S1024x100000.size a := fun i v684 k0_hw25 => k0_hw25.2.2

def k0_off59 (i : grid0.Coords) (v712 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v732 : BitVec 32 := Scalar.addi v2 c25_i32
  let c0_i32_232 : BitVec 32 := 0#32
  let v714 : BitVec 1 := Scalar.cmpi .sgt v712 c0_i32_232
  let v715 : BitVec 32 := Scalar.extui v714
  let c0_i32_233 : BitVec 32 := 0#32
  let v716 : BitVec 1 := Scalar.cmpi .slt v712 c0_i32_233
  let v717 : BitVec 32 := Scalar.extui v716
  let v718 : BitVec 32 := Scalar.subi v715 v717
  let c16_i32_231 : BitVec 32 := 16#32
  let c0_i32_234 : BitVec 32 := 0#32
  let v719 : BitVec 1 := Scalar.cmpi .sgt c16_i32_231 c0_i32_234
  let v720 : BitVec 32 := Scalar.extui v719
  let c0_i32_235 : BitVec 32 := 0#32
  let v721 : BitVec 1 := Scalar.cmpi .slt c16_i32_231 c0_i32_235
  let v722 : BitVec 32 := Scalar.extui v721
  let v723 : BitVec 32 := Scalar.subi v720 v722
  let v724 : BitVec 1 := Scalar.cmpi .ne v718 v723
  let v725 : BitVec 32 := Scalar.remsi v712 c16_i32_231
  let c0_i32_236 : BitVec 32 := 0#32
  let v726 : BitVec 1 := Scalar.cmpi .ne v725 c0_i32_236
  let v727 : BitVec 1 := Scalar.andi v724 v726
  let v713 : BitVec 32 := Scalar.divsi v712 c16_i32_231
  let c1_i32_237 : BitVec 32 := 1#32
  let v728 : BitVec 32 := Scalar.subi v713 c1_i32_237
  let v729 : BitVec 32 := Scalar.select v727 v728 v713
  let c16_i32_238 : BitVec 32 := 16#32
  let v730 : BitVec 32 := Scalar.muli v729 c16_i32_238
  let v731 : BitVec 32 := v730
  ![v732.toNat, v731.toNat]

def k0_chk26 (i : grid0.Coords) (v712 : BitVec 32) : Prop :=
  (16 ∣ (k0_mult26 v712).toNat) ∧
  (∀ a, (k0_off27 i v712) a + S1x16.size a ≤ S1024x100000.size a) ∧
  (∀ a, (k0_off59 i v712) a + S1x16.size a ≤ S1024x100000.size a)
theorem k0_mult26_dvd : ∀ (i : grid0.Coords) (v712 : BitVec 32) (k0_hw26 : k0_chk26 i v712), 16 ∣ (k0_mult26 v712).toNat := fun i v712 k0_hw26 => k0_hw26.1
theorem k0_off27_inb : ∀ (i : grid0.Coords) (v712 : BitVec 32) (k0_hw26 : k0_chk26 i v712), ∀ a, (k0_off27 i v712) a + S1x16.size a ≤ S1024x100000.size a := fun i v712 k0_hw26 => k0_hw26.2.1
theorem k0_off59_inb : ∀ (i : grid0.Coords) (v712 : BitVec 32) (k0_hw26 : k0_chk26 i v712), ∀ a, (k0_off59 i v712) a + S1x16.size a ≤ S1024x100000.size a := fun i v712 k0_hw26 => k0_hw26.2.2

def k0_off60 (i : grid0.Coords) (v740 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v760 : BitVec 32 := Scalar.addi v2 c26_i32
  let c0_i32_241 : BitVec 32 := 0#32
  let v742 : BitVec 1 := Scalar.cmpi .sgt v740 c0_i32_241
  let v743 : BitVec 32 := Scalar.extui v742
  let c0_i32_242 : BitVec 32 := 0#32
  let v744 : BitVec 1 := Scalar.cmpi .slt v740 c0_i32_242
  let v745 : BitVec 32 := Scalar.extui v744
  let v746 : BitVec 32 := Scalar.subi v743 v745
  let c16_i32_240 : BitVec 32 := 16#32
  let c0_i32_243 : BitVec 32 := 0#32
  let v747 : BitVec 1 := Scalar.cmpi .sgt c16_i32_240 c0_i32_243
  let v748 : BitVec 32 := Scalar.extui v747
  let c0_i32_244 : BitVec 32 := 0#32
  let v749 : BitVec 1 := Scalar.cmpi .slt c16_i32_240 c0_i32_244
  let v750 : BitVec 32 := Scalar.extui v749
  let v751 : BitVec 32 := Scalar.subi v748 v750
  let v752 : BitVec 1 := Scalar.cmpi .ne v746 v751
  let v753 : BitVec 32 := Scalar.remsi v740 c16_i32_240
  let c0_i32_245 : BitVec 32 := 0#32
  let v754 : BitVec 1 := Scalar.cmpi .ne v753 c0_i32_245
  let v755 : BitVec 1 := Scalar.andi v752 v754
  let v741 : BitVec 32 := Scalar.divsi v740 c16_i32_240
  let c1_i32_246 : BitVec 32 := 1#32
  let v756 : BitVec 32 := Scalar.subi v741 c1_i32_246
  let v757 : BitVec 32 := Scalar.select v755 v756 v741
  let c16_i32_247 : BitVec 32 := 16#32
  let v758 : BitVec 32 := Scalar.muli v757 c16_i32_247
  let v759 : BitVec 32 := v758
  ![v760.toNat, v759.toNat]

def k0_chk27 (i : grid0.Coords) (v740 : BitVec 32) : Prop :=
  (16 ∣ (k0_mult27 v740).toNat) ∧
  (∀ a, (k0_off28 i v740) a + S1x16.size a ≤ S1024x100000.size a) ∧
  (∀ a, (k0_off60 i v740) a + S1x16.size a ≤ S1024x100000.size a)
theorem k0_mult27_dvd : ∀ (i : grid0.Coords) (v740 : BitVec 32) (k0_hw27 : k0_chk27 i v740), 16 ∣ (k0_mult27 v740).toNat := fun i v740 k0_hw27 => k0_hw27.1
theorem k0_off28_inb : ∀ (i : grid0.Coords) (v740 : BitVec 32) (k0_hw27 : k0_chk27 i v740), ∀ a, (k0_off28 i v740) a + S1x16.size a ≤ S1024x100000.size a := fun i v740 k0_hw27 => k0_hw27.2.1
theorem k0_off60_inb : ∀ (i : grid0.Coords) (v740 : BitVec 32) (k0_hw27 : k0_chk27 i v740), ∀ a, (k0_off60 i v740) a + S1x16.size a ≤ S1024x100000.size a := fun i v740 k0_hw27 => k0_hw27.2.2

def k0_off61 (i : grid0.Coords) (v768 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v788 : BitVec 32 := Scalar.addi v2 c27_i32
  let c0_i32_250 : BitVec 32 := 0#32
  let v770 : BitVec 1 := Scalar.cmpi .sgt v768 c0_i32_250
  let v771 : BitVec 32 := Scalar.extui v770
  let c0_i32_251 : BitVec 32 := 0#32
  let v772 : BitVec 1 := Scalar.cmpi .slt v768 c0_i32_251
  let v773 : BitVec 32 := Scalar.extui v772
  let v774 : BitVec 32 := Scalar.subi v771 v773
  let c16_i32_249 : BitVec 32 := 16#32
  let c0_i32_252 : BitVec 32 := 0#32
  let v775 : BitVec 1 := Scalar.cmpi .sgt c16_i32_249 c0_i32_252
  let v776 : BitVec 32 := Scalar.extui v775
  let c0_i32_253 : BitVec 32 := 0#32
  let v777 : BitVec 1 := Scalar.cmpi .slt c16_i32_249 c0_i32_253
  let v778 : BitVec 32 := Scalar.extui v777
  let v779 : BitVec 32 := Scalar.subi v776 v778
  let v780 : BitVec 1 := Scalar.cmpi .ne v774 v779
  let v781 : BitVec 32 := Scalar.remsi v768 c16_i32_249
  let c0_i32_254 : BitVec 32 := 0#32
  let v782 : BitVec 1 := Scalar.cmpi .ne v781 c0_i32_254
  let v783 : BitVec 1 := Scalar.andi v780 v782
  let v769 : BitVec 32 := Scalar.divsi v768 c16_i32_249
  let c1_i32_255 : BitVec 32 := 1#32
  let v784 : BitVec 32 := Scalar.subi v769 c1_i32_255
  let v785 : BitVec 32 := Scalar.select v783 v784 v769
  let c16_i32_256 : BitVec 32 := 16#32
  let v786 : BitVec 32 := Scalar.muli v785 c16_i32_256
  let v787 : BitVec 32 := v786
  ![v788.toNat, v787.toNat]

def k0_chk28 (i : grid0.Coords) (v768 : BitVec 32) : Prop :=
  (16 ∣ (k0_mult28 v768).toNat) ∧
  (∀ a, (k0_off29 i v768) a + S1x16.size a ≤ S1024x100000.size a) ∧
  (∀ a, (k0_off61 i v768) a + S1x16.size a ≤ S1024x100000.size a)
theorem k0_mult28_dvd : ∀ (i : grid0.Coords) (v768 : BitVec 32) (k0_hw28 : k0_chk28 i v768), 16 ∣ (k0_mult28 v768).toNat := fun i v768 k0_hw28 => k0_hw28.1
theorem k0_off29_inb : ∀ (i : grid0.Coords) (v768 : BitVec 32) (k0_hw28 : k0_chk28 i v768), ∀ a, (k0_off29 i v768) a + S1x16.size a ≤ S1024x100000.size a := fun i v768 k0_hw28 => k0_hw28.2.1
theorem k0_off61_inb : ∀ (i : grid0.Coords) (v768 : BitVec 32) (k0_hw28 : k0_chk28 i v768), ∀ a, (k0_off61 i v768) a + S1x16.size a ≤ S1024x100000.size a := fun i v768 k0_hw28 => k0_hw28.2.2

def k0_off62 (i : grid0.Coords) (v796 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v816 : BitVec 32 := Scalar.addi v2 c28_i32
  let c0_i32_259 : BitVec 32 := 0#32
  let v798 : BitVec 1 := Scalar.cmpi .sgt v796 c0_i32_259
  let v799 : BitVec 32 := Scalar.extui v798
  let c0_i32_260 : BitVec 32 := 0#32
  let v800 : BitVec 1 := Scalar.cmpi .slt v796 c0_i32_260
  let v801 : BitVec 32 := Scalar.extui v800
  let v802 : BitVec 32 := Scalar.subi v799 v801
  let c16_i32_258 : BitVec 32 := 16#32
  let c0_i32_261 : BitVec 32 := 0#32
  let v803 : BitVec 1 := Scalar.cmpi .sgt c16_i32_258 c0_i32_261
  let v804 : BitVec 32 := Scalar.extui v803
  let c0_i32_262 : BitVec 32 := 0#32
  let v805 : BitVec 1 := Scalar.cmpi .slt c16_i32_258 c0_i32_262
  let v806 : BitVec 32 := Scalar.extui v805
  let v807 : BitVec 32 := Scalar.subi v804 v806
  let v808 : BitVec 1 := Scalar.cmpi .ne v802 v807
  let v809 : BitVec 32 := Scalar.remsi v796 c16_i32_258
  let c0_i32_263 : BitVec 32 := 0#32
  let v810 : BitVec 1 := Scalar.cmpi .ne v809 c0_i32_263
  let v811 : BitVec 1 := Scalar.andi v808 v810
  let v797 : BitVec 32 := Scalar.divsi v796 c16_i32_258
  let c1_i32_264 : BitVec 32 := 1#32
  let v812 : BitVec 32 := Scalar.subi v797 c1_i32_264
  let v813 : BitVec 32 := Scalar.select v811 v812 v797
  let c16_i32_265 : BitVec 32 := 16#32
  let v814 : BitVec 32 := Scalar.muli v813 c16_i32_265
  let v815 : BitVec 32 := v814
  ![v816.toNat, v815.toNat]

def k0_chk29 (i : grid0.Coords) (v796 : BitVec 32) : Prop :=
  (16 ∣ (k0_mult29 v796).toNat) ∧
  (∀ a, (k0_off30 i v796) a + S1x16.size a ≤ S1024x100000.size a) ∧
  (∀ a, (k0_off62 i v796) a + S1x16.size a ≤ S1024x100000.size a)
theorem k0_mult29_dvd : ∀ (i : grid0.Coords) (v796 : BitVec 32) (k0_hw29 : k0_chk29 i v796), 16 ∣ (k0_mult29 v796).toNat := fun i v796 k0_hw29 => k0_hw29.1
theorem k0_off30_inb : ∀ (i : grid0.Coords) (v796 : BitVec 32) (k0_hw29 : k0_chk29 i v796), ∀ a, (k0_off30 i v796) a + S1x16.size a ≤ S1024x100000.size a := fun i v796 k0_hw29 => k0_hw29.2.1
theorem k0_off62_inb : ∀ (i : grid0.Coords) (v796 : BitVec 32) (k0_hw29 : k0_chk29 i v796), ∀ a, (k0_off62 i v796) a + S1x16.size a ≤ S1024x100000.size a := fun i v796 k0_hw29 => k0_hw29.2.2

def k0_off63 (i : grid0.Coords) (v824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v844 : BitVec 32 := Scalar.addi v2 c29_i32
  let c0_i32_268 : BitVec 32 := 0#32
  let v826 : BitVec 1 := Scalar.cmpi .sgt v824 c0_i32_268
  let v827 : BitVec 32 := Scalar.extui v826
  let c0_i32_269 : BitVec 32 := 0#32
  let v828 : BitVec 1 := Scalar.cmpi .slt v824 c0_i32_269
  let v829 : BitVec 32 := Scalar.extui v828
  let v830 : BitVec 32 := Scalar.subi v827 v829
  let c16_i32_267 : BitVec 32 := 16#32
  let c0_i32_270 : BitVec 32 := 0#32
  let v831 : BitVec 1 := Scalar.cmpi .sgt c16_i32_267 c0_i32_270
  let v832 : BitVec 32 := Scalar.extui v831
  let c0_i32_271 : BitVec 32 := 0#32
  let v833 : BitVec 1 := Scalar.cmpi .slt c16_i32_267 c0_i32_271
  let v834 : BitVec 32 := Scalar.extui v833
  let v835 : BitVec 32 := Scalar.subi v832 v834
  let v836 : BitVec 1 := Scalar.cmpi .ne v830 v835
  let v837 : BitVec 32 := Scalar.remsi v824 c16_i32_267
  let c0_i32_272 : BitVec 32 := 0#32
  let v838 : BitVec 1 := Scalar.cmpi .ne v837 c0_i32_272
  let v839 : BitVec 1 := Scalar.andi v836 v838
  let v825 : BitVec 32 := Scalar.divsi v824 c16_i32_267
  let c1_i32_273 : BitVec 32 := 1#32
  let v840 : BitVec 32 := Scalar.subi v825 c1_i32_273
  let v841 : BitVec 32 := Scalar.select v839 v840 v825
  let c16_i32_274 : BitVec 32 := 16#32
  let v842 : BitVec 32 := Scalar.muli v841 c16_i32_274
  let v843 : BitVec 32 := v842
  ![v844.toNat, v843.toNat]

def k0_chk30 (i : grid0.Coords) (v824 : BitVec 32) : Prop :=
  (16 ∣ (k0_mult30 v824).toNat) ∧
  (∀ a, (k0_off31 i v824) a + S1x16.size a ≤ S1024x100000.size a) ∧
  (∀ a, (k0_off63 i v824) a + S1x16.size a ≤ S1024x100000.size a)
theorem k0_mult30_dvd : ∀ (i : grid0.Coords) (v824 : BitVec 32) (k0_hw30 : k0_chk30 i v824), 16 ∣ (k0_mult30 v824).toNat := fun i v824 k0_hw30 => k0_hw30.1
theorem k0_off31_inb : ∀ (i : grid0.Coords) (v824 : BitVec 32) (k0_hw30 : k0_chk30 i v824), ∀ a, (k0_off31 i v824) a + S1x16.size a ≤ S1024x100000.size a := fun i v824 k0_hw30 => k0_hw30.2.1
theorem k0_off63_inb : ∀ (i : grid0.Coords) (v824 : BitVec 32) (k0_hw30 : k0_chk30 i v824), ∀ a, (k0_off63 i v824) a + S1x16.size a ≤ S1024x100000.size a := fun i v824 k0_hw30 => k0_hw30.2.2

def k0_off64 (i : grid0.Coords) (v852 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v872 : BitVec 32 := Scalar.addi v2 c30_i32
  let c0_i32_277 : BitVec 32 := 0#32
  let v854 : BitVec 1 := Scalar.cmpi .sgt v852 c0_i32_277
  let v855 : BitVec 32 := Scalar.extui v854
  let c0_i32_278 : BitVec 32 := 0#32
  let v856 : BitVec 1 := Scalar.cmpi .slt v852 c0_i32_278
  let v857 : BitVec 32 := Scalar.extui v856
  let v858 : BitVec 32 := Scalar.subi v855 v857
  let c16_i32_276 : BitVec 32 := 16#32
  let c0_i32_279 : BitVec 32 := 0#32
  let v859 : BitVec 1 := Scalar.cmpi .sgt c16_i32_276 c0_i32_279
  let v860 : BitVec 32 := Scalar.extui v859
  let c0_i32_280 : BitVec 32 := 0#32
  let v861 : BitVec 1 := Scalar.cmpi .slt c16_i32_276 c0_i32_280
  let v862 : BitVec 32 := Scalar.extui v861
  let v863 : BitVec 32 := Scalar.subi v860 v862
  let v864 : BitVec 1 := Scalar.cmpi .ne v858 v863
  let v865 : BitVec 32 := Scalar.remsi v852 c16_i32_276
  let c0_i32_281 : BitVec 32 := 0#32
  let v866 : BitVec 1 := Scalar.cmpi .ne v865 c0_i32_281
  let v867 : BitVec 1 := Scalar.andi v864 v866
  let v853 : BitVec 32 := Scalar.divsi v852 c16_i32_276
  let c1_i32_282 : BitVec 32 := 1#32
  let v868 : BitVec 32 := Scalar.subi v853 c1_i32_282
  let v869 : BitVec 32 := Scalar.select v867 v868 v853
  let c16_i32_283 : BitVec 32 := 16#32
  let v870 : BitVec 32 := Scalar.muli v869 c16_i32_283
  let v871 : BitVec 32 := v870
  ![v872.toNat, v871.toNat]

def k0_chk31 (i : grid0.Coords) (v852 : BitVec 32) : Prop :=
  (16 ∣ (k0_mult31 v852).toNat) ∧
  (∀ a, (k0_off32 i v852) a + S1x16.size a ≤ S1024x100000.size a) ∧
  (∀ a, (k0_off64 i v852) a + S1x16.size a ≤ S1024x100000.size a)
theorem k0_mult31_dvd : ∀ (i : grid0.Coords) (v852 : BitVec 32) (k0_hw31 : k0_chk31 i v852), 16 ∣ (k0_mult31 v852).toNat := fun i v852 k0_hw31 => k0_hw31.1
theorem k0_off32_inb : ∀ (i : grid0.Coords) (v852 : BitVec 32) (k0_hw31 : k0_chk31 i v852), ∀ a, (k0_off32 i v852) a + S1x16.size a ≤ S1024x100000.size a := fun i v852 k0_hw31 => k0_hw31.2.1
theorem k0_off64_inb : ∀ (i : grid0.Coords) (v852 : BitVec 32) (k0_hw31 : k0_chk31 i v852), ∀ a, (k0_off64 i v852) a + S1x16.size a ≤ S1024x100000.size a := fun i v852 k0_hw31 => k0_hw31.2.2

def k0_chk33 (v1122 : IVec S16 32) : Prop :=
  (∀ a x, ((![v1122] : Fin 1 → IVec S16 32) a x).toNat < S512.size a)
theorem k0_idx1_inb : ∀ (v1122 : IVec S16 32) (k0_hw33 : k0_chk33 v1122), ∀ a x, ((![v1122] : Fin 1 → IVec S16 32) a x).toNat < S512.size a := fun v1122 k0_hw33 => k0_hw33

def k0_chk34 (v1130 : IVec S16 32) : Prop :=
  (∀ a x, ((![v1130] : Fin 1 → IVec S16 32) a x).toNat < S512.size a)
theorem k0_idx2_inb : ∀ (v1130 : IVec S16 32) (k0_hw34 : k0_chk34 v1130), ∀ a x, ((![v1130] : Fin 1 → IVec S16 32) a x).toNat < S512.size a := fun v1130 k0_hw34 => k0_hw34

def k0_chk35 (v1138 : IVec S16 32) : Prop :=
  (∀ a x, ((![v1138] : Fin 1 → IVec S16 32) a x).toNat < S512.size a)
theorem k0_idx3_inb : ∀ (v1138 : IVec S16 32) (k0_hw35 : k0_chk35 v1138), ∀ a x, ((![v1138] : Fin 1 → IVec S16 32) a x).toNat < S512.size a := fun v1138 k0_hw35 => k0_hw35

def k0_chk36 (v1146 : IVec S16 32) : Prop :=
  (∀ a x, ((![v1146] : Fin 1 → IVec S16 32) a x).toNat < S512.size a)
theorem k0_idx4_inb : ∀ (v1146 : IVec S16 32) (k0_hw36 : k0_chk36 v1146), ∀ a x, ((![v1146] : Fin 1 → IVec S16 32) a x).toNat < S512.size a := fun v1146 k0_hw36 => k0_hw36

def k0_chk37 (v1154 : IVec S16 32) : Prop :=
  (∀ a x, ((![v1154] : Fin 1 → IVec S16 32) a x).toNat < S512.size a)
theorem k0_idx5_inb : ∀ (v1154 : IVec S16 32) (k0_hw37 : k0_chk37 v1154), ∀ a x, ((![v1154] : Fin 1 → IVec S16 32) a x).toNat < S512.size a := fun v1154 k0_hw37 => k0_hw37

def k0_chk38 (v1162 : IVec S16 32) : Prop :=
  (∀ a x, ((![v1162] : Fin 1 → IVec S16 32) a x).toNat < S512.size a)
theorem k0_idx6_inb : ∀ (v1162 : IVec S16 32) (k0_hw38 : k0_chk38 v1162), ∀ a x, ((![v1162] : Fin 1 → IVec S16 32) a x).toNat < S512.size a := fun v1162 k0_hw38 => k0_hw38

def k0_chk39 (v1170 : IVec S16 32) : Prop :=
  (∀ a x, ((![v1170] : Fin 1 → IVec S16 32) a x).toNat < S512.size a)
theorem k0_idx7_inb : ∀ (v1170 : IVec S16 32) (k0_hw39 : k0_chk39 v1170), ∀ a x, ((![v1170] : Fin 1 → IVec S16 32) a x).toNat < S512.size a := fun v1170 k0_hw39 => k0_hw39

def k0_chk40 (v1178 : IVec S16 32) : Prop :=
  (∀ a x, ((![v1178] : Fin 1 → IVec S16 32) a x).toNat < S512.size a)
theorem k0_idx8_inb : ∀ (v1178 : IVec S16 32) (k0_hw40 : k0_chk40 v1178), ∀ a x, ((![v1178] : Fin 1 → IVec S16 32) a x).toNat < S512.size a := fun v1178 k0_hw40 => k0_hw40

def k0_chk41 (v1186 : IVec S16 32) : Prop :=
  (∀ a x, ((![v1186] : Fin 1 → IVec S16 32) a x).toNat < S512.size a)
theorem k0_idx9_inb : ∀ (v1186 : IVec S16 32) (k0_hw41 : k0_chk41 v1186), ∀ a x, ((![v1186] : Fin 1 → IVec S16 32) a x).toNat < S512.size a := fun v1186 k0_hw41 => k0_hw41

def k0_chk42 (v1194 : IVec S16 32) : Prop :=
  (∀ a x, ((![v1194] : Fin 1 → IVec S16 32) a x).toNat < S512.size a)
theorem k0_idx10_inb : ∀ (v1194 : IVec S16 32) (k0_hw42 : k0_chk42 v1194), ∀ a x, ((![v1194] : Fin 1 → IVec S16 32) a x).toNat < S512.size a := fun v1194 k0_hw42 => k0_hw42

def k0_chk43 (v1202 : IVec S16 32) : Prop :=
  (∀ a x, ((![v1202] : Fin 1 → IVec S16 32) a x).toNat < S512.size a)
theorem k0_idx11_inb : ∀ (v1202 : IVec S16 32) (k0_hw43 : k0_chk43 v1202), ∀ a x, ((![v1202] : Fin 1 → IVec S16 32) a x).toNat < S512.size a := fun v1202 k0_hw43 => k0_hw43

def k0_chk44 (v1210 : IVec S16 32) : Prop :=
  (∀ a x, ((![v1210] : Fin 1 → IVec S16 32) a x).toNat < S512.size a)
theorem k0_idx12_inb : ∀ (v1210 : IVec S16 32) (k0_hw44 : k0_chk44 v1210), ∀ a x, ((![v1210] : Fin 1 → IVec S16 32) a x).toNat < S512.size a := fun v1210 k0_hw44 => k0_hw44

def k0_chk45 (v1218 : IVec S16 32) : Prop :=
  (∀ a x, ((![v1218] : Fin 1 → IVec S16 32) a x).toNat < S512.size a)
theorem k0_idx13_inb : ∀ (v1218 : IVec S16 32) (k0_hw45 : k0_chk45 v1218), ∀ a x, ((![v1218] : Fin 1 → IVec S16 32) a x).toNat < S512.size a := fun v1218 k0_hw45 => k0_hw45

def k0_chk46 (v1226 : IVec S16 32) : Prop :=
  (∀ a x, ((![v1226] : Fin 1 → IVec S16 32) a x).toNat < S512.size a)
theorem k0_idx14_inb : ∀ (v1226 : IVec S16 32) (k0_hw46 : k0_chk46 v1226), ∀ a x, ((![v1226] : Fin 1 → IVec S16 32) a x).toNat < S512.size a := fun v1226 k0_hw46 => k0_hw46

def k0_chk47 (v1234 : IVec S16 32) : Prop :=
  (∀ a x, ((![v1234] : Fin 1 → IVec S16 32) a x).toNat < S512.size a)
theorem k0_idx15_inb : ∀ (v1234 : IVec S16 32) (k0_hw47 : k0_chk47 v1234), ∀ a x, ((![v1234] : Fin 1 → IVec S16 32) a x).toNat < S512.size a := fun v1234 k0_hw47 => k0_hw47

def k0_chk48 (v1242 : IVec S16 32) : Prop :=
  (∀ a x, ((![v1242] : Fin 1 → IVec S16 32) a x).toNat < S512.size a)
theorem k0_idx16_inb : ∀ (v1242 : IVec S16 32) (k0_hw48 : k0_chk48 v1242), ∀ a x, ((![v1242] : Fin 1 → IVec S16 32) a x).toNat < S512.size a := fun v1242 k0_hw48 => k0_hw48

def k0_chk49 (v1274 : IVec S16 32) : Prop :=
  (∀ a x, ((![v1274] : Fin 1 → IVec S16 32) a x).toNat < S512.size a)
theorem k0_idx17_inb : ∀ (v1274 : IVec S16 32) (k0_hw49 : k0_chk49 v1274), ∀ a x, ((![v1274] : Fin 1 → IVec S16 32) a x).toNat < S512.size a := fun v1274 k0_hw49 => k0_hw49

def k0_chk50 (v1282 : IVec S16 32) : Prop :=
  (∀ a x, ((![v1282] : Fin 1 → IVec S16 32) a x).toNat < S512.size a)
theorem k0_idx18_inb : ∀ (v1282 : IVec S16 32) (k0_hw50 : k0_chk50 v1282), ∀ a x, ((![v1282] : Fin 1 → IVec S16 32) a x).toNat < S512.size a := fun v1282 k0_hw50 => k0_hw50

def k0_chk51 (v1290 : IVec S16 32) : Prop :=
  (∀ a x, ((![v1290] : Fin 1 → IVec S16 32) a x).toNat < S512.size a)
theorem k0_idx19_inb : ∀ (v1290 : IVec S16 32) (k0_hw51 : k0_chk51 v1290), ∀ a x, ((![v1290] : Fin 1 → IVec S16 32) a x).toNat < S512.size a := fun v1290 k0_hw51 => k0_hw51

def k0_chk52 (v1298 : IVec S16 32) : Prop :=
  (∀ a x, ((![v1298] : Fin 1 → IVec S16 32) a x).toNat < S512.size a)
theorem k0_idx20_inb : ∀ (v1298 : IVec S16 32) (k0_hw52 : k0_chk52 v1298), ∀ a x, ((![v1298] : Fin 1 → IVec S16 32) a x).toNat < S512.size a := fun v1298 k0_hw52 => k0_hw52

def k0_chk53 (v1306 : IVec S16 32) : Prop :=
  (∀ a x, ((![v1306] : Fin 1 → IVec S16 32) a x).toNat < S512.size a)
theorem k0_idx21_inb : ∀ (v1306 : IVec S16 32) (k0_hw53 : k0_chk53 v1306), ∀ a x, ((![v1306] : Fin 1 → IVec S16 32) a x).toNat < S512.size a := fun v1306 k0_hw53 => k0_hw53

def k0_chk54 (v1314 : IVec S16 32) : Prop :=
  (∀ a x, ((![v1314] : Fin 1 → IVec S16 32) a x).toNat < S512.size a)
theorem k0_idx22_inb : ∀ (v1314 : IVec S16 32) (k0_hw54 : k0_chk54 v1314), ∀ a x, ((![v1314] : Fin 1 → IVec S16 32) a x).toNat < S512.size a := fun v1314 k0_hw54 => k0_hw54

def k0_chk55 (v1322 : IVec S16 32) : Prop :=
  (∀ a x, ((![v1322] : Fin 1 → IVec S16 32) a x).toNat < S512.size a)
theorem k0_idx23_inb : ∀ (v1322 : IVec S16 32) (k0_hw55 : k0_chk55 v1322), ∀ a x, ((![v1322] : Fin 1 → IVec S16 32) a x).toNat < S512.size a := fun v1322 k0_hw55 => k0_hw55

def k0_chk56 (v1330 : IVec S16 32) : Prop :=
  (∀ a x, ((![v1330] : Fin 1 → IVec S16 32) a x).toNat < S512.size a)
theorem k0_idx24_inb : ∀ (v1330 : IVec S16 32) (k0_hw56 : k0_chk56 v1330), ∀ a x, ((![v1330] : Fin 1 → IVec S16 32) a x).toNat < S512.size a := fun v1330 k0_hw56 => k0_hw56

def k0_chk57 (v1338 : IVec S16 32) : Prop :=
  (∀ a x, ((![v1338] : Fin 1 → IVec S16 32) a x).toNat < S512.size a)
theorem k0_idx25_inb : ∀ (v1338 : IVec S16 32) (k0_hw57 : k0_chk57 v1338), ∀ a x, ((![v1338] : Fin 1 → IVec S16 32) a x).toNat < S512.size a := fun v1338 k0_hw57 => k0_hw57

def k0_chk58 (v1346 : IVec S16 32) : Prop :=
  (∀ a x, ((![v1346] : Fin 1 → IVec S16 32) a x).toNat < S512.size a)
theorem k0_idx26_inb : ∀ (v1346 : IVec S16 32) (k0_hw58 : k0_chk58 v1346), ∀ a x, ((![v1346] : Fin 1 → IVec S16 32) a x).toNat < S512.size a := fun v1346 k0_hw58 => k0_hw58

def k0_chk59 (v1354 : IVec S16 32) : Prop :=
  (∀ a x, ((![v1354] : Fin 1 → IVec S16 32) a x).toNat < S512.size a)
theorem k0_idx27_inb : ∀ (v1354 : IVec S16 32) (k0_hw59 : k0_chk59 v1354), ∀ a x, ((![v1354] : Fin 1 → IVec S16 32) a x).toNat < S512.size a := fun v1354 k0_hw59 => k0_hw59

def k0_chk60 (v1362 : IVec S16 32) : Prop :=
  (∀ a x, ((![v1362] : Fin 1 → IVec S16 32) a x).toNat < S512.size a)
theorem k0_idx28_inb : ∀ (v1362 : IVec S16 32) (k0_hw60 : k0_chk60 v1362), ∀ a x, ((![v1362] : Fin 1 → IVec S16 32) a x).toNat < S512.size a := fun v1362 k0_hw60 => k0_hw60

def k0_chk61 (v1370 : IVec S16 32) : Prop :=
  (∀ a x, ((![v1370] : Fin 1 → IVec S16 32) a x).toNat < S512.size a)
theorem k0_idx29_inb : ∀ (v1370 : IVec S16 32) (k0_hw61 : k0_chk61 v1370), ∀ a x, ((![v1370] : Fin 1 → IVec S16 32) a x).toNat < S512.size a := fun v1370 k0_hw61 => k0_hw61

def k0_chk62 (v1378 : IVec S16 32) : Prop :=
  (∀ a x, ((![v1378] : Fin 1 → IVec S16 32) a x).toNat < S512.size a)
theorem k0_idx30_inb : ∀ (v1378 : IVec S16 32) (k0_hw62 : k0_chk62 v1378), ∀ a x, ((![v1378] : Fin 1 → IVec S16 32) a x).toNat < S512.size a := fun v1378 k0_hw62 => k0_hw62

def k0_chk63 (v1386 : IVec S16 32) : Prop :=
  (∀ a x, ((![v1386] : Fin 1 → IVec S16 32) a x).toNat < S512.size a)
theorem k0_idx31_inb : ∀ (v1386 : IVec S16 32) (k0_hw63 : k0_chk63 v1386), ∀ a x, ((![v1386] : Fin 1 → IVec S16 32) a x).toNat < S512.size a := fun v1386 k0_hw63 => k0_hw63

def k0_chk64 (v1394 : IVec S16 32) : Prop :=
  (∀ a x, ((![v1394] : Fin 1 → IVec S16 32) a x).toNat < S512.size a)
theorem k0_idx32_inb : ∀ (v1394 : IVec S16 32) (k0_hw64 : k0_chk64 v1394), ∀ a x, ((![v1394] : Fin 1 → IVec S16 32) a x).toNat < S512.size a := fun v1394 k0_hw64 => k0_hw64
def k0_off65 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x100000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 68
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x1, .i32⟩
  | .hbm, ⟨25, _⟩ => ⟨S1024x2, .i32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S1024x1, .i32⟩
  | .hbm, ⟨62, _⟩ => ⟨S1024x1, .i32⟩
  | .hbm, ⟨63, _⟩ => ⟨S1024x2, .i32⟩
  | .hbm, ⟨64, _⟩ => ⟨S1024x100000, .f32⟩
  | .hbm, ⟨65, _⟩ => ⟨S_, .f32⟩
  | .hbm, ⟨66, _⟩ => ⟨S1024x100000, .f32⟩
  | .hbm, ⟨67, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_11 : Ref sig .tc := ⟨.hbm, 54, rfl⟩
abbrev main_v39 : Ref sig .tc := ⟨.hbm, 55, rfl⟩
abbrev main_v40 : Ref sig .tc := ⟨.hbm, 56, rfl⟩
abbrev main_c_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Words.lean ====
/-
  The label arithmetic of the kernel, on words.

  A label is first clamped below at zero.  The clamped word `w`, below 100000, is split as
  `16 * (w / 16) + w % 16`: the first part is the column where a row's sixteen-column chunk
  starts, the second is the lane of the label inside that chunk.
-/
module

public import proofs.«01_k».proof.Defs
public import Idealize.ShloMosaic.Lib.Routing.Words
public import Idealize.ShloMosaic.Lib.Tactic
public import proofs.«01_k».proof.Proof.Gen.KernelIdeal

@[expose] public section

noncomputable section

namespace Cert.KernelIdeal.Pf

open Idealize.ShloMosaic
open Cert.KernelIdeal Cert.KernelIdeal.Gen

variable {F : FTy → Type} [FloatOps F]

/-- The column a label selects: the label itself, or zero if it is negative. -/
def col (w : BitVec 32) : ℕ := w.toInt.toNat

/-- The clamped label is the word of its column. -/
theorem max_zero (w : BitVec 32) : IntOp.maxsi w 0#32 = BitVec.ofNat 32 (col w) := by
  unfold IntOp.maxsi col
  have h0 : (0#32 : BitVec 32).toInt = 0 := by decide
  by_cases hs : (0#32 : BitVec 32).slt w
  · rw [if_pos hs]
    rw [BitVec.slt_iff_toInt_lt, h0] at hs
    have := BitVec.toInt_eq_toNat_cond w
    have hl := w.isLt
    apply BitVec.eq_of_toNat_eq
    rw [BitVec.toNat_ofNat]
    split at this <;> omega
  · rw [if_neg hs]
    rw [BitVec.slt_iff_toInt_lt, h0] at hs
    have : w.toInt.toNat = 0 := by omega
    rw [this]

/-- Chunk column of a clamped label. -/
theorem chunkCol (a : ℕ) (ha : a < 100000) : (k0_mult1 (BitVec.ofNat 32 a)).toNat = 16 * (a / 16) := by
  have hd : Scalar.divsi (BitVec.ofNat 32 a) 16#32 = BitVec.ofNat 32 (a / 16) :=
    Routing.divsi_word _ (by omega) (by omega) (by omega)
  have hr : Scalar.remsi (BitVec.ofNat 32 a) 16#32 = BitVec.ofNat 32 (a % 16) :=
    Routing.remsi_word _ (by omega) (by omega) (by omega)
  unfold k0_mult1
  simp only [hd, hr]
  rcases Nat.eq_zero_or_pos a with rfl | hpos
  · decide
  · have h1 : Scalar.cmpi .sgt (BitVec.ofNat 32 a) 0#32 = 1#1 := by
      have : (0#32 : BitVec 32).slt (BitVec.ofNat 32 a) = true := by
        have h0 : (0#32 : BitVec 32).toInt = 0 := by decide
        rw [BitVec.slt_iff_toInt_lt, h0, BitVec.toInt_ofNat', Int.bmod_def]
        push_cast; split <;> omega
      simp [Scalar.cmpi, IntOp.cmpi, this]
    have h2 : Scalar.cmpi .slt (BitVec.ofNat 32 a) 0#32 = 0#1 := by
      have : (BitVec.ofNat 32 a).slt (0#32 : BitVec 32) = false := by
        rw [Bool.eq_false_iff, Ne, BitVec.slt_iff_toInt_lt, BitVec.toInt_ofNat', Int.bmod_def]
        have h0 : (0#32 : BitVec 32).toInt = 0 := by decide
        rw [h0]; push_cast; split <;> omega
      simp [Scalar.cmpi, IntOp.cmpi, this]
    rw [h1, h2]
    have h3 : Scalar.cmpi .ne (Scalar.subi (Scalar.extui 1#1) (Scalar.extui 0#1))
        (Scalar.subi (Scalar.extui (Scalar.cmpi .sgt 16#32 0#32)) (Scalar.extui (Scalar.cmpi .slt 16#32 0#32)) : BitVec 32) = 0#1 := by
      decide
    rw [h3]
    have h4 : ∀ b : BitVec 1, Scalar.andi 0#1 b = 0#1 := by decide
    rw [h4]
    have h5 : ∀ x y : BitVec 32, Scalar.select 0#1 x y = y := fun x y => rfl
    rw [h5]
    rw [Scalar.muli, IntOp.muli, BitVec.toNat_mul, BitVec.toNat_ofNat]
    simp; omega

/-- First row of a tile: core `i 0`, subcore `i 1`. -/
def row0 (i : grid0.Coords) : ℕ := 32 * (2 * (i 1).val + (i 0).val)

theorem row0_le (i : grid0.Coords) : row0 i + 32 ≤ 1024 := by
  have h0 : (i 0).val < 2 := (i 0).isLt
  have h1 : (i 1).val < 16 := (i 1).isLt
  unfold row0; omega

/-- The word the kernel computes for a tile's first row. -/
def row0W (i : grid0.Coords) : BitVec 32 :=
  Scalar.muli (Scalar.addi (Scalar.muli (BitVec.ofNat 32 (i 1).val) 2#32) (BitVec.ofNat 32 (i 0).val)) 32#32

theorem row0W_eq (i : grid0.Coords) : row0W i = BitVec.ofNat 32 (row0 i) := by
  have h0 : (i 0).val < 2 := (i 0).isLt
  have h1 : (i 1).val < 16 := (i 1).isLt
  unfold row0W row0 Scalar.muli Scalar.addi IntOp.muli IntOp.addi
  apply BitVec.eq_of_toNat_eq
  simp only [BitVec.toNat_mul, BitVec.toNat_add, BitVec.toNat_ofNat]
  omega

theorem off1_eq (i : grid0.Coords) : k0_off1 i = ![row0 i] := by
  show ![(row0W i).toNat] = _
  rw [row0W_eq, BitVec.toNat_ofNat, Nat.mod_eq_of_lt (by have := row0_le i; omega)]

theorem off65_eq (i : grid0.Coords) : k0_off65 i = ![row0 i] := off1_eq i

/-- Where a row's chunk starts, as the kernel computes it from the row's number in the tile and the
    clamped label. -/
def chunkOff (i : grid0.Coords) (r : ℕ) (w : BitVec 32) : Fin 2 → ℕ :=
  ![(Scalar.addi (row0W i) (BitVec.ofNat 32 r)).toNat, (k0_mult1 w).toNat]

/-- The same, in numbers. -/
theorem chunkOff_eq (i : grid0.Coords) (r : ℕ) (hr : r < 32) (a : ℕ) (ha : a < 100000) :
    chunkOff i r (BitVec.ofNat 32 a) = ![row0 i + r, 16 * (a / 16)] := by
  unfold chunkOff
  rw [chunkCol a ha, row0W_eq, Scalar.addi, IntOp.addi, BitVec.toNat_add, BitVec.toNat_ofNat, BitVec.toNat_ofNat]
  have := row0_le i
  rw [Nat.mod_eq_of_lt (show row0 i < 2 ^ 32 by omega), Nat.mod_eq_of_lt (show r < 2 ^ 32 by omega),
    Nat.mod_eq_of_lt (by omega)]

/-- A chunk lies inside the table. -/
theorem chunkOff_inb (i : grid0.Coords) (r : ℕ) (hr : r < 32) (a : ℕ) (ha : a < 100000) :
    ∀ b, chunkOff i r (BitVec.ofNat 32 a) b + S1x16.size b ≤ S1024x100000.size b := by
  rw [chunkOff_eq i r hr a ha]
  have := row0_le i
  intro b
  match b with
  | 0 => show row0 i + r + 1 ≤ 1024; omega
  | 1 => show 16 * (a / 16) + 16 ≤ 100000; omega

theorem chunkCol_dvd (a : ℕ) (ha : a < 100000) : 16 ∣ (k0_mult1 (BitVec.ofNat 32 a)).toNat := by
  rw [chunkCol a ha]; exact Nat.dvd_mul_right _ _

/-- The three facts a row's copy is checked for. -/
theorem row_ok (i : grid0.Coords) (r : ℕ) (hr : r < 32) (a : ℕ) (ha : a < 100000) :
    16 ∣ (k0_mult1 (BitVec.ofNat 32 a)).toNat ∧
    (∀ b, chunkOff i r (BitVec.ofNat 32 a) b + S1x16.size b ≤ S1024x100000.size b) ∧
    (∀ b, chunkOff i r (BitVec.ofNat 32 a) b + S1x16.size b ≤ S1024x100000.size b) :=
  ⟨chunkCol_dvd a ha, chunkOff_inb i r hr a ha, chunkOff_inb i r hr a ha⟩

theorem chk1_ok (i : grid0.Coords) (a : ℕ) (ha : a < 100000) : k0_chk1 i (BitVec.ofNat 32 a) :=
  row_ok i 0 (by decide) a ha
theorem chk31_ok (i : grid0.Coords) (a : ℕ) (ha : a < 100000) : k0_chk31 i (BitVec.ofNat 32 a) :=
  row_ok i 30 (by decide) a ha
theorem off2_eq (i : grid0.Coords) (w : BitVec 32) : k0_off2 i w = chunkOff i 0 w := rfl
theorem off33_eq (i : grid0.Coords) (w : BitVec 32) : k0_off33 i w = chunkOff i 31 w := rfl

/-! ## Lanes -/

/-- Lane of a clamped label: the remainder by sixteen, whose correction for signs never applies. -/
theorem lane_word (a : ℕ) (ha : a < 100000) :
    Scalar.select (Scalar.andi (Scalar.xori (Scalar.cmpi .slt (IntOp.remsi .vector (BitVec.ofNat 32 a) 16#32) 0#32)
        (Scalar.cmpi .slt 16#32 0#32)) (Scalar.cmpi .ne (IntOp.remsi .vector (BitVec.ofNat 32 a) 16#32) 0#32))
      (Scalar.addi (IntOp.remsi .vector (BitVec.ofNat 32 a) 16#32) 16#32) (IntOp.remsi .vector (BitVec.ofNat 32 a) 16#32)
      = BitVec.ofNat 32 (a % 16) := by
  rw [Routing.remsi_word _ (by omega) (by omega) (by omega)]
  have hb : a % 16 < 16 := Nat.mod_lt _ (by omega)
  generalize a % 16 = b at hb
  revert hb
  revert b
  decide

end Cert.KernelIdeal.Pf

end
-- ==== Proof.Base.lean ====
/-
  The launch's set-up: the program as the launch theorem sees it, the ghost state, the buffers a
  tile works on, and what the tile leaves in its part of the result.
-/
module

public import proofs.«01_k».proof.Proof.Words
public import Idealize.ShloMosaic.Lib.SparseCore.Quiescent
public import Idealize.ShloMosaic.Lib.SparseCore.Ops
public import Idealize.ShloMosaic.Lib.Batch
public import Idealize.ShloMosaic.Lib.Transfers
public import Idealize.ShloMosaic.Lib.ValueIdxCore
public import Idealize.ShloMosaic.Lib.StableHlo.Run
public import proofs.«01_k».proof.Proof.Gen.KernelIdeal.Skeleton
public import proofs.«01_k».proof.Proof.Gen.KernelIdeal.Launch

@[expose] public section

noncomputable section

namespace Cert.KernelIdeal.Pf

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the TensorCore pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The copies' counters. -/
abbrev EC : UEmb Counters (MT nD τ sig (HIx 1) (Elt F) ℕ UU ℕ) := countersEmb (U := UU)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers -/

/-- A tile's core and subcore. -/
abbrev cV (L : grid0.Coords) : Fin τ.nSC := (L 0).castLE hcore0
abbrev jV (L : grid0.Coords) : Fin τ.nSub := (L 1).castLE hsub0
/-- A tile's thread. -/
abbrev thr (d : Dev nD) (L : grid0.Coords) : Thread nD τ := V d (cV L) (jV L)

/-- The logits, the labels, the gathered targets, as locations of a device. -/
abbrev xLoc (d : Dev nD) : Loc nD τ sig := (SparseCore.T d).loc main_arg0
abbrev lLoc (d : Dev nD) : Loc nD τ sig := (SparseCore.T d).loc main_arg1
abbrev tLoc (d : Dev nD) : Loc nD τ sig := (SparseCore.T d).loc main_v0

abbrev xV : Memref sig .scVector .hbm S1024x100000 .f32 := Memref.whole main_arg0_scv
abbrev lV : Memref sig .scVector .hbm S1024 .i32 := Memref.whole main_arg1_scv
abbrev tV : Memref sig .scVector .hbm S1024 .f32 := Memref.whole main_v0_scv
/-- A tile's scratch: its labels, its chunks, its targets. -/
abbrev sL : Memref sig .scVector .vmem S32 .i32 := Memref.whole cc0_scratch0
abbrev sC : Memref sig .scVector .vmem S512 .f32 := Memref.whole cc0_scratch1
abbrev sT : Memref sig .scVector .vmem S32 .f32 := Memref.whole cc0_scratch2

/-! ## What a tile computes -/

/-- The word at position `n` of the label array. -/
def labAt (lab : IVec S1024 32) (n : ℕ) : BitVec 32 := lab (ix1 (Fin.ofNat 1024 n))

/-- The entry of the logits at row `r`, column `c`. -/
def cell (x : S1024x100000.Idx → F .f32) (r c : ℕ) : F .f32 :=
  x (ix2 (Fin.ofNat 1024 r) (Fin.ofNat 100000 c))

/-- Position of an index of a one-axis array. -/
abbrev at0 {n : ℕ} (j : (⟨1, ![n]⟩ : Shape).Idx) : ℕ := (j 0).val

/-- Column where row `n`'s chunk starts. -/
def chunk0 (lab : IVec S1024 32) (n : ℕ) : ℕ := 16 * (col (labAt lab n) / 16)

/-- What the sixteen lanes read when row `n` of their group is looked up: each lane its own label's
    lane inside row `n`'s chunk. -/
def look (lab : IVec S1024 32) (x : S1024x100000.Idx → F .f32) (g n : ℕ) : FVec F S16 .f32 :=
  fun j => cell x (16 * g + n) (chunk0 lab (16 * g + n) + col (labAt lab (16 * g + at0 j)) % 16)

variable [FloatOps F]

/-- The lanes' running sum after the first rows of a list of looked-up rows: row `n` is kept in
    lane `n` and zero elsewhere. -/
def accum (v : ℕ → FVec F S16 .f32) : ℕ → FVec F S16 .f32
  | 0 => broadcast S16 (Scalar.ofBits .f32 0x00000000#32)
  | n + 1 => addf (accum v n)
      (select (cmpi .eq (iota .scVector S16 32 [0] iota_S16_d0_w32_scVector) (broadcast S16 (BitVec.ofNat 32 n))) (v n)
        (broadcast S16 (Scalar.ofBits .f32 0x00000000#32)))

/-- The targets of one group of sixteen rows. -/
def group (lab : IVec S1024 32) (x : S1024x100000.Idx → F .f32) (g : ℕ) : FVec F S16 .f32 :=
  accum (look lab x g) 16

/-- The target of every row: what the SparseCore call leaves in its result. -/
def target (lab : IVec S1024 32) (x : S1024x100000.Idx → F .f32) : FVec F S1024 .f32 :=
  fun j => group lab x (at0 j / 16) (ix1 (Fin.ofNat 16 (at0 j)))

end Cert.KernelIdeal.Pf

end
-- ==== Proof.Chunk.lean ====
/-
  The chunks a tile copies: row `t`'s sixteen columns of the logits go to positions `16 t` to
  `16 t + 15` of the tile's chunk buffer, and what the thirty-two copies leave there.
-/
module

public import proofs.«01_k».proof.Proof.Base

@[expose] public section

noncomputable section

namespace Cert.KernelIdeal.Pf

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type}

local notation "𝕄" => MT nD τ sig (HIx 1) (Elt F) ℕ UU ℕ

/-- Every label's column lies in the table. -/
def InTable (lab : IVec S1024 32) : Prop := ∀ n, col (labAt lab n) < 100000

/-- A chunk of the logits at an offset, and sixteen positions of the chunk buffer. -/
abbrev srcM (off : Fin 2 → ℕ) (h : ∀ a, off a + S1x16.size a ≤ S1024x100000.size a) : Memref sig .scVector .hbm S16 .f32 :=
  (xV.slice (Rect.unit (s := S1024x100000) off S1x16.size h) (fun _ => rfl)).squeeze S16 squeezes_S1x16_S16
abbrev dstM (off : Fin 1 → ℕ) (h : ∀ a, off a + S16.size a ≤ S512.size a) : Memref sig .scVector .vmem S16 .f32 :=
  sC.slice (Rect.unit (s := S512) off S16.size h) (fun _ => rfl)

theorem src0_lt {off : Fin 2 → ℕ} (h : ∀ a, off a + S1x16.size a ≤ S1024x100000.size a) : off 0 < 1024 := h 0
theorem src1_lt {off : Fin 2 → ℕ} (h : ∀ a, off a + S1x16.size a ≤ S1024x100000.size a) (j : Fin 16) : off 1 + j.val < 100000 := by
  have : off 1 + 16 ≤ 100000 := h 1
  omega
theorem dst_lt {off : Fin 1 → ℕ} (h : ∀ a, off a + S16.size a ≤ S512.size a) (j : Fin 16) : off 0 + j.val < 512 := by
  have : off 0 + 16 ≤ 512 := h 0
  omega

/-- Where a chunk's column `j` lies in the logits. -/
theorem srcM_emb (off : Fin 2 → ℕ) (h : ∀ a, off a + S1x16.size a ≤ S1024x100000.size a) (j : S16.Idx) :
    (srcM off h).view.emb j = ix2 ⟨off 0, src0_lt h⟩ ⟨off 1 + (j 0).val, src1_lt h (j 0)⟩ := by
  show (Rect.unit (s := S1024x100000) off S1x16.size h).emb (Shape.reshapeEquiv squeezes_S1x16_S16.numel_eq j) = _
  have e : Shape.reshapeEquiv squeezes_S1x16_S16.numel_eq j = (Fin.cons ⟨0, Nat.one_pos⟩ j : S1x16.Idx) :=
    Shape.reshapeEquiv_cons_one (n := 1) (d := ![16]) _ j
  rw [e]
  funext a
  apply Fin.ext
  rw [Rect.emb_apply]
  match a with
  | ⟨0, _⟩ => show off 0 + 1 * 0 = off 0; omega
  | ⟨1, _⟩ => show off 1 + 1 * (j 0).val = off 1 + (j 0).val; omega

/-- Where position `j` of a window lies in the chunk buffer. -/
theorem dstM_emb (off : Fin 1 → ℕ) (h : ∀ a, off a + S16.size a ≤ S512.size a) (j : S16.Idx) :
    (dstM off h).view.emb j = ix1 ⟨off 0 + (j 0).val, dst_lt h (j 0)⟩ := by
  show (Rect.unit (s := S512) off S16.size h).emb j = _
  funext a
  apply Fin.ext
  rw [Rect.emb_apply]
  match a with
  | ⟨0, _⟩ => show off 0 + 1 * (j 0).val = off 0 + (j 0).val; omega

/-- Row `t`'s chunk starts here. -/
abbrev offX (lab : IVec S1024 32) (L : grid0.Coords) (t : ℕ) : Fin 2 → ℕ := ![row0 L + t, chunk0 lab (row0 L + t)]
abbrev offC (t : ℕ) : Fin 1 → ℕ := ![16 * t]

theorem offX_inb (lab : IVec S1024 32) (hl : InTable lab) (L : grid0.Coords) (t : Fin 32) :
    ∀ a, offX lab L t a + S1x16.size a ≤ S1024x100000.size a := by
  have h0 := row0_le L
  have h1 := hl (row0 L + t.val)
  intro a
  match a with
  | ⟨0, _⟩ => show row0 L + t.val + 1 ≤ 1024; omega
  | ⟨1, _⟩ => show 16 * (col (labAt lab (row0 L + t.val)) / 16) + 16 ≤ 100000; omega

theorem offC_inb (t : Fin 32) : ∀ a, offC t a + S16.size a ≤ S512.size a := by
  intro a
  match a with
  | ⟨0, _⟩ => show 16 * t.val + 16 ≤ 512; omega

/-- The positions of row `t`'s chunk. -/
abbrev win (t : Fin 32) : Finset S512.Idx := (dstM (offC t) (offC_inb t)).view.set

theorem mem_win (t : Fin 32) (i : S512.Idx) : i ∈ win t ↔ (i 0).val / 16 = t.val := by
  constructor
  · intro hi
    obtain ⟨j, -, rfl⟩ := Finset.mem_map.mp hi
    rw [dstM_emb]
    have : (j 0).val < 16 := (j 0).isLt
    show (16 * t.val + (j 0).val) / 16 = t.val
    omega
  · intro hi
    refine Finset.mem_map.mpr ⟨ix1 ⟨(i 0).val % 16, Nat.mod_lt _ (by decide)⟩, Finset.mem_univ _, ?_⟩
    rw [dstM_emb, eq_ix1 i]
    congr 1
    apply Fin.ext
    show 16 * t.val + (i 0).val % 16 = (i 0).val
    omega

theorem win_disjoint : ∀ i ∈ (Finset.univ : Finset (Fin 32)), ∀ j ∈ (Finset.univ : Finset (Fin 32)), i ≠ j → Disjoint (win i) (win j) :=
  fun i _ j _ h => Finset.disjoint_left.mpr fun _ hi hj => h (Fin.ext (((mem_win i _).1 hi).symm.trans ((mem_win j _).1 hj)))

theorem win_cover : (Finset.univ : Finset (Fin 32)).biUnion win = Finset.univ := by
  ext i
  have : (i 0).val < 512 := (i 0).isLt
  simp only [Finset.mem_biUnion, Finset.mem_univ, true_and, iff_true]
  exact ⟨⟨(i 0).val / 16, by omega⟩, (mem_win _ _).2 rfl⟩

/-- What the chunk buffer holds once every copy has landed. -/
def chunks (lab : IVec S1024 32) (x : S1024x100000.Idx → F .f32) (L : grid0.Coords) : S512.Idx → F .f32 :=
  fun j => cell x (row0 L + (j 0).val / 16) (chunk0 lab (row0 L + (j 0).val / 16) + (j 0).val % 16)

/-- A copy lands its row's chunk. -/
theorem landed (lab : IVec S1024 32) (hl : InTable lab) (x : S1024x100000.Idx → F .f32) (L : grid0.Coords) (t : Fin 32)
    (f : S512.Idx → F .f32) :
    ∀ i ∈ win t, (dstM (offC t) (offC_inb t)).view.write (Elt F) f
      ((srcM (offX lab L t) (offX_inb lab hl L t)).view.read (Elt F) x) Finset.univ i = chunks lab x L i := by
  intro i hi
  have h16 := (mem_win t i).1 hi
  obtain ⟨j, -, rfl⟩ := Finset.mem_map.mp hi
  have hj : (j 0).val < 16 := (j 0).isLt
  rw [View.write_emb_of_mem _ _ (Finset.mem_univ _)]
  show (srcM (offX lab L t) (offX_inb lab hl L t)).view.read (Elt F) x j = _
  show x ((srcM (offX lab L t) (offX_inb lab hl L t)).view.emb j) = _
  rw [srcM_emb, dstM_emb]
  unfold chunks cell
  have h0 := row0_le L
  have h1 := hl (row0 L + t.val)
  have e1 : (16 * t.val + (j 0).val) / 16 = t.val := by omega
  have e2 : (16 * t.val + (j 0).val) % 16 = (j 0).val := by omega
  show x (ix2 _ _) = x (ix2 (Fin.ofNat 1024 (row0 L + (16 * t.val + (j 0).val) / 16))
    (Fin.ofNat 100000 (chunk0 lab (row0 L + (16 * t.val + (j 0).val) / 16) + (16 * t.val + (j 0).val) % 16)))
  rw [e1, e2]
  congr 1
  have a1 : (⟨row0 L + t.val, by omega⟩ : Fin 1024) = Fin.ofNat 1024 (row0 L + t.val) :=
    Fin.ext (Nat.mod_eq_of_lt (by omega)).symm
  have hc : chunk0 lab (row0 L + t.val) + (j 0).val < 100000 := by unfold chunk0; omega
  have a2 : (⟨chunk0 lab (row0 L + t.val) + (j 0).val, hc⟩ : Fin 100000) = Fin.ofNat 100000 (chunk0 lab (row0 L + t.val) + (j 0).val) :=
    Fin.ext (Nat.mod_eq_of_lt hc).symm
  rw [← a1, ← a2]
  rfl

end Cert.KernelIdeal.Pf

end
-- ==== Proof.Steps.lean ====
/-
  The two moves a tile makes thirty-two times: issue row `r`'s copy on the shared semaphore, and
  wait for one copy there.
-/
module

public import proofs.«01_k».proof.Proof.Chunk

@[expose] public section

noncomputable section

namespace Cert.KernelIdeal.Pf

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Gen

variable {F : FTy → Type}

local notation "𝕄" => MT nD τ sig (HIx 1) (Elt F) ℕ UU ℕ

/-- The credit of one sixteen-element copy. -/
abbrev NC : ℕ := (dstM (offC 0) (offC_inb 0)).view.dmaCredit
theorem NC_pos : 0 < NC := View.dmaCredit_pos _ (by decide)

/-- The semaphore the thirty-two copies share. -/
abbrev cSem : SemLoc sig := .dma cc0_scratch3.sem

/-- The chunk buffer of a tile. -/
abbrev cLoc (d : Dev nD) (L : grid0.Coords) : Loc nD τ sig := (thr d L).loc cc0_scratch1

variable (d : Dev nD) (L : grid0.Coords) (lab : IVec S1024 32) (hl : InTable lab)
  (x : Buf (Elt F) (xLoc d)) (q : PosShare TreeShare) (f₀ : Buf (Elt F) (cLoc d L))

/-- The part of the logits row `t`'s copy reads. -/
abbrev xWin (t : Fin 32) : Finset S1024x100000.Idx := (srcM (offX lab L t) (offX_inb lab hl L t)).view.set

/-- What row `t`'s copy is given, -/
def given (t : Fin 32) : sProp 𝕄 :=
  iprop((xLoc d ↦[xWin L lab hl t]{shareTok q 32 t} x) ∗ (cLoc d L ↦[win t]{fullShare} f₀))

/-- and what it delivers. -/
def delivered (t : Fin 32) : sProp 𝕄 :=
  iprop((cLoc d L ↦[win t]{fullShare} (chunks lab x L : Buf (Elt F) (cLoc d L))) ∗ (xLoc d ↦[xWin L lab hl t]{shareTok q 32 t} x))

instance delivered_storable (t : Fin 32) : BI.Storable (upEmb : UEmb _ 𝕄) (delivered d L lab hl x q t) := by
  unfold delivered; infer_instance

/-- The tile's state after its first `r` copies are issued. -/
def issued (r : ℕ) : sProp 𝕄 :=
  iprop(Batch EC (thr d L) cSem none NC (delivered d L lab hl x q) r 0 ∗ bigSep (pending r) (given d L lab hl x q f₀))

/-- The tile's state after its first `u` waits. -/
def waited (O : CellTallies nD τ sig (HIx 1)) (W : Waits sig (HIx 1)) (u : ℕ) : sProp 𝕄 :=
  iprop(Batch EC (thr d L) cSem none NC (delivered d L lab hl x q) 32 (u * NC)
    ∗ ∃ W', ⌜∀ p ∈ W', p ∈ W ∨ p.2 = none⌝ ∗ owes (thr d L) O W')

variable [FloatOps F]

/-- Row `r`'s copy is issued. -/
theorem issue_step (r : ℕ) (hr : r < 32) {off : Fin 2 → ℕ} {h : ∀ a, off a + S1x16.size a ≤ S1024x100000.size a}
    {off' : Fin 1 → ℕ} {h' : ∀ a, off' a + S16.size a ≤ S512.size a} (e : off = offX lab L r) (e' : off' = offC r)
    {hsrc : (srcM off h).view.WordExact} {hdst : (dstM off' h').view.WordExact}
    {hsem : DmaTarget.Typed (nD := nD) (τ := τ) (p := (thr d L).2) .hbm cSem (.here (dstM off' h'))} {α : Type}
    {k : PUnit → Prog (TpuEff nD τ sig (Elt F) Λ₀ (thr d L).2) α} {Q : α → sProp 𝕄} :
    issued d L lab hl x q f₀ r
      ⊢ iprop((issued d L lab hl x q f₀ (r + 1) -∗ wp frame (wpE (defs₀ (F := F)) 𝒱₀ (thr d L) none) Set.univ (k ⟨⟩) Q)
        -∗ wp frame (wpE (defs₀ (F := F)) 𝒱₀ (thr d L) none) Set.univ
          (.op (.enqueueDma (srcM off h) (.here (dstM off' h')) cSem hsrc hdst hsem) k) Q) := by
  subst e e'
  unfold issued
  rw [bigSep_pending_step _ r hr]
  iintro ⟨HB, ⟨Hg, Hp⟩⟩ Hk
  unfold given
  icases Hg with ⟨Hx, Hc⟩
  iapply (wp_dmaBatch EC 𝒱₀ (thr d L) none (src := srcM (offX lab L r) h) (dst := dstM (offC r) h') (q := shareTok q 32 ⟨r, hr⟩) (fs := x) (fd := f₀)
    (Sd := win ⟨r, hr⟩) (D := delivered d L lab hl x q) (j := r) (u := 0) none NC rfl (Finset.Subset.refl _) hr (Nat.zero_le _) ?_) $$ [Hx Hc HB]
  · unfold delivered
    refine sep_mono (Entails.of_eq (pointsTo_congr (landed lab hl x L ⟨r, hr⟩ f₀))) .rfl
  · isplitl [Hx]; · iexact Hx
    isplitl [Hc]; · iexact Hc
    iexact HB
  iintro HB
  iapply Hk
  isplitl [HB]; · iexact HB
  iexact Hp

/-- One copy is waited for, not the last. -/
theorem wait_step (u : ℕ) (hu : u < 31) {O : CellTallies nD τ sig (HIx 1)} {W : Waits sig (HIx 1)}
    {s' : Shape} {e₂ : EltTy} {sp' : Space} {srcw : Memref sig (thr d L).2.kind sp' s' e₂}
    {off' : Fin 1 → ℕ} {h' : ∀ a, off' a + S16.size a ≤ S512.size a}
    {hsrc : srcw.view.WordExact} {hdst : (dstM off' h').view.WordExact} {α : Type}
    {k : PUnit → Prog (TpuEff nD τ sig (Elt F) Λ₀ (thr d L).2) α} {Q : α → sProp 𝕄} :
    iprop(MayWaits (thr d L) none O ∗ waited d L lab hl x q O W u)
      ⊢ iprop((waited d L lab hl x q O W (u + 1) -∗ wp frame (wpE (defs₀ (F := F)) 𝒱₀ (thr d L) none) Set.univ (k ⟨⟩) Q)
        -∗ wp frame (wpE (defs₀ (F := F)) 𝒱₀ (thr d L) none) Set.univ
          (.op (.waitDma2 cc0_scratch3.sem srcw (dstM off' h') hsrc hdst) k) Q) := by
  unfold waited
  iintro ⟨#HM, HB, %W', %hW, HO⟩ Hk
  have hN := NC_pos
  iapply (wp_waitBatchO EC 𝒱₀ (thr d L) none (dstw := dstM off' h') none (N := NC) rfl (D := delivered d L lab hl x q) (u := u * NC)
    (by nlinarith) (O := O) (W := W')) $$ [HB HO]
  · isplitl [HB]; · iexact HB
    isplitl [HO]; · iexact HO
    iapply (MayWaits.elim cSem); iexact HM
  iintro ⟨HB, HO⟩
  iapply Hk
  rw [Nat.succ_mul]
  isplitl [HB]; · iexact HB
  iexists (insert (cSem, none) W')
  isplitr
  · ipureintro
    intro p hp
    rcases Finset.mem_insert.mp hp with rfl | hp
    · exact Or.inr rfl
    · exact hW p hp
  · iexact HO

/-- The last copy is waited for: everything is delivered. -/
theorem wait_last {O : CellTallies nD τ sig (HIx 1)} {W : Waits sig (HIx 1)}
    {s' : Shape} {e₂ : EltTy} {sp' : Space} {srcw : Memref sig (thr d L).2.kind sp' s' e₂}
    {off' : Fin 1 → ℕ} {h' : ∀ a, off' a + S16.size a ≤ S512.size a}
    {hsrc : srcw.view.WordExact} {hdst : (dstM off' h').view.WordExact} {α : Type}
    {k : PUnit → Prog (TpuEff nD τ sig (Elt F) Λ₀ (thr d L).2) α} {Q : α → sProp 𝕄} :
    iprop(MayWaits (thr d L) none O ∗ waited d L lab hl x q O W 31)
      ⊢ iprop((iprop(bigSep Finset.univ (delivered d L lab hl x q) ∗ semVal (thr d L, cSem) 0
            ∗ ∃ W', ⌜∀ p ∈ W', p ∈ W ∨ p.2 = none⌝ ∗ owes (thr d L) O W')
          -∗ wp frame (wpE (defs₀ (F := F)) 𝒱₀ (thr d L) none) Set.univ (k ⟨⟩) Q)
        -∗ wp frame (wpE (defs₀ (F := F)) 𝒱₀ (thr d L) none) Set.univ
          (.op (.waitDma2 cc0_scratch3.sem srcw (dstM off' h') hsrc hdst) k) Q) := by
  unfold waited
  iintro ⟨#HM, HB, %W', %hW, HO⟩ Hk
  have hN := NC_pos
  iapply (wp_waitBatchLastO EC 𝒱₀ (thr d L) none (dstw := dstM off' h') none (N := NC) rfl hN (D := delivered d L lab hl x q) (u := 31 * NC)
    (by omega) (O := O) (W := W')) $$ [HB HO]
  · isplitl [HB]; · iexact HB
    isplitl [HO]; · iexact HO
    iapply (MayWaits.elim cSem); iexact HM
  iintro ⟨HD, HS, HO⟩
  iapply Hk
  isplitl [HD]; · iexact HD
  isplitl [HS]; · iexact HS
  iexists (insert (cSem, none) W')
  isplitr
  · ipureintro
    intro p hp
    rcases Finset.mem_insert.mp hp with rfl | hp
    · exact Or.inr rfl
    · exact hW p hp
  · iexact HO

/-! ## Labels read back -/

/-- The tile's labels in its label buffer. -/
def Labels (fl : S32.Idx → BitVec 32) : Prop := ∀ j, fl j = labAt lab (row0 L + (j 0).val)

/-- A load of sixteen labels, clamped below at zero. -/
theorem clamped (fl : Buf (Elt F) ((thr d L).loc cc0_scratch0)) (hf : Labels L lab fl) {o : Fin 1 → ℕ}
    {h : ∀ a, o a + S16.size a ≤ S32.size a} {hc : S16.ShapeCasts S16} (j : S16.Idx) :
    maxsi (shapeCast S16 (sL.view.readAt (Elt F) (Rect.unit (s := S32) o S16.size h).toLoadRect fl : IVec S16 32) hc) (broadcast S16 0#32) j
      = BitVec.ofNat 32 (col (labAt lab (row0 L + (o 0 + (j 0).val)))) := by
  show IntOp.maxsi (shapeCast S16 (sL.view.readAt (Elt F) (Rect.unit (s := S32) o S16.size h).toLoadRect fl : IVec S16 32) hc j) 0#32 = _
  refine (congrArg (fun z => IntOp.maxsi z 0#32) (congrFun (shapeCast_self _ hc) j)).trans ?_
  show IntOp.maxsi (sL.view.readAt (Elt F) (Rect.unit (s := S32) o S16.size h).toLoadRect fl j) 0#32 = _
  rw [max_zero]
  congr 2
  refine (hf _).trans ?_
  congr 2
  show o 0 + 1 * (j 0).val = _
  omega

/-- One label taken out of a clamped load. -/
theorem word_ok (fl : Buf (Elt F) ((thr d L).loc cc0_scratch0)) (hf : Labels L lab fl) {o : ℕ}
    {h : ∀ a, (![o] : Fin 1 → ℕ) a + S16.size a ≤ S32.size a} {hc : S16.ShapeCasts S16} {l : ℕ} (hs : S16.Slices ![l] S1 := by decide)
    {hp : ∀ a, (![0] : Fin 1 → ℕ) a < S1.size a} :
    extractAt ![0] (extractStridedSlice S1 ![l]
      (maxsi (shapeCast S16 (sL.view.readAt (Elt F) (Rect.unit (s := S32) ![o] S16.size h).toLoadRect fl : IVec S16 32) hc) (broadcast S16 0#32)) hs) hp
      = BitVec.ofNat 32 (col (labAt lab (row0 L + (o + l)))) := by
  exact clamped d L lab fl hf _

/-- The facts row `r`'s copy is checked for, of the word its label was read as. -/
theorem row_chk (hl : InTable lab) (r : ℕ) (hr : r < 32) {w : BitVec 32} {r' : ℕ} (hw : w = BitVec.ofNat 32 (col (labAt lab (row0 L + r')))) (e : r' = r) :
    16 ∣ (k0_mult1 w).toNat ∧
    (∀ b, chunkOff L r w b + S1x16.size b ≤ S1024x100000.size b) ∧
    (∀ b, chunkOff L r w b + S1x16.size b ≤ S1024x100000.size b) := by
  subst hw e
  exact row_ok L r' hr _ (hl _)

/-- Where row `r`'s copy starts. -/
theorem row_off (hl : InTable lab) (r : ℕ) (hr : r < 32) {w : BitVec 32} {r' : ℕ} (hw : w = BitVec.ofNat 32 (col (labAt lab (row0 L + r')))) (e : r' = r) :
    chunkOff L r w = offX lab L r := by
  subst hw e
  exact chunkOff_eq L r' hr _ (hl _)

end Cert.KernelIdeal.Pf

end
-- ==== Proof.Looks.lean ====
/-
  The look-ups of a tile: reading its chunk buffer at sixteen indices at once, one lane per label.
-/
module

public import proofs.«01_k».proof.Proof.Steps

@[expose] public section

noncomputable section

namespace Cert.KernelIdeal.Pf

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Gen

variable {F : FTy → Type} [FloatOps F]

local notation "𝕄" => MT nD τ sig (HIx 1) (Elt F) ℕ UU ℕ

/-- The vector holds, in each lane, where in its chunk the label of that lane of group `h` stands. -/
def LanesAt (L : grid0.Coords) (lab : IVec S1024 32) (h : ℕ) (v : IVec S16 32) : Prop :=
  ∀ j, v j = BitVec.ofNat 32 (col (labAt lab (row0 L + (16 * h + (j 0).val))) % 16)

variable (d : Dev nD) (L : grid0.Coords) (lab : IVec S1024 32) (hl : InTable lab) (x : Buf (Elt F) (xLoc d))

theorem lanes_of {h : ℕ} {w : IVec S16 32} (hl : InTable lab)
    (hw : ∀ j, w j = BitVec.ofNat 32 (col (labAt lab (row0 L + (16 * h + (j 0).val))))) :
    LanesAt L lab h (k0_pay58 w 16#32) := by
  intro j
  refine Eq.trans ?_ (lane_word _ (hl (row0 L + (16 * h + (j 0).val))))
  rw [← hw j]
  rfl

theorem lanes0 (hl : InTable lab) (fl : Buf (Elt F) ((thr d L).loc cc0_scratch0)) (hf : Labels L lab fl)
    {h : ∀ a, (![0] : Fin 1 → ℕ) a + S16.size a ≤ S32.size a} :
    LanesAt L lab 0 (k0_pay36 (F := F) (sL.view.readAt (Elt F) (Rect.unit (s := S32) ![0] S16.size h).toLoadRect fl)) :=
  lanes_of L lab (h := 0) hl (fun j => clamped d L lab fl hf j)

theorem lanes1 (hl : InTable lab) (fl : Buf (Elt F) ((thr d L).loc cc0_scratch0)) (hf : Labels L lab fl)
    {h : ∀ a, (![16] : Fin 1 → ℕ) a + S16.size a ≤ S32.size a} :
    LanesAt L lab 1 (k0_pay58 (k0_pay57 (F := F) (sL.view.readAt (Elt F) (Rect.unit (s := S32) ![16] S16.size h).toLoadRect fl)) 16#32) :=
  lanes_of L lab (h := 1) hl (fun j => clamped d L lab fl hf j)

/-- The word a lane looks up at. -/
theorem look_word {h : ℕ} {v : IVec S16 32} (hv : LanesAt L lab h v) {o : ℕ} (ho : o ≤ 496) (j : S16.Idx) :
    (addi (broadcast S16 (BitVec.ofNat 32 o)) v j).toNat = o + col (labAt lab (row0 L + (16 * h + (j 0).val))) % 16 := by
  show (IntOp.addi (BitVec.ofNat 32 o) (v j)).toNat = _
  rw [hv j]
  show (BitVec.ofNat 32 o + BitVec.ofNat 32 _).toNat = _
  rw [← BitVec.ofNat_add, BitVec.toNat_ofNat]
  have := Nat.mod_lt (col (labAt lab (row0 L + (16 * h + (j 0).val)))) (show 0 < 16 by omega)
  omega

/-- A look-up stays inside the chunk buffer. -/
theorem look_chk {h : ℕ} {v : IVec S16 32} (hv : LanesAt L lab h v) {o : ℕ} (ho : o ≤ 496) :
    ∀ a y, ((![addi (broadcast S16 (BitVec.ofNat 32 o)) v] : Fin 1 → IVec S16 32) a y).toNat < S512.size a := by
  intro a y
  obtain rfl : a = 0 := Subsingleton.elim _ _
  show (addi (broadcast S16 (BitVec.ofNat 32 o)) v y).toNat < 512
  rw [look_word L lab hv ho]
  omega

/-- What a look-up reads out of the chunks. -/
theorem look_val {h : ℕ} {v : IVec S16 32} (hv : LanesAt L lab h v) {o : ℕ} (ho : o ≤ 496) (hd : o % 16 = 0) (hh : h * 16 ≤ o / 16)
    {hb : ∀ a y, ((![addi (broadcast S16 (BitVec.ofNat 32 o)) v] : Fin 1 → IVec S16 32) a y).toNat < S512.size a} :
    loadIdx (F := F) (e := .f32) (chunks lab x L : S512.Idx → F .f32) ![addi (broadcast S16 (BitVec.ofNat 32 o)) v] hb
      = look lab x (row0 L / 16 + h) (o / 16 - h * 16) := by
  funext j
  have hw := look_word L lab hv ho j
  have hm : 16 * (row0 L / 16) = row0 L := by unfold row0; omega
  show cell x (row0 L + (addi (broadcast S16 (BitVec.ofNat 32 o)) v j).toNat / 16)
      (chunk0 lab (row0 L + (addi (broadcast S16 (BitVec.ofNat 32 o)) v j).toNat / 16) + (addi (broadcast S16 (BitVec.ofNat 32 o)) v j).toNat % 16) = _
  rw [hw]
  unfold look
  have e0 : 16 * (row0 L / 16 + h) + at0 j = row0 L + (16 * h + (j 0).val) := by show _ + (j 0).val = _; omega
  rw [e0]
  generalize col (labAt lab (row0 L + (16 * h + (j 0).val))) = a
  have e1 : (o + a % 16) / 16 = o / 16 := by omega
  have e2 : (o + a % 16) % 16 = a % 16 := by omega
  have e3 : 16 * (row0 L / 16 + h) + (o / 16 - h * 16) = row0 L + o / 16 := by omega
  rw [e1, e2, e3]

omit [FloatOps F] in
theorem read_sC (f : S512.Idx → F .f32) : (sC.access (.whole S512)).read (Elt F) f = f :=
  Memref.read_access_whole (Elt F) cc0_scratch1 f

/-- Holding the chunks, a look-up goes on with what its row is looked up as. -/
theorem look_step {h : ℕ} {v : IVec S16 32} (hv : LanesAt L lab h v) {o : ℕ} (ho : o ≤ 496) (hd : o % 16 = 0) (hh : h * 16 ≤ o / 16)
    {hb : ∀ a y, ((![addi (broadcast S16 (BitVec.ofNat 32 o)) v] : Fin 1 → IVec S16 32) a y).toNat < S512.size a}
    {hv' : sC.view.Loads} {α : Type} {k : Vec F S16 .f32 → Prog (TpuEff nD τ sig (Elt F) Λ₀ (thr d L).2) α} {Q : α → sProp 𝕄} :
    ((cLoc d L) ↦{fullShare} (chunks lab x L : Buf (Elt F) (cLoc d L)))
      ⊢ iprop((((cLoc d L) ↦{fullShare} (chunks lab x L : Buf (Elt F) (cLoc d L)))
          -∗ wp frame (wpE (defs₀ (F := F)) 𝒱₀ (thr d L) none) Set.univ (k (look lab x (row0 L / 16 + h) (o / 16 - h * 16))) Q)
        -∗ wp frame (wpE (defs₀ (F := F)) 𝒱₀ (thr d L) none) Set.univ
          (SparseCore.vectorLoadIdx sC ![addi (broadcast S16 (BitVec.ofNat 32 o)) v] hb hv' >>= k) Q) := by
  have e : loadIdx ((sC.access (.whole S512)).read (Elt F) (chunks lab x L)) ![addi (broadcast S16 (BitVec.ofNat 32 o)) v] hb
      = look lab x (row0 L / 16 + h) (o / 16 - h * 16) := by
    rw [read_sC]
    exact look_val d L lab x hv ho hd hh
  rw [← e]
  have hs : (sC.access (.whole S512)).set ⊆ (Finset.univ : Finset (Idx ((sC.access (.whole S512)).loc (thr d L)))) := Finset.subset_univ _
  exact SparseCore.wp_vectorLoadIdx 𝒱₀ (thr d L) none Set.univ (base := sC) (h := hb) (hl := hv') (k := k) (Q := Q) (q := fullShare)
    (f := (chunks lab x L : Buf (Elt F) (cLoc d L))) hs

end Cert.KernelIdeal.Pf

end
-- ==== Proof.Rows.lean ====
/-
  A tile's own thirty-two rows: its labels as they are read in, its targets as they are written out.
-/
module

public import proofs.«01_k».proof.Proof.Looks

@[expose] public section

noncomputable section

namespace Cert.KernelIdeal.Pf

open Idealize.ShloMosaic
open Idealize.ShloMosaic.ValueIdx
open Cert.KernelIdeal Cert.KernelIdeal.Gen

variable {F : FTy → Type}

/-- The tile's part of the label array and of the result. -/
abbrev lRow (off : Fin 1 → ℕ) (h : ∀ a, off a + S32.size a ≤ S1024.size a) : Memref sig .scVector .hbm S32 .i32 :=
  lV.slice (Rect.unit (s := S1024) off S32.size h) (fun _ => rfl)
abbrev tRow (off : Fin 1 → ℕ) (h : ∀ a, off a + S32.size a ≤ S1024.size a) : Memref sig .scVector .hbm S32 .f32 :=
  tV.slice (Rect.unit (s := S1024) off S32.size h) (fun _ => rfl)

theorem unit_emb {n k : ℕ} (off : Fin 1 → ℕ) (h : ∀ a, off a + (![k] : Fin 1 → ℕ) a ≤ (⟨1, ![n]⟩ : Shape).size a)
    (j : (⟨1, ![k]⟩ : Shape).Idx) (hlt : off 0 + (j 0).val < n) :
    (Rect.unit (s := ⟨1, ![n]⟩) off ![k] h).emb j = ix1 ⟨off 0 + (j 0).val, hlt⟩ := by
  funext a
  apply Fin.ext
  rw [Rect.emb_apply]
  match a with
  | ⟨0, _⟩ => show off 0 + 1 * (j 0).val = off 0 + (j 0).val; omega

theorem ix1_of_val {n k : ℕ} (h : k < n) (i : (⟨1, ![n]⟩ : Shape).Idx) (e : k = (i 0).val) : ix1 ⟨k, h⟩ = i := by
  subst e
  exact (eq_ix1 i).symm

variable (L : grid0.Coords)

/-- The positions of the result the tile writes. -/
abbrev tSet : Finset S1024.Idx := (tRow (k0_off65 L) (k0_off65_inb L)).view.set

theorem tRow_emb (j : S32.Idx) (hlt : row0 L + (j 0).val < 1024) :
    (tRow (k0_off65 L) (k0_off65_inb L)).view.emb j = ix1 ⟨row0 L + (j 0).val, hlt⟩ := by
  have h0 : k0_off65 L 0 = row0 L := congrFun (off65_eq L) 0
  refine (unit_emb (n := 1024) (k := 32) (k0_off65 L) (k0_off65_inb L) j (by rw [h0]; exact hlt)).trans ?_
  congr 1
  apply Fin.ext
  show k0_off65 L 0 + _ = _
  rw [h0]

theorem mem_tSet (i : S1024.Idx) : i ∈ tSet L ↔ (i 0).val / 32 = 2 * (L 1).val + (L 0).val := by
  have h0 := row0_le L
  constructor
  · intro hi
    obtain ⟨j, -, rfl⟩ := Finset.mem_map.mp hi
    have hj : (j 0).val < 32 := (j 0).isLt
    rw [tRow_emb L j (by omega)]
    show (row0 L + (j 0).val) / 32 = _
    unfold row0
    omega
  · intro hi
    have hm : (i 0).val % 32 < 32 := Nat.mod_lt _ (by decide)
    refine Finset.mem_map.mpr ⟨ix1 ⟨(i 0).val % 32, hm⟩, Finset.mem_univ _, ?_⟩
    have hlt : row0 L + (i 0).val % 32 < 1024 := by omega
    rw [tRow_emb L _ hlt]
    refine ix1_of_val _ i ?_
    show row0 L + (i 0).val % 32 = (i 0).val
    unfold row0
    omega

variable (lab : IVec S1024 32)

/-- The labels read in are the tile's. -/
theorem labels_read : Labels L lab ((lRow (k0_off1 L) (k0_off1_inb L)).view.read (Elt F) lab) := by
  intro j
  have h1 := row0_le L
  have hj : (j 0).val < 32 := (j 0).isLt
  have h0 : k0_off1 L 0 = row0 L := congrFun (off1_eq L) 0
  show lab ((Rect.unit (s := S1024) (k0_off1 L) S32.size (k0_off1_inb L)).emb j) = lab _
  refine congrArg lab ((unit_emb (n := 1024) (k := 32) (k0_off1 L) (k0_off1_inb L) j (by rw [h0]; omega)).trans ?_)
  congr 1
  apply Fin.ext
  show k0_off1 L 0 + _ = (row0 L + (j 0).val) % 1024
  rw [h0, Nat.mod_eq_of_lt (by omega)]

variable [FloatOps F] (x : S1024x100000.Idx → F .f32)

/-- The tile's targets in its target buffer. -/
def Targets (ft : S32.Idx → F .f32) : Prop := ∀ j, ft j = target lab x (ix1 (Fin.ofNat 1024 (row0 L + (j 0).val)))

abbrev lowR : Rect S32 := Rect.unit (s := S32) ![0] S16.size inb_S32_S16_0
abbrev highR : Rect S32 := Rect.unit (s := S32) ![16] S16.size inb_S32_S16_16

theorem group_at (h : ℕ) (hh : h < 2) (k : S16.Idx) :
    group lab x (row0 L / 16 + h) k = target lab x (ix1 (Fin.ofNat 1024 (row0 L + 16 * h + (k 0).val))) := by
  have h1 := row0_le L
  have hk : (k 0).val < 16 := (k 0).isLt
  have hm : row0 L = 32 * (2 * (L 1).val + (L 0).val) := rfl
  unfold target
  have e : at0 (ix1 (Fin.ofNat 1024 (row0 L + 16 * h + (k 0).val))) = row0 L + 16 * h + (k 0).val := by
    show (row0 L + 16 * h + (k 0).val) % 1024 = _
    omega
  rw [e]
  have e1 : (row0 L + 16 * h + (k 0).val) / 16 = row0 L / 16 + h := by omega
  have e2 : ix1 (Fin.ofNat 16 (row0 L + 16 * h + (k 0).val)) = k := by
    rw [eq_ix1 k]
    congr 1
    apply Fin.ext
    show (row0 L + 16 * h + (k 0).val) % 16 = (k 0).val
    omega
  rw [e1, e2]

/-- Storing the two groups leaves the tile's targets. -/
theorem targets_stored (f : S32.Idx → F .f32) (v w : FVec F S16 .f32)
    (hv : v = group lab x (row0 L / 16 + 0)) (hw : w = group lab x (row0 L / 16 + 1)) :
    Targets L lab x ((sT.access highR).write (Elt F) ((sT.access lowR).write (Elt F) f v Finset.univ) w Finset.univ) := by
  intro j
  have hj : (j 0).val < 32 := (j 0).isLt
  by_cases hlt : (j 0).val < 16
  · have e : (sT.access lowR).emb (ix1 ⟨(j 0).val, hlt⟩) = j := by
      refine (unit_emb (n := 32) (k := 16) ![0] inb_S32_S16_0 (ix1 ⟨(j 0).val, hlt⟩) (show 0 + (j 0).val < 32 by omega)).trans ?_
      refine ix1_of_val _ j ?_
      show 0 + (j 0).val = (j 0).val
      omega
    rw [View.write_of_not_mem]
    · conv_lhs => rw [← e]
      rw [View.write_emb_of_mem _ _ (Finset.mem_univ _), hv]
      refine (group_at L lab x 0 (by omega) _).trans ?_
      rfl
    · intro hm
      obtain ⟨k, -, hk⟩ := Finset.mem_map.mp hm
      have hk' := congrFun hk 0
      have h2 : (sT.access highR).emb k = ix1 ⟨16 + (k 0).val, by have : (k 0).val < 16 := (k 0).isLt; omega⟩ :=
        unit_emb (n := 32) (k := 16) ![16] inb_S32_S16_16 k _
      rw [h2] at hk'
      have := congrArg Fin.val hk'
      change 16 + (k 0).val = (j 0).val at this
      omega
  · have e : (sT.access highR).emb (ix1 ⟨(j 0).val - 16, by omega⟩) = j := by
      refine (unit_emb (n := 32) (k := 16) ![16] inb_S32_S16_16 (ix1 ⟨(j 0).val - 16, by omega⟩) (show 16 + ((j 0).val - 16) < 32 by omega)).trans ?_
      refine ix1_of_val _ j ?_
      show 16 + ((j 0).val - 16) = (j 0).val
      omega
    conv_lhs => rw [← e]
    rw [View.write_emb_of_mem _ _ (Finset.mem_univ _), hw]
    refine (group_at L lab x 1 (by omega) _).trans ?_
    congr 2
    show Fin.ofNat 1024 (row0 L + 16 * 1 + ((j 0).val - 16)) = _
    congr 1
    omega

/-- Writing the targets out leaves them in the tile's part of the result. -/
theorem targets_out (f : S1024.Idx → F .f32) {ft : S32.Idx → F .f32} (h : Targets L lab x ft) :
    ∀ i ∈ tSet L, (tRow (k0_off65 L) (k0_off65_inb L)).view.write (Elt F) f ft Finset.univ i = target lab x i := by
  intro i hi
  have h0 := row0_le L
  obtain ⟨j, -, rfl⟩ := Finset.mem_map.mp hi
  have hj : (j 0).val < 32 := (j 0).isLt
  rw [View.write_emb_of_mem _ _ (Finset.mem_univ _)]
  show ft j = _
  rw [h j, tRow_emb L j (by omega)]
  congr 2
  apply Fin.ext
  exact Nat.mod_eq_of_lt (show row0 L + (j 0).val < 1024 by omega)

end Cert.KernelIdeal.Pf

end
-- ==== Proof.Tile.lean ====
/-
  The run of one tile: its labels in, its thirty-two chunks in, its look-ups, its targets out.
-/
module

public import proofs.«01_k».proof.Proof.Rows

@[expose] public section

noncomputable section

namespace Cert.KernelIdeal.Pf

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Gen

variable {F : FTy → Type}

local notation "𝕄" => MT nD τ sig (HIx 1) (Elt F) ℕ UU ℕ

variable (d : Dev nD) (L : grid0.Coords)

/-- The semaphores of the label copy and of the copy out. -/
abbrev aSem : SemLoc sig := .dma cc0_scoped0.sem
abbrev bSem : SemLoc sig := .dma cc0_scoped1.sem

theorem own_sem (s : SemLoc sig) (h : s.isScoped .scVector = true) : ((thr d L, s) : GSem nD τ sig) ∈ ownCells (thr d L) :=
  mem_ownCells.mpr ⟨rfl, h⟩

/-- A tile's semaphores: the three it uses and the rest. -/
theorem sems_split :
    (ownSems0 (thr d L) : sProp 𝕄)
      = iprop(semVal (thr d L, aSem) 0 ∗ semVal (thr d L, bSem) 0 ∗ semVal (thr d L, cSem) 0
          ∗ bigSep ((((ownCells (thr d L)).erase (thr d L, aSem)).erase (thr d L, bSem)).erase (thr d L, cSem)) fun g => semVal g 0) := by
  unfold SparseCore.Cfg.ownSems0
  have hab : ((thr d L, bSem) : GSem nD τ sig) ≠ (thr d L, aSem) := fun e => absurd (congrArg Prod.snd e) (show bSem ≠ aSem by decide)
  have hac : ((thr d L, cSem) : GSem nD τ sig) ≠ (thr d L, aSem) := fun e => absurd (congrArg Prod.snd e) (show cSem ≠ aSem by decide)
  have hbc : ((thr d L, cSem) : GSem nD τ sig) ≠ (thr d L, bSem) := fun e => absurd (congrArg Prod.snd e) (show cSem ≠ bSem by decide)
  rw [SparseCore.bigSep_erase' (own_sem d L aSem (by decide)),
    SparseCore.bigSep_erase' (Finset.mem_erase.mpr ⟨hab, own_sem d L bSem (by decide)⟩),
    SparseCore.bigSep_erase' (Finset.mem_erase.mpr ⟨hbc, Finset.mem_erase.mpr ⟨hac, own_sem d L cSem (by decide)⟩⟩)]

abbrev bufOf (b : Ref sig .scVector) : DevRef τ sig := (Proc.scVector (cV L) (jV L)).devRef b

theorem own_buf (b : Ref sig .scVector) (h : (bufOf L b).owner = .proc (.scVector (cV L) (jV L))) : bufOf L b ∈ ownRefs (τ := τ) (.scVector (cV L) (jV L)) :=
  SparseCore.Cfg.mem_ownRefs_of_owner h

theorem buf_ne {b b' : Ref sig .scVector} (h : b ≠ b') : bufOf L b ≠ bufOf L b' := fun e => h (Proc.devRef_injective _ e)

/-- A tile's buffers: its labels, its chunks, its targets, and the rest. -/
theorem bufs_split :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (bufOf L cc0_scratch0)).erase (bufOf L cc0_scratch1)).erase (bufOf L cc0_scratch2))
              fun b => iprop(∃ f, ((d, b) : Loc nD τ sig) ↦{fullShare} f)) := by
  unfold SparseCore.Cfg.ownBufs
  refine (SparseCore.bigSep_erase' (own_buf L cc0_scratch0 rfl)).trans ?_
  rw [SparseCore.bigSep_erase' (Finset.mem_erase.mpr ⟨buf_ne L (by decide), own_buf L cc0_scratch1 rfl⟩),
    SparseCore.bigSep_erase' (Finset.mem_erase.mpr ⟨buf_ne L (by decide), Finset.mem_erase.mpr ⟨buf_ne L (by decide), own_buf L cc0_scratch2 rfl⟩⟩)]

variable (lab : IVec S1024 32) (hl : InTable lab) (x : Buf (Elt F) (xLoc d)) (q : PosShare TreeShare) (f₀ : Buf (Elt F) (cLoc d L))

/-- What of the logits' share no copy is given. -/
def held : sProp 𝕄 :=
  iprop((xLoc d ↦{shareDrop q 32} x) ∗ bigSep Finset.univ fun t : Fin 32 => xLoc d ↦[Finset.univ \ xWin L lab hl t]{shareTok q 32 t} x)

/-- The logits' share and the chunk buffer are dealt out to the copies, -/
theorem deal :
    iprop((xLoc d ↦{q} x) ∗ (cLoc d L ↦{fullShare} f₀)) ⊢ iprop(bigSep Finset.univ (given d L lab hl x q f₀) ∗ held d L lab hl x q : sProp 𝕄) := by
  have e : (bigSep Finset.univ (given d L lab hl x q f₀) : sProp 𝕄)
      = iprop(bigSep Finset.univ (fun t : Fin 32 => xLoc d ↦[xWin L lab hl t]{shareTok q 32 t} x)
          ∗ bigSep Finset.univ (fun t : Fin 32 => cLoc d L ↦[win t]{fullShare} f₀)) := bigSep_sep _ _ _
  have hc : (cLoc d L ↦{fullShare} f₀ : sProp 𝕄) = bigSep Finset.univ (fun t : Fin 32 => cLoc d L ↦[win t]{fullShare} f₀) := by
    rw [← pointsTo_biUnion (ℓ := cLoc d L) Finset.univ win win_disjoint, win_cover]
  have hx : (bigSep Finset.univ (fun t : Fin 32 => xLoc d ↦{shareTok q 32 t} x) : sProp 𝕄)
      ⊢ iprop(bigSep Finset.univ (fun t : Fin 32 => xLoc d ↦[xWin L lab hl t]{shareTok q 32 t} x)
          ∗ bigSep Finset.univ (fun t : Fin 32 => xLoc d ↦[Finset.univ \ xWin L lab hl t]{shareTok q 32 t} x)) :=
    (bigSep_mono fun t _ => (pointsTo_split_subset (Finset.subset_univ (xWin L lab hl t))).1).trans (Entails.of_eq (bigSep_sep _ _ _))
  rw [e, hc]
  unfold held
  iintro ⟨Hx, Hc⟩
  ihave Hx := (pointsTo_toks_split q 32) $$ Hx
  icases Hx with ⟨Hd, Hx⟩
  ihave Hx := hx $$ Hx
  icases Hx with ⟨Hx, Hr⟩
  isplitl [Hx Hc]
  · isplitl [Hx] <;> iassumption
  · isplitl [Hd] <;> iassumption

/-- and come back whole, the buffer holding the chunks. -/
theorem undeal :
    iprop(bigSep Finset.univ (delivered d L lab hl x q) ∗ held d L lab hl x q)
      ⊢ iprop((xLoc d ↦{q} x) ∗ (cLoc d L ↦{fullShare} (chunks lab x L : Buf (Elt F) (cLoc d L))) : sProp 𝕄) := by
  have e : (bigSep Finset.univ (delivered d L lab hl x q) : sProp 𝕄)
      = iprop(bigSep Finset.univ (fun t : Fin 32 => cLoc d L ↦[win t]{fullShare} (chunks lab x L : Buf (Elt F) (cLoc d L)))
          ∗ bigSep Finset.univ (fun t : Fin 32 => xLoc d ↦[xWin L lab hl t]{shareTok q 32 t} x)) := bigSep_sep _ _ _
  have hc : (cLoc d L ↦{fullShare} (chunks lab x L : Buf (Elt F) (cLoc d L)) : sProp 𝕄)
      = bigSep Finset.univ (fun t : Fin 32 => cLoc d L ↦[win t]{fullShare} (chunks lab x L : Buf (Elt F) (cLoc d L))) := by
    rw [← pointsTo_biUnion (ℓ := cLoc d L) Finset.univ win win_disjoint, win_cover]
  have hx : iprop(bigSep Finset.univ (fun t : Fin 32 => xLoc d ↦[xWin L lab hl t]{shareTok q 32 t} x)
          ∗ bigSep Finset.univ (fun t : Fin 32 => xLoc d ↦[Finset.univ \ xWin L lab hl t]{shareTok q 32 t} x))
      ⊢ (bigSep Finset.univ (fun t : Fin 32 => xLoc d ↦{shareTok q 32 t} x) : sProp 𝕄) :=
    (Entails.of_eq (bigSep_sep _ _ _).symm).trans (bigSep_mono fun t _ => (pointsTo_split_subset (Finset.subset_univ (xWin L lab hl t))).2)
  rw [e, hc]
  unfold held
  iintro ⟨⟨Hc, Hx⟩, Hd, Hr⟩
  isplitr [Hc]
  · iapply (pointsTo_toks_join q 32)
    isplitl [Hd]; · iexact Hd
    iapply hx
    isplitl [Hx] <;> iassumption
  · iexact Hc

/-- A fresh batch with nothing issued. -/
theorem batch_start {E : Set ℕ} :
    iprop(semVal (thr d L, cSem) 0 ∗ bigSep Finset.univ (given d L lab hl x q f₀)) ⊢ (iprop(|={E}=> issued d L lab hl x q f₀ 0) : sProp 𝕄) := by
  unfold issued
  rw [← bigSep_pending_zero]
  iintro ⟨Hs, Hg⟩
  imod (batch_alloc' (Lvl := ℕ) EC (thr d L) none NC (delivered d L lab hl x q) (sm := cSem) (E := E)) $$ Hs with HB
  imodintro
  isplitl [HB] <;> iassumption

/-- Everything issued, nothing waited for. -/
theorem all_issued {O : CellTallies nD τ sig (HIx 1)} {W W' : Waits sig (HIx 1)} (hW : ∀ p ∈ W', p ∈ W ∨ p.2 = none) :
    iprop(issued d L lab hl x q f₀ 32 ∗ owes (thr d L) O W') ⊢ (waited d L lab hl x q O W 0 : sProp 𝕄) := by
  unfold issued waited
  rw [Nat.zero_mul]
  iintro ⟨⟨HB, Hp⟩, HO⟩
  isplitl [HB]; · iexact HB
  iexists W'
  isplitr; · ipureintro; exact hW
  iexact HO

end Cert.KernelIdeal.Pf

end
-- ==== Proof.Body.lean ====
/-
  The program of one tile, run from its resources to its targets.
-/
module

public import proofs.«01_k».proof.Proof.Tile

@[expose] public section

noncomputable section

namespace Cert.KernelIdeal.Pf

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Gen

variable {F : FTy → Type} [FloatOps F]

local notation "𝕄" => MT nD τ sig (HIx 1) (Elt F) ℕ UU ℕ

variable (d : Dev nD) (L : grid0.Coords)

omit [FloatOps F] in
/-- A check whose fact holds is passed. -/
theorem assume_step {d : Dev nD} {L : grid0.Coords} {P : Prop} {dec : Decidable P} (h : P) {α : Type}
    {k : PLift P → Prog (TpuEff nD τ sig (Elt F) Λ₀ (thr d L).2) α} {Q : α → sProp 𝕄} [FloatOps F] :
    wp frame (wpE (defs₀ (F := F)) 𝒱₀ (thr d L) none) Set.univ (k ⟨h⟩) Q
      ⊢ wp frame (wpE (defs₀ (F := F)) 𝒱₀ (thr d L) none) Set.univ (.op (.assume P dec) k) Q :=
  Entails.of_eq (wp_assume_of _ _ _ _ h).symm

/-- The program at hand starts with a check, -/
theorem head_check {d : Dev nD} {L : grid0.Coords} {α : Type} {Q : α → sProp 𝕄} {P' : sProp 𝕄}
    {P : Prop} {dec : Decidable P} {k : PLift P → Prog (TpuEff nD τ sig (Elt F) Λ₀ (thr d L).2) α}
    (H : Entails' P' (wp frame (wpE (defs₀ (F := F)) 𝒱₀ (thr d L) none) Set.univ (.op (.assume P dec) k) Q)) :
    Entails' P' (wp frame (wpE (defs₀ (F := F)) 𝒱₀ (thr d L) none) Set.univ (.op (.assume P dec) k) Q) := H
/-- or with a load, -/
theorem head_load {d : Dev nD} {L : grid0.Coords} {α : Type} {Q : α → sProp 𝕄} {P' : sProp 𝕄}
    {cs : CoreSpace} {s : Shape} {e : EltTy} {m : Memref sig (thr d L).2.kind cs s e} {r : LoadRect s} {h : m.view.LoadsAt r}
    {k : (r.shape.Idx → Elt F e) → Prog (TpuEff nD τ sig (Elt F) Λ₀ (thr d L).2) α}
    (H : Entails' P' (wp frame (wpE (defs₀ (F := F)) 𝒱₀ (thr d L) none) Set.univ (.op (.load m r h) k) Q)) :
    Entails' P' (wp frame (wpE (defs₀ (F := F)) 𝒱₀ (thr d L) none) Set.univ (.op (.load m r h) k) Q) := H
/-- or with a copy, -/
theorem head_copy {d : Dev nD} {L : grid0.Coords} {α : Type} {Q : α → sProp 𝕄} {P' : sProp 𝕄}
    {sp sp' : Space} {s : Shape} {e : EltTy} {src : Memref sig (thr d L).2.kind sp s e} {dst : Memref sig (thr d L).2.kind sp' s e}
    {sm : SemLoc sig} {hsrc : src.view.WordExact} {hdst : dst.view.WordExact} {hsem : DmaTarget.Typed (nD := nD) (τ := τ) (p := (thr d L).2) sp sm (.here dst)}
    {k : PUnit → Prog (TpuEff nD τ sig (Elt F) Λ₀ (thr d L).2) α}
    (H : Entails' P' (wp frame (wpE (defs₀ (F := F)) 𝒱₀ (thr d L) none) Set.univ (.op (.enqueueDma src (.here dst) sm hsrc hdst hsem) k) Q)) :
    Entails' P' (wp frame (wpE (defs₀ (F := F)) 𝒱₀ (thr d L) none) Set.univ (.op (.enqueueDma src (.here dst) sm hsrc hdst hsem) k) Q) := H
/-- or with a wait for one. -/
theorem head_wait {d : Dev nD} {L : grid0.Coords} {α : Type} {Q : α → sProp 𝕄} {P' : sProp 𝕄}
    {sp sp' : Space} {s s' : Shape} {e e' : EltTy} {src : Memref sig (thr d L).2.kind sp s e} {dst : Memref sig (thr d L).2.kind sp' s' e'}
    {sm : DmaSem sig} {hsrc : src.view.WordExact} {hdst : dst.view.WordExact}
    {k : PUnit → Prog (TpuEff nD τ sig (Elt F) Λ₀ (thr d L).2) α}
    (H : Entails' P' (wp frame (wpE (defs₀ (F := F)) 𝒱₀ (thr d L) none) Set.univ (.op (.waitDma2 sm src dst hsrc hdst) k) Q)) :
    Entails' P' (wp frame (wpE (defs₀ (F := F)) 𝒱₀ (thr d L) none) Set.univ (.op (.waitDma2 sm src dst hsrc hdst) k) Q) := H

/-- or with a look-up. -/
theorem head_look {d : Dev nD} {L : grid0.Coords} {α : Type} {Q : α → sProp 𝕄} {P' : sProp 𝕄}
    {idxs : Fin 1 → IVec S16 32} {hb : ∀ a y, (idxs a y).toNat < S512.size a} {hv : sC.view.Loads}
    {k : Vec F S16 .f32 → Prog (TpuEff nD τ sig (Elt F) Λ₀ (thr d L).2) α}
    (H : Entails' P' (wp frame (wpE (defs₀ (F := F)) 𝒱₀ (thr d L) none) Set.univ (SparseCore.vectorLoadIdx sC idxs hb hv >>= k) Q)) :
    Entails' P' (wp frame (wpE (defs₀ (F := F)) 𝒱₀ (thr d L) none) Set.univ (SparseCore.vectorLoadIdx sC idxs hb hv >>= k) Q) := H
/-- or with a store. -/
theorem head_store {d : Dev nD} {L : grid0.Coords} {α : Type} {Q : α → sProp 𝕄} {P' : sProp 𝕄}
    {cs : CoreSpace} {s : Shape} {e : EltTy} {m : Memref sig (thr d L).2.kind cs s e} {r : Rect s} {v} {M} {h} {h'}
    {k : PUnit → Prog (TpuEff nD τ sig (Elt F) Λ₀ (thr d L).2) α}
    (H : Entails' P' (wp frame (wpE (defs₀ (F := F)) 𝒱₀ (thr d L) none) Set.univ (.op (.store m r v M h h') k) Q)) :
    Entails' P' (wp frame (wpE (defs₀ (F := F)) 𝒱₀ (thr d L) none) Set.univ (.op (.store m r v M h h') k) Q) := H

/-- A program's continuation may be given a name while the program is run. -/
theorem name_post {d : Dev nD} {L : grid0.Coords} {P : sProp 𝕄} {α : Type} {m : Prog (TpuEff nD τ sig (Elt F) Λ₀ (thr d L).2) α} {Q : α → sProp 𝕄}
    (h : ∀ Q', Q' = Q → Entails' P (wp frame (wpE (defs₀ (F := F)) 𝒱₀ (thr d L) none) Set.univ m Q')) :
    Entails' P (wp frame (wpE (defs₀ (F := F)) 𝒱₀ (thr d L) none) Set.univ m Q) := h Q rfl

omit [FloatOps F] in
theorem pts_sL (f : Buf (Elt F) ((thr d L).loc cc0_scratch0)) :
    (sL.view.loc (thr d L) ↦[sL.view.set]{fullShare} f : sProp 𝕄) = (thr d L).loc cc0_scratch0 ↦{fullShare} f := by
  simp only [Memref.view_whole, View.set_whole]
omit [FloatOps F] in
theorem pts_sT (f : Buf (Elt F) ((thr d L).loc cc0_scratch2)) :
    (sT.view.loc (thr d L) ↦[sT.view.set]{fullShare} f : sProp 𝕄) = (thr d L).loc cc0_scratch2 ↦{fullShare} f := by
  simp only [Memref.view_whole, View.set_whole]

/-- The positions of the label array the tile reads. -/
abbrev lSet : Finset S1024.Idx := (lRow (k0_off1 L) (k0_off1_inb L)).view.set

variable (lab : IVec S1024 32) (hl : InTable lab) (x : Buf (Elt F) (xLoc d)) (q q' : PosShare TreeShare)

omit [FloatOps F] in
/-- The label copy delivers the tile's labels. -/
theorem labels_in (f : Buf (Elt F) ((thr d L).loc cc0_scratch0)) :
    (sL.view.loc (thr d L) ↦[sL.view.set]{fullShare}
        (sL.view.write (Elt F) f ((lRow (k0_off1 L) (k0_off1_inb L)).view.read (Elt F) lab) Finset.univ))
      ⊢ (iprop(∃ fl, ⌜Labels L lab fl⌝ ∗ (thr d L).loc cc0_scratch0 ↦{fullShare} fl) : sProp 𝕄) := by
  rw [pts_sL, show sL.view.write (Elt F) f ((lRow (k0_off1 L) (k0_off1_inb L)).view.read (Elt F) lab) Finset.univ
      = (lRow (k0_off1 L) (k0_off1_inb L)).view.read (Elt F) lab from View.write_whole_univ _ _ _]
  iintro H
  iexists _
  isplitr; · ipureintro; exact labels_read (F := F) L lab
  iexact H

omit [FloatOps F] in
theorem read_sT (f : S32.Idx → F .f32) : sT.view.read (Elt F) f = f := View.read_whole _ _

/-- The copy out leaves the tile's targets in its part of the result. -/
theorem targets_home (f : Buf (Elt F) (tLoc d)) {ft : S32.Idx → F .f32} (h : Targets L lab x ft) :
    ((tRow (k0_off65 L) (k0_off65_inb L)).view.loc (thr d L) ↦[(tRow (k0_off65 L) (k0_off65_inb L)).view.set]{fullShare}
        ((tRow (k0_off65 L) (k0_off65_inb L)).view.write (Elt F) f (sT.view.read (Elt F) ft) Finset.univ))
      ⊢ (tLoc d ↦[tSet L]{fullShare} (target lab x : Buf (Elt F) (tLoc d)) : sProp 𝕄) := by
  rw [read_sT]
  exact Entails.of_eq (pointsTo_congr (targets_out L lab x f h))

set_option maxHeartbeats 4000000 in
/-- The run of one tile. -/
theorem tile_body (hl : InTable lab) (hF : (K (F := F)).Facts) (O : CellTallies nD τ sig (HIx 1)) (W : Waits sig (HIx 1)) (hO : ∀ g, O g none = 0)
    (g : Buf (Elt F) (tLoc d)) :
    iprop(levAts (K (F := F)).L (K (F := F)).lev
        ∗ ((xLoc d ↦{q} x) ∗ (lLoc d ↦{q'} (lab : Buf (Elt F) (lLoc d))) ∗ (tLoc d ↦[tSet L]{fullShare} g))
        ∗ scopedBufs (thr d L) ∗ scopedSems0 (thr d L) ∗ owes (thr d L) O W)
      ⊢ wp frame (wpE (defs₀ (F := F)) 𝒱₀ (thr d L) none) Set.univ
          (cc0__sc_gather_body L xV (Memref.isWhole_whole _) lV (Memref.isWhole_whole _) tV (Memref.isWhole_whole _)
            sL (Memref.isWhole_whole _) sC (Memref.isWhole_whole _) sT (Memref.isWhole_whole _) cc0_scratch3 cc0_scoped0 cc0_scoped1)
          fun _ => (iprop(((xLoc d ↦{q} x) ∗ (lLoc d ↦{q'} (lab : Buf (Elt F) (lLoc d))) ∗ (tLoc d ↦[tSet L]{fullShare} (target lab x : Buf (Elt F) (tLoc d))))
            ∗ scopedBufs (thr d L) ∗ scopedSems0 (thr d L) ∗ ∃ W', ⌜∀ p ∈ W', p ∈ W ∨ p.2 = none⌝ ∗ owes (thr d L) O W') : sProp 𝕄) := by
  rw [cc0__sc_gather_body_eq_skeleton]; unfold cc0__sc_gather_body_skel
  rw [k0_part35_eq_skeleton]; unfold k0_part35_skel
  rw [(K (F := F)).scopedBufs_V hF d (cV L) (jV L), SparseCore.Cfg.scopedSems0_V (Val := Elt F) d (cV L) (jV L), sems_split, bufs_split]
  iintro ⟨#Hlv, ⟨Hx, Hl, Ht⟩, ⟨⟨%fl₀, HL⟩, ⟨%fc₀, HC⟩, ⟨%ft₀, HT⟩, Hbufs⟩, ⟨HsA, HsB, HsC, Hsems⟩, HO⟩
  ihave #HM := ((K (F := F)).mayWaits_none (thr := thr d L) hO) $$ Hlv
  rw [k0_part1_eq_skeleton]; unfold k0_part1_skel
  simp only [Prog.lift, Prog.bind_op, Prog.bind_ret, Prog.pure_eq_ret]
  -- the tile's labels are copied in
  ihave Hl := (pointsTo_split_subset (ℓ := lLoc d) (I := lSet L) (Finset.subset_univ _)).1 $$ Hl
  icases Hl with ⟨Hl, Hlr⟩
  ihave HL := (Entails.of_eq (pts_sL (F := F) d L _).symm) $$ HL
  iapply (wp_dmaLocal EC 𝒱₀ (thr d L) none (src := lRow (k0_off1 L) (k0_off1_inb L)) (dst := sL) (q := q') (fs := (lab : Buf (Elt F) (lLoc d)))
    (fd := fl₀) (Sd := sL.view.set) none sL.view.dmaCredit rfl (View.dmaCredit_pos _ (by decide)) (Finset.Subset.refl _)) $$ [Hl HL HsA]
  · isplitl [Hl]; · iexact Hl
    isplitl [HL]; · iexact HL
    iexact HsA
  iintro HFl
  iapply (wp_waitLocalO EC 𝒱₀ (thr d L) none none rfl) $$ [HFl HO]
  · isplitl [HFl]; · iexact HFl
    isplitl [HO]; · iexact HO
    iapply (MayWaits.elim aSem); iexact HM
  iintro ⟨⟨HL, Hl⟩, HsA, HO⟩
  ihave HL := (labels_in d L lab _) $$ HL
  icases HL with ⟨%fl, %hf, HL⟩
  ihave Hl := (pointsTo_split_subset (ℓ := lLoc d) (I := lSet L) (Finset.subset_univ _)).2 $$ [Hl Hlr]
  · isplitl [Hl] <;> iassumption
  -- the chunks' copies are issued
  ihave HD := (deal d L lab hl x q fc₀) $$ [Hx HC]
  · isplitl [Hx] <;> iassumption
  icases HD with ⟨Hg, Hheld⟩
  imod (batch_start d L lab hl x q fc₀ (E := Set.univ)) $$ [HsC Hg] with HI
  · isplitl [HsC] <;> iassumption
  iapply (wp_load 𝒱₀ (thr d L) none Set.univ (m := sL) (S := Finset.univ) (Finset.subset_univ _)) $$ HL; iintro HL
  iapply (assume_step ?_)
  rotate_left
  · exact row_chk L lab hl _ (by decide) (word_ok d L lab fl hf) rfl
  iapply (issue_step d L lab hl x q fc₀ _ ?hr ?e ?e') $$ HI
  case hr => decide
  case e => exact row_off L lab hl _ (by decide) (word_ok d L lab fl hf) rfl
  case e' => rfl
  iintro HI
  iterate 21
    repeat rw [wp_bind]
    refine name_post fun Q' hQ => ?_
    first
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
    simp only [Prog.lift, Prog.bind_op, Prog.bind_ret, Prog.pure_eq_ret]
    repeat (first
      | (with_reducible refine head_check ?_
         iapply (assume_step ?_)
         rotate_left
         · first
             | exact row_chk L lab hl _ (by decide) (word_ok d L lab fl hf) rfl
             | exact ⟨(row_chk L lab hl 31 (by decide) (word_ok d L lab fl hf) rfl).1, (row_chk L lab hl 31 (by decide) (word_ok d L lab fl hf) rfl).2.1⟩)
      | (with_reducible refine head_load ?_
         iapply (wp_load 𝒱₀ (thr d L) none Set.univ (m := sL) (S := Finset.univ) (Finset.subset_univ _)) $$ HL
         iintro HL)
      | (with_reducible refine head_copy ?_
         iapply (issue_step d L lab hl x q fc₀ _ ?hr ?e ?e') $$ HI
         case hr => decide
         case e => exact row_off L lab hl _ (by decide) (word_ok d L lab fl hf) rfl
         case e' => rfl
         iintro HI))
    rw [wp_ret]; imodintro
    subst hQ; dsimp only
  -- the last copy, then the waits
  repeat rw [wp_bind]
  refine name_post fun Q' hQ => ?_
  rw [k0_part23_eq_skeleton]; unfold k0_part23_skel
  simp only [Prog.lift, Prog.bind_op, Prog.bind_ret, Prog.pure_eq_ret]
  iapply (issue_step d L lab hl x q fc₀ _ ?hr ?e ?e') $$ HI
  case hr => decide
  case e => exact row_off L lab hl _ (by decide) (word_ok d L lab fl hf) rfl
  case e' => rfl
  iintro HI
  ihave HW := (all_issued d L lab hl x q fc₀ (O := O) (W := W) (W' := insert (aSem, none) W) fun p hp =>
    (Finset.mem_insert.mp hp).elim (fun e => Or.inr (congrArg Prod.snd e)) Or.inl) $$ [HI HO]
  · isplitl [HI] <;> iassumption
  repeat (first
    | (with_reducible refine head_wait ?_
       iapply (wait_step d L lab hl x q _ ?hu (O := O) (W := W)) $$ [HW]
       on_goal 2 =>
         isplitr; · iexact HM
         iexact HW
       case hu => decide
       iintro HW))
  rw [wp_ret]; imodintro
  subst hQ; dsimp only
  iterate 4
    repeat rw [wp_bind]
    refine name_post fun Q' hQ => ?_
    first
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
    simp only [Prog.lift, Prog.bind_op, Prog.bind_ret, Prog.pure_eq_ret]
    repeat (first
      | (with_reducible refine head_wait ?_
         iapply (wait_step d L lab hl x q _ ?hu (O := O) (W := W)) $$ [HW]
         on_goal 2 =>
           isplitr; · iexact HM
           iexact HW
         case hu => decide
         iintro HW))
    rw [wp_ret]; imodintro
    subst hQ; dsimp only
  -- the last wait: every chunk has landed
  repeat rw [wp_bind]
  refine name_post fun Q' hQ => ?_
  rw [k0_part28_eq_skeleton]; unfold k0_part28_skel
  simp only [Prog.lift, Prog.bind_op, Prog.bind_ret, Prog.pure_eq_ret]
  iapply (wait_last d L lab hl x q (O := O) (W := W)) $$ [HW]
  · isplitr; · iexact HM
    iexact HW
  iintro ⟨HD, HsC, %W', %hW', HO⟩
  ihave HX := (undeal d L lab hl x q) $$ [HD Hheld]
  · isplitl [HD] <;> iassumption
  icases HX with ⟨Hx, HC⟩
  -- the first group's look-ups
  iapply (wp_load 𝒱₀ (thr d L) none Set.univ (m := sL) (S := Finset.univ) (Finset.subset_univ _)) $$ HL
  iintro HL
  repeat (first
    | (with_reducible refine head_check ?_
       iapply (assume_step ?_)
       rotate_left
       · exact look_chk L lab (lanes0 d L lab hl fl hf) (by decide))
    | (with_reducible refine head_look ?_
       iapply (look_step d L lab x (lanes0 d L lab hl fl hf) ?ho ?hd ?hh) $$ HC
       case ho => decide
       case hd => decide
       case hh => decide
       iintro HC))
  rw [wp_ret]; imodintro
  subst hQ; dsimp only
  iterate 2
    repeat rw [wp_bind]
    refine name_post fun Q' hQ => ?_
    first
      | (rw [k0_part29_eq_skeleton]; unfold k0_part29_skel)
      | (rw [k0_part30_eq_skeleton]; unfold k0_part30_skel)
    simp only [Prog.lift, Prog.bind_op, Prog.bind_ret, Prog.pure_eq_ret]
    repeat (first
      | (with_reducible refine head_check ?_
         iapply (assume_step ?_)
         rotate_left
         · exact look_chk L lab (lanes0 d L lab hl fl hf) (by decide))
      | (with_reducible refine head_look ?_
         iapply (look_step d L lab x (lanes0 d L lab hl fl hf) ?ho ?hd ?hh) $$ HC
         case ho => decide
         case hd => decide
         case hh => decide
         iintro HC))
    rw [wp_ret]; imodintro
    subst hQ; dsimp only
  repeat rw [wp_bind]
  refine name_post fun Q' hQ => ?_
  rw [k0_part31_eq_skeleton]; unfold k0_part31_skel
  simp only [Prog.lift, Prog.bind_op, Prog.bind_ret, Prog.pure_eq_ret]
  repeat (first
    | (with_reducible refine head_check ?_
       iapply (assume_step ?_)
       rotate_left
       · exact look_chk L lab (lanes0 d L lab hl fl hf) (by decide))
    | (with_reducible refine head_look ?_
       iapply (look_step d L lab x (lanes0 d L lab hl fl hf) ?ho ?hd ?hh) $$ HC
       case ho => decide
       case hd => decide
       case hh => decide
       iintro HC))
  iapply (wp_load 𝒱₀ (thr d L) none Set.univ (m := sT) (S := Finset.univ) (Finset.subset_univ _)) $$ HT
  iintro HT
  iapply (wp_store 𝒱₀ (thr d L) none Set.univ (m := sT) (r := lowR) (Mk := Finset.univ) (S := Finset.univ) (Finset.subset_univ _)) $$ HT
  iintro HT
  iapply (wp_load 𝒱₀ (thr d L) none Set.univ (m := sL) (S := Finset.univ) (Finset.subset_univ _)) $$ HL
  iintro HL
  rw [wp_ret]; imodintro
  subst hQ; dsimp only
  -- the second group's
  iterate 3
    repeat rw [wp_bind]
    refine name_post fun Q' hQ => ?_
    first
      | (rw [k0_part32_eq_skeleton]; unfold k0_part32_skel)
      | (rw [k0_part33_eq_skeleton]; unfold k0_part33_skel)
      | (rw [k0_part34_eq_skeleton]; unfold k0_part34_skel)
    simp only [Prog.lift, Prog.bind_op, Prog.bind_ret, Prog.pure_eq_ret]
    repeat (first
      | (with_reducible refine head_check ?_
         iapply (assume_step ?_)
         rotate_left
         · exact look_chk L lab (lanes1 d L lab hl fl hf) (by decide))
      | (with_reducible refine head_look ?_
         iapply (look_step d L lab x (lanes1 d L lab hl fl hf) ?ho ?hd ?hh) $$ HC
         case ho => decide
         case hd => decide
         case hh => decide
         iintro HC))
    rw [wp_ret]; imodintro
    subst hQ; dsimp only
  repeat (first
    | (with_reducible refine head_check ?_
       iapply (assume_step ?_)
       rotate_left
       · exact look_chk L lab (lanes1 d L lab hl fl hf) (by decide))
    | (with_reducible refine head_look ?_
       iapply (look_step d L lab x (lanes1 d L lab hl fl hf) ?ho ?hd ?hh) $$ HC
       case ho => decide
       case hd => decide
       case hh => decide
       iintro HC))
  rw [wp_ret]; imodintro; dsimp only
  try simp only [Prog.lift, Prog.bind_op, Prog.bind_ret, Prog.pure_eq_ret]
  repeat (first
    | (with_reducible refine head_check ?_
       iapply (assume_step ?_)
       rotate_left
       · exact look_chk L lab (lanes1 d L lab hl fl hf) (by decide))
    | (with_reducible refine head_look ?_
       iapply (look_step d L lab x (lanes1 d L lab hl fl hf) ?ho ?hd ?hh) $$ HC
       case ho => decide
       case hd => decide
       case hh => decide
       iintro HC))
  iapply (wp_load 𝒱₀ (thr d L) none Set.univ (m := sT) (S := Finset.univ) (Finset.subset_univ _)) $$ HT
  iintro HT
  iapply (wp_store 𝒱₀ (thr d L) none Set.univ (m := sT) (r := highR) (Mk := Finset.univ) (S := Finset.univ) (Finset.subset_univ _)) $$ HT
  iintro HT
  -- the targets are copied out
  ihave HT := (Entails.of_eq (pts_sT (F := F) d L _).symm) $$ HT
  iapply (wp_dmaLocal EC 𝒱₀ (thr d L) none (src := sT) (dst := tRow (k0_off65 L) (k0_off65_inb L)) (q := fullShare)
    (fd := g) (Sd := tSet L) none (tRow (k0_off65 L) (k0_off65_inb L)).view.dmaCredit rfl (View.dmaCredit_pos _ (by decide)) (Finset.Subset.refl _)) $$ [HT Ht HsB]
  · isplitl [HT]; · iexact HT
    isplitl [Ht]; · iexact Ht
    iexact HsB
  iintro HFl
  iapply (wp_waitLocalO EC 𝒱₀ (thr d L) none none rfl) $$ [HFl HO]
  · isplitl [HFl]; · iexact HFl
    isplitl [HO]; · iexact HO
    iapply (MayWaits.elim bSem); iexact HM
  iintro ⟨⟨Ht, HT⟩, HsB, HO⟩
  ihave HT := (Entails.of_eq (pts_sT (F := F) d L _)) $$ HT
  rw [wp_ret]; imodintro
  isplitl [Hx Hl Ht]
  · isplitl [Hx]; · iexact Hx
    isplitl [Hl]; · iexact Hl
    iapply (targets_home d L lab x g (targets_stored L lab x ft₀ _ _ ?hv ?hw)) $$ Ht
    case hv => exact (shapeCast_self _ _).trans rfl
    case hw => exact (shapeCast_self _ _).trans rfl
  isplitl [HL HC HT Hbufs]
  · isplitl [HL]; · iexists _; iexact HL
    isplitl [HC]; · iexists _; iexact HC
    isplitl [HT]; · iexists _; iexact HT
    iexact Hbufs
  isplitl [HsA HsB HsC Hsems]
  · isplitl [HsA]; · iexact HsA
    isplitl [HsB]; · iexact HsB
    isplitl [HsC] <;> iassumption
  iexists _
  isplitr
  rotate_left
  · iexact HO
  ipureintro
  intro p hp
  rcases Finset.mem_insert.mp hp with rfl | hp
  · exact Or.inr rfl
  · exact hW' p hp

end Cert.KernelIdeal.Pf

end
-- ==== Proof.Task.lean ====
/-
  What the SparseCore call is handed and hands back, dealt to the cores and their tiles.
-/
module

public import proofs.«01_k».proof.Proof.Body

@[expose] public section

noncomputable section

namespace Cert.KernelIdeal.Pf

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Gen

variable {F : FTy → Type}

local notation "𝕄" => MT nD τ sig (HIx 1) (Elt F) ℕ UU ℕ

/-- The tile of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl

/-- The rows of the result that core `c`'s subcore `s` writes. -/
abbrev part (c : Fin 2) (s : Fin 16) : Finset S1024.Idx := tSet (coordsV c s)

theorem mem_part (c : Fin 2) (s : Fin 16) (i : S1024.Idx) : i ∈ part c s ↔ (i 0).val / 32 = 2 * s.val + c.val := mem_tSet (coordsV c s) i

/-- A core's share of an array it only reads, and a tile's. -/
abbrev coreQ (c : Fin 2) : PosShare TreeShare := shareTok fullShare 2 c
abbrev tileQ (c : Fin 2) (s : Fin 16) : PosShare TreeShare := shareTok (coreQ c) 16 s

variable [FloatOps F] (m : (ℓ : Loc nD τ sig) → Buf (Elt F) ℓ)

/-- The targets of the whole batch, of a device's logits and labels. -/
abbrev aim (d : Dev nD) : Buf (Elt F) (tLoc d) := (target (m (lLoc d)) (m (xLoc d)) : FVec F S1024 .f32)

/-- A core's part of the call, the result's rows at `t`; -/
def corePay (t : (d : Dev nD) → Buf (Elt F) (tLoc d)) (d : Dev nD) (c : Fin 2) : sProp 𝕄 :=
  iprop((xLoc d ↦{coreQ c} m (xLoc d)) ∗ (lLoc d ↦{coreQ c} m (lLoc d))
    ∗ bigSep Finset.univ fun s : Fin 16 => tLoc d ↦[part c s]{fullShare} t d)
/-- and a tile's. -/
def tilePay (t : (d : Dev nD) → Buf (Elt F) (tLoc d)) (d : Dev nD) (c : Fin 2) (s : Fin 16) : sProp 𝕄 :=
  iprop((xLoc d ↦{tileQ c s} m (xLoc d)) ∗ (lLoc d ↦{tileQ c s} m (lLoc d)) ∗ (tLoc d ↦[part c s]{fullShare} t d))

/-- What the launch holds of the result before the call. -/
abbrev first (d : Dev nD) : Buf (Elt F) (tLoc d) := m (tLoc d)

/-- The call takes shares of the logits and labels and the result's rows, and brings them back with the targets there. -/
def P : (K (F := F)).Pay (nD := nD) (Val := Elt F) (Name := ℕ) (U := UU) where
  st := fun q d c => match q with | 0 => corePay m (first m) d (Fin.cast nCore_zero c)
  dn := fun q d c => match q with | 0 => corePay m (aim m) d (Fin.cast nCore_zero c)
  go := fun q d c i => match q with | 0 => tilePay m (first m) d (Fin.cast nCore_zero c) (Fin.cast nSub_zero i)
  td := fun q d c i => match q with | 0 => tilePay m (aim m) d (Fin.cast nCore_zero c) (Fin.cast nSub_zero i)
  x := fun _ _ => iprop(emp)

instance corePay_storable (t : (d : Dev nD) → Buf (Elt F) (tLoc d)) (d : Dev nD) (c : Fin 2) :
    BI.Storable (upEmb : UEmb _ 𝕄) (corePay m t d c) := by unfold corePay; infer_instance
instance tilePay_storable (t : (d : Dev nD) → Buf (Elt F) (tLoc d)) (d : Dev nD) (c : Fin 2) (s : Fin 16) :
    BI.Storable (upEmb : UEmb _ 𝕄) (tilePay m t d c s) := by unfold tilePay; infer_instance

instance P_storable : (P (F := F) m).IsStorable where
  st q d c := match q with | 0 => corePay_storable m _ d _
  dn q d c := match q with | 0 => corePay_storable m _ d _
  go q d c i := match q with | 0 => tilePay_storable m _ d _ _
  td q d c i := match q with | 0 => tilePay_storable m _ d _ _

/-! ## The tiles -/

theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) lV (Memref.isWhole_whole _) tV (Memref.isWhole_whole _)
          sL (Memref.isWhole_whole _) sC (Memref.isWhole_whole _) sT (Memref.isWhole_whole _) cc0_scratch3 cc0_scoped0 cc0_scoped1) ⟨⟩ c s := rfl

omit [FloatOps F] in
/-- A wait at the kernel's own index is one the call allows. -/
theorem waits_allowed {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

omit [FloatOps F] in
theorem without_second {A X B C : sProp 𝕄} (h : iprop(A ∗ B) ⊢ C) : iprop(A ∗ X ∗ B) ⊢ C :=
  (sep_mono_right sep_elim_right).trans h

omit [FloatOps F] in
theorem same_rows (c : Fin ((K (F := F)).nCore 0)) (i : Fin ((K (F := F)).nSub 0)) (h : ((K (F := F)).core 0 c).val < grid0.bound 0)
    (h' : ((K (F := F)).sub 0 i).val < grid0.bound 1) :
    tSet (coordsV ⟨_, h⟩ ⟨_, h'⟩) = part (Fin.cast (nCore_zero (F := F)) c) (Fin.cast (nSub_zero (F := F)) i) :=
  congrArg (fun L => tSet L)
    (show (coordsV ⟨_, h⟩ ⟨_, h'⟩ : grid0.Coords) = coordsV (Fin.cast (nCore_zero (F := F)) c) (Fin.cast (nSub_zero (F := F)) i) from rfl)

theorem P_go (d : Dev nD) (c : Fin ((K (F := F)).nCore 0)) (i : Fin ((K (F := F)).nSub 0)) :
    (P m).go 0 d c i = tilePay m (first m) d (Fin.cast nCore_zero c) (Fin.cast nSub_zero i) := rfl
theorem P_td (d : Dev nD) (c : Fin ((K (F := F)).nCore 0)) (i : Fin ((K (F := F)).nSub 0)) :
    (P m).td 0 d c i = tilePay m (aim m) d (Fin.cast nCore_zero c) (Fin.cast nSub_zero i) := rfl

set_option maxRecDepth 100000 in
theorem tileObl (hl : ∀ d : Dev nD, InTable (m (lLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  have h2 := (tile_body d (coordsV ⟨_, hc.1⟩ ⟨_, hc.2⟩) (m (lLoc d)) (m (xLoc d))
    (tileQ (Fin.cast nCore_zero c) (Fin.cast nSub_zero i)) (tileQ (Fin.cast nCore_zero c) (Fin.cast nSub_zero i)) (hl d) facts O W hO (first m d)).trans
    (wp_mono frame _ _ fun _ => waits_allowed (q := 0))
  rw [P_go, P_td]
  unfold tilePay
  rw [same_rows (F := F) c i hc.1 hc.2] at h2
  exact without_second h2

/-! ## A core's part dealt to its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tiles_eq (t : (d : Dev nD) → Buf (Elt F) (tLoc d)) (d : Dev nD) (c : Fin 2) :
    (bigSep Finset.univ (tilePay m t d c) : sProp 𝕄)
      = iprop((bigSep Finset.univ fun s : Fin 16 => xLoc d ↦{tileQ c s} m (xLoc d))
          ∗ (bigSep Finset.univ fun s : Fin 16 => lLoc d ↦{tileQ c s} m (lLoc d))
          ∗ bigSep Finset.univ fun s : Fin 16 => tLoc d ↦[part c s]{fullShare} t d) := by
  unfold tilePay
  rw [bigSep_sep', bigSep_sep']

theorem vecSplit : (K (F := F)).VecSplit' (P m) 0 := by
  intro d c
  show corePay m (first m) d (Fin.cast nCore_zero c) ⊢ |={Set.univ}=> iprop(
      (bigSep Finset.univ fun i : Fin ((K (F := F)).nSub 0) => tilePay m (first m) d (Fin.cast nCore_zero c) (Fin.cast nSub_zero i))
      ∗ ((bigSep Finset.univ fun i : Fin ((K (F := F)).nSub 0) => tilePay m (aim m) d (Fin.cast nCore_zero c) (Fin.cast nSub_zero i))
          -∗ corePay m (aim m) d (Fin.cast nCore_zero c)))
  generalize Fin.cast nCore_zero c = c
  rw [bigSep_tasks (F := F) (tilePay m (first m) d c), bigSep_tasks (F := F) (tilePay m (aim m) d c), tiles_eq, tiles_eq]
  unfold corePay
  iintro ⟨Hx, Hl, Ht⟩
  ihave Hx := (pointsTo_toks_split (coreQ c) 16) $$ Hx
  icases Hx with ⟨Hxd, Hx⟩
  ihave Hl := (pointsTo_toks_split (coreQ c) 16) $$ Hl
  icases Hl with ⟨Hld, Hl⟩
  imodintro
  isplitl [Hx Hl Ht]
  · isplitl [Hx]; · iexact Hx
    isplitl [Hl] <;> iassumption
  iintro ⟨Hx, Hl, Ht⟩
  isplitl [Hxd Hx]
  · iapply (pointsTo_toks_join (coreQ c) 16)
    isplitl [Hxd] <;> iassumption
  isplitl [Hld Hl]
  · iapply (pointsTo_toks_join (coreQ c) 16)
    isplitl [Hld] <;> iassumption
  iexact Ht

/-! ## The whole arrays dealt to the cores -/

theorem parts_disjoint (c : Fin 2) : ∀ s ∈ (Finset.univ : Finset (Fin 16)), ∀ s' ∈ (Finset.univ : Finset (Fin 16)), s ≠ s' →
    Disjoint (part c s) (part c s') := fun s _ s' _ hne => Finset.disjoint_left.mpr fun i hi hi' => by
  have h1 := (mem_part c s i).mp hi
  have h2 := (mem_part c s' i).mp hi'
  exact hne (Fin.ext (by omega))

/-- The rows a core writes. -/
def coreRows (c : Fin 2) : Finset S1024.Idx := Finset.univ.biUnion (part c)

theorem mem_coreRows (c : Fin 2) (i : S1024.Idx) : i ∈ coreRows c ↔ (i 0).val / 32 % 2 = c.val := by
  have hi : (i 0).val < 1024 := (i 0).isLt
  have hc := c.isLt
  constructor
  · intro h
    obtain ⟨s, -, hs⟩ := Finset.mem_biUnion.mp h
    have h1 := (mem_part c s i).mp hs
    omega
  · intro h
    refine Finset.mem_biUnion.mpr ⟨⟨(i 0).val / 64, by omega⟩, Finset.mem_univ _, (mem_part c _ i).mpr ?_⟩
    show (i 0).val / 32 = 2 * ((i 0).val / 64) + c.val
    omega

theorem cores_disjoint : ∀ c ∈ (Finset.univ : Finset (Fin 2)), ∀ c' ∈ (Finset.univ : Finset (Fin 2)), c ≠ c' →
    Disjoint (coreRows c) (coreRows c') := fun c _ c' _ hne => Finset.disjoint_left.mpr fun i hi hi' => by
  have h1 := (mem_coreRows c i).mp hi
  have h2 := (mem_coreRows c' i).mp hi'
  exact hne (Fin.ext (by omega))

theorem cores_cover : (Finset.univ : Finset (Fin 2)).biUnion coreRows = Finset.univ :=
  Finset.eq_univ_of_forall fun i => Finset.mem_biUnion.mpr
    ⟨⟨(i 0).val / 32 % 2, Nat.mod_lt _ (by decide)⟩, Finset.mem_univ _, (mem_coreRows _ i).mpr rfl⟩

omit [FloatOps F] in
/-- The result is its thirty-two parts. -/
theorem parts_eq (d : Dev nD) (t : Buf (Elt F) (tLoc d)) :
    (tLoc d ↦{fullShare} t : sProp 𝕄)
      = bigSep Finset.univ fun c : Fin 2 => bigSep Finset.univ fun s : Fin 16 => tLoc d ↦[part c s]{fullShare} t := by
  refine Eq.trans (congrArg (fun S => (tLoc d ↦[S]{fullShare} t : sProp 𝕄)) cores_cover.symm) ?_
  refine (pointsTo_biUnion (ℓ := tLoc d) Finset.univ coreRows cores_disjoint).trans (bigSep_congr fun c _ => ?_)
  exact pointsTo_biUnion (ℓ := tLoc d) Finset.univ (part c) (parts_disjoint c)

/-- What the TensorCore keeps of the logits and labels during the call. -/
def kept (d : Dev nD) : sProp 𝕄 := iprop((xLoc d ↦{shareDrop fullShare 2} m (xLoc d)) ∗ (lLoc d ↦{shareDrop fullShare 2} m (lLoc d)))

theorem cores_eq (t : (d : Dev nD) → Buf (Elt F) (tLoc d)) (d : Dev nD) :
    (bigSep Finset.univ (corePay m t d) : sProp 𝕄)
      = iprop((bigSep Finset.univ fun c : Fin 2 => xLoc d ↦{coreQ c} m (xLoc d))
          ∗ (bigSep Finset.univ fun c : Fin 2 => lLoc d ↦{coreQ c} m (lLoc d))
          ∗ (tLoc d ↦{fullShare} t d)) := by
  rw [parts_eq]
  unfold corePay
  rw [bigSep_sep', bigSep_sep']

/-- The arrays are handed to the cores, -/
theorem cores_deal (d : Dev nD) :
    iprop((xLoc d ↦{fullShare} m (xLoc d)) ∗ (lLoc d ↦{fullShare} m (lLoc d)) ∗ (tLoc d ↦{fullShare} m (tLoc d)))
      ⊢ (iprop((bigSep Finset.univ fun c : Fin ((K (F := F)).nCore 0) => (P m).st 0 d c) ∗ kept m d) : sProp 𝕄) := by
  show _ ⊢ (iprop((bigSep Finset.univ (corePay m (first m) d)) ∗ kept m d) : sProp 𝕄)
  rw [cores_eq]
  unfold kept
  iintro ⟨Hx, Hl, Ht⟩
  ihave Hx := (pointsTo_toks_split fullShare 2) $$ Hx
  icases Hx with ⟨Hxd, Hx⟩
  ihave Hl := (pointsTo_toks_split fullShare 2) $$ Hl
  icases Hl with ⟨Hld, Hl⟩
  isplitl [Hx Hl Ht]
  · isplitl [Hx]; · iexact Hx
    isplitl [Hl] <;> iassumption
  isplitl [Hxd] <;> iassumption

/-- and come back, the result at the targets. -/
theorem cores_undeal (d : Dev nD) :
    iprop((bigSep Finset.univ fun c : Fin ((K (F := F)).nCore 0) => (P m).dn 0 d c) ∗ kept m d)
      ⊢ (iprop((xLoc d ↦{fullShare} m (xLoc d)) ∗ (lLoc d ↦{fullShare} m (lLoc d)) ∗ (tLoc d ↦{fullShare} aim m d)) : sProp 𝕄) := by
  show iprop((bigSep Finset.univ (corePay m (aim m) d)) ∗ kept m d) ⊢ _
  rw [cores_eq]
  unfold kept
  iintro ⟨⟨Hx, Hl, Ht⟩, Hxd, Hld⟩
  isplitl [Hxd Hx]
  · iapply (pointsTo_toks_join fullShare 2)
    isplitl [Hxd] <;> iassumption
  isplitl [Hld Hl]
  · iapply (pointsTo_toks_join fullShare 2)
    isplitl [Hld] <;> iassumption
  iexact Ht

end Cert.KernelIdeal.Pf

end
-- ==== Proof.Merge.lean ====
/-
  One run of the TensorCore kernel's body: three blocks read, the merged block stored.
-/
module

public import proofs.«01_k».proof.Proof.Base
public import Idealize.ShloMosaic.Lib.VecWindow

@[expose] public section

noncomputable section

namespace Cert.KernelIdeal.Pf

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig (HIx 1) (Elt F) ℕ UU ℕ

/-- From the three input blocks and any output block, the body stores the merged block and leaves the inputs. -/
theorem merge_run (d : Dev nD) (i : grid1.Coords) (M1 : Memref sig .tc .vmem S16x1 .i32) (h1 : M1.IsWhole) (M2 : Memref sig .tc .vmem S16x1 .f32) (h2 : M2.IsWhole)
    (M3 : Memref sig .tc .vmem S16x100000 .f32) (h3 : M3.IsWhole) (M4 : Memref sig .tc .vmem S16x100000 .f32) (h4 : M4.IsWhole)
    (X1 : Vec F S16x1 .i32) (X2 : Vec F S16x1 .f32) (X3 X4 : Vec F S16x100000 .f32) (E : Set ℕ) (Q : PUnit → sProp 𝕄) :
    iprop(owns (d.tc : Thread nD τ) M1 fullShare X1 ∗ owns (d.tc : Thread nD τ) M2 fullShare X2 ∗ owns (d.tc : Thread nD τ) M3 fullShare X3
        ∗ owns (d.tc : Thread nD τ) M4 fullShare X4
        ∗ (iprop(owns (d.tc : Thread nD τ) M1 fullShare X1 ∗ owns (d.tc : Thread nD τ) M2 fullShare X2 ∗ owns (d.tc : Thread nD τ) M3 fullShare X3
            ∗ owns (d.tc : Thread nD τ) M4 fullShare (k1_pay1 X3 X1 X2)) -∗ Q ⟨⟩))
      ⊢ wp frame (wpE (defs₀ (F := F)) 𝒱₀ (d.tc : Thread nD τ) none) E (cc1__merge_body i M1 h1 M2 h2 M3 h3 M4 h4) Q := by
  rw [cc1__merge_body_eq_skeleton]; unfold cc1__merge_body_skel
  simp only [Prog.lift, Prog.bind_op, Prog.bind_ret, Prog.pure_eq_ret]
  unfold owns
  iintro ⟨⟨%f1, %e1, H1⟩, ⟨%f2, %e2, H2⟩, ⟨%f3, %e3, H3⟩, ⟨%f4, %e4, H4⟩, Hk⟩
  iapply (wp_load 𝒱₀ (d.tc : Thread nD τ) none E (View.setOn_subset_set _ _)) $$ H3
  iintro H3
  iapply (wp_load 𝒱₀ (d.tc : Thread nD τ) none E (View.setOn_subset_set _ _)) $$ H1
  iintro H1
  iapply (wp_load 𝒱₀ (d.tc : Thread nD τ) none E (View.setOn_subset_set _ _)) $$ H2
  iintro H2
  iapply (wp_load 𝒱₀ (d.tc : Thread nD τ) none E (View.setOn_subset_set _ _)) $$ H4
  iintro H4
  iapply (wp_store 𝒱₀ (d.tc : Thread nD τ) none E (m := M4) (r := Rect.unit (s := S16x100000) ![0, 0] S16x100000.size inb_S16x100000_S16x100000_0_0)
    (S := M4.view.set) (f := f4) ((View.setOn_subset_set _ _).trans (View.set_slice_subset _ _))) $$ H4
  iintro H4
  rw [View.readAt_full, View.readAt_full, View.readAt_full, e1, e2, e3]
  rw [wp_ret]
  imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _
  isplitr; swap
  · iexact H4
  ipureintro
  exact View.read_writes_full M4.view f4 inb_S16x100000_S16x100000_0_0 (k1_pay1 X3 X1 X2) []

end Cert.KernelIdeal.Pf

end
-- ==== Proof.Region.lean ====
/-
  The TensorCore kernel over its 64 blocks of rows: entered with the arrays at any contents, left with
  the result's array as the merged blocks written back make it.
-/
module

public import proofs.«01_k».proof.Proof.Merge
public import proofs.«01_k».proof.Proof.Gen.KernelIdeal.Points
public import Idealize.ShloMosaic.Lib.Pipeline.RegionsLoop

@[expose] public section

noncomputable section

namespace Cert.KernelIdeal.Pf

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig (HIx 1) (Elt F) ℕ UU ℕ

/-- Contents of a core's buffers, by name. -/
abbrev Vals (F : FTy → Type) (c : Dev nD) : Type := (b : Ref sig .tc) → Buf (Elt F) ((c : Thread nD τ).loc b)

/-! ## The blocks -/

section Blocks
variable {c : Dev nD} (V : Vals F c)

/-- A window's block at a point, of the array the window is on. -/
abbrev blkAt (w : Fin cfg1.W) (t : Fin cfg1.N) : ((cfg1.win w).xblock (cfg1.grid.coords t)).Idx → Elt F (cfg1.win w).elt :=
  ((cfg1.win w).blk t).view.read (Elt F) (V (Pipeline.arrRef spec1 w))

/-- The merged block. -/
abbrev mergedAt (t : Fin cfg1.N) : Vec F S16x100000 .f32 := k1_pay1 (blkAt V 2 t) (blkAt V 0 t) (blkAt V 1 t)

end Blocks

/-- The pairs a wait recorded before the region may have. -/
abbrev Rec : Type := Set (SemLoc sig × HIx 1)

/-- Inputs stay as fetched, the result's block is the merged one; nothing owed; the records stay those of `S`. -/
def mdat (S : Rec) (c : Dev nD) (V : Vals F c) : Dat τ (Elt F) (HIx 1) ℕ UU ℕ cfg1 c where
  A w := V (Pipeline.arrRef spec1 w)
  after w t := match w with
    | ⟨0, _⟩ => blkAt V 0 t
    | ⟨1, _⟩ => blkAt V 1 t
    | ⟨2, _⟩ => blkAt V 2 t
    | ⟨3, _⟩ => mergedAt V t
  Φ _ := BI.emp
  q _ := fullShare
  owed _ := 0
  recorded _ := S

section Body
variable (S : Rec) (c : Dev nD) (V : Vals F c)

theorem before_input (w : Fin cfg1.W) (t : Fin cfg1.N) (hf : (cfg1.win w).fetch t = true) (d) :
    (mdat S c V).before w t d = (mdat S c V).fetched w t d := (mdat S c V).before_fetched w t hf d

theorem merge_obligation : BodyObligation (mdat S c V) (defs₀ (F := F)) 𝒱₀ none Set.univ := fun t => by
  rw [bigSep_W1, bigSep_W1]
  change _ ⊢ wp _ _ _ (bodyAt1 t) _
  rw [show (mdat S c V).Φ t.castSucc = BI.emp from rfl, show (mdat S c V).Φ t.succ = BI.emp from rfl,
    show (mdat S c V).owesAt none t.succ = (mdat S c V).owesAt none t.castSucc from rfl]
  iintro ⟨-, HO, ⟨%d0, H0⟩, ⟨%d1, H1⟩, ⟨%d2, H2⟩, ⟨%d3, H3⟩⟩
  rw [before_input S c V 0 t (fetch1_0 t), before_input S c V 1 t (fetch1_1 t), before_input S c V 2 t (fetch1_2 t)]
  iapply (merge_run c (grid1.coords t) _ _ _ _ _ _ _ _ (blkAt V 0 t) (blkAt V 1 t) (blkAt V 2 t) ((mdat S c V).before 3 t d3) Set.univ _)
  isplitl [H0]; · iexact H0
  isplitl [H1]; · iexact H1
  isplitl [H2]; · iexact H2
  isplitl [H3]; · iexact H3
  iintro ⟨H0, H1, H2, H3⟩
  isplitr; · iempintro
  isplitl [HO]; · iexact HO
  isplitl [H0]; · iexact H0
  isplitl [H1]; · iexact H1
  isplitl [H2]; · iexact H2
  iexact H3

end Body

/-! ## The region over every array of the core -/

/-- The grid's tables: none. -/
abbrev adm : (p : Fin 1) → (pcfgs (F := F) p).Adm := fun _ => Pipeline.Cfg.toPCfg_adm cfg1

def mdats (S : Dev nD → Rec) (V : (c : Dev nD) → Vals F c) : (p : Fin 1) → (c : Dev nD) → Dat τ (Elt F) (HIx 1) ℕ UU ℕ (Pipeline.pin (pcfgs (F := F)) adm p) c :=
  fun _ c => mdat (S c) c (V c)

/-- The result's array once every merged block is written back. -/
def merged (S : Rec) (c : Dev nD) (V : Vals F c) : Buf (Elt F) ((c : Thread nD τ).loc main_v3) := (mdat S c V).arrAt 3 cfg1.N

/-- What the core owes around the region: nothing, its records among `S`. -/
abbrev owesIn (S : Rec) (c : Dev nD) : sProp 𝕄 :=
  iprop(∃ W : Waits sig (HIx 1), ⌜∀ p ∈ W, p ∈ S⌝ ∗ owes (c : Thread nD τ) (0 : CellTallies nD τ sig (HIx 1)) W)

set_option backward.isDefEq.respectTransparency.types false in
/-- The region, entered with every array at `V`, left with them at `V'`, which is `V` but for the merged result. -/
def mergeSeg (S : Dev nD → Rec) (hS : ∀ c s, (s, none) ∈ S c) (V V' : (c : Dev nD) → Vals F c) (hout : ∀ c, V' c main_v3 = merged (S c) c (V c))
    (hrest : ∀ c (b : Ref sig .tc), b ≠ main_v3 → V' c b = V c b) :
    Pipeline.RegionSeg (pcfgs (F := F)) adm (mdats S V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (merge_obligation (S c) c (V c)).loose
  hwaits := Pipeline.hwaits_of_owed_zero _ _ _ _ _ _ 0 fun _ _ => rfl
  pre c := iprop(unscopedBufs c (V c) ∗ owesIn (S c) c)
  post c := iprop(unscopedBufs c (V' c) ∗ owesIn (S c) c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (mdats S V) launch1.win launch1.arr_whole c
      ((mdats S V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr; · ipureintro; exact fun p hp => Or.inl (hW p hp)
      iexact HO
    isplitr; · iempintro
    iexact Hrest
  hin c := by
    rw [show (mdats S V 0 c).Φ 0 = BI.emp from rfl]
    iintro -
    iempintro
  hout c := by
    rw [Pipeline.ownSems0_none, show Pipeline.scopedRest (Pipeline.pin (pcfgs (F := F)) adm 0).spec c = BI.emp from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ)
      launch1.win launch1.arr_whole c
      (mdats S V) ((mdats S V 0 c).share_full fun _ => rfl) (V c) (V' c) ((mdats S V 0 c).arrAt · cfg1.N)
      (fun w => match w with
        | ⟨0, _⟩ => ((mdats S V 0 c).arrAt_in 0 rfl _).trans (hrest c main_v1 (by decide)).symm
        | ⟨1, _⟩ => ((mdats S V 0 c).arrAt_in 1 rfl _).trans (hrest c main_v2 (by decide)).symm
        | ⟨2, _⟩ => ((mdats S V 0 c).arrAt_in 2 rfl _).trans (hrest c main_arg0 (by decide)).symm
        | ⟨3, _⟩ => (hout c).symm)
      (fun b hb => hrest c b fun h => hb (h ▸ Finset.mem_image.mpr ⟨3, Finset.mem_univ _, rfl⟩))
    iintro ⟨Ha, HO, -, Hrest⟩
    imodintro
    isplitl [Ha Hrest]
    · iapply hjoin
      isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact hS _ _
    iexact HO

end Cert.KernelIdeal.Pf

end
-- ==== Proof.Launch.lean ====
/-
  The whole program's run: the SparseCore call, the two reshapes, the TensorCore kernel.
-/
module

public import proofs.«01_k».proof.Proof.Task
public import proofs.«01_k».proof.Proof.Region
public import Idealize.ShloMosaic.Lib.Pipeline.FrameTail

@[expose] public section

noncomputable section

namespace Cert.KernelIdeal.Pf

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Cert.KernelIdeal Cert.KernelIdeal.Gen

variable {F : FTy → Type} [FloatOps F] (m : (ℓ : Loc nD τ sig) → Buf (Elt F) ℓ)

local notation "𝕄" => MT nD τ sig (HIx 1) (Elt F) ℕ UU ℕ

/-! ## The ghost state at the launch -/

/-- The TensorCore pipeline's cells and tokens on a core. -/
abbrev pipeKit (d : Dev nD) : sProp 𝕄 :=
  iprop(Pipeline.cellsGhost (Pipeline.pin (pcfgs (F := F)) adm) EP 0 d ∗ Pipeline.toksInit (Pipeline.pin (pcfgs (F := F)) adm) EP 0 d)

def pipe₀ : UP := initOf (Pipeline.cells (nD := nD) (τ := τ) cfgs cellOf_inj) (Pipeline.launchToks (nD := nD) (τ := τ) cfgs cellOf_inj)

def launch₀ : UU := (initOf (K (F := F)).hsCells (K (F := F)).hsToks, (pipe₀, 1))

omit [FloatOps F] in
theorem launch₀_split : (ownU (launch₀ (F := F)) : sProp 𝕄)
    ⊢ iprop(BI.own (EH (initOf (K (F := F)).hsCells (K (F := F)).hsToks)) ∗ BI.own (EP pipe₀)) :=
  BI.own_op_elim ((uEmb (nD := nD) (sig := sig) (Ix := HIx 1) (Val := Elt F) (Name := ℕ) (U := UU) (Lvl := ℕ)).toEmb.op_of_mem
    (Prod.mk_mem_op (URA.mem_op_one _) (URA.mem_one_op _)))

omit [FloatOps F] in
theorem pipe₀_fund : (BI.own (EP pipe₀) : sProp 𝕄) ⊢ iprop(|==> bigSep Finset.univ fun d : Dev nD => pipeKit (F := F) d) := by
  unfold pipe₀
  refine (Pipeline.fund_ghost (nD := nD) (τ := τ) cfgs EP cellOf_inj).trans (BI.bupd_mono ?_)
  change _ ⊢ bigSep Finset.univ fun d : Dev nD => iprop(Pipeline.cellsGhost (nD := nD) (τ := τ) cfgs EP 0 d ∗ Pipeline.toksInit cfgs EP 0 d)
  rw [bigSep_sep']
  exact BIClass.sep_mono (Entails.of_eq (bigSep_congr fun d _ => bigSep_univ_of_subsingleton (0 : Fin 1)))
    (Entails.of_eq (bigSep_congr fun d _ => bigSep_univ_of_subsingleton (0 : Fin 1)))

theorem launch_fund : (ownU (launch₀ (F := F)) : sProp 𝕄)
    ⊢ |={Set.univ}=> iprop(BI.own (EH (initOf (K (F := F)).hsCells (K (F := F)).hsToks)) ∗ (bigSep Finset.univ fun d : Dev nD => pipeKit (F := F) d)
        ∗ bigSep Finset.univ fun thr : Thread nD τ => bigSep Finset.univ fun q : Fin 1 => (P m).x q thr) := by
  iintro Hu
  ihave H := launch₀_split $$ Hu
  icases H with ⟨HH, HP⟩
  imod pipe₀_fund $$ HP with HG
  imodintro
  isplitl [HH]; · iexact HH
  isplitl [HG]; · iexact HG
  rw [show (bigSep Finset.univ fun thr : Thread nD τ => bigSep Finset.univ fun q : Fin 1 => (P m).x q thr) = (iprop(emp) : sProp 𝕄) from
    (bigSep_congr fun _ _ => bigSep_emp_const _).trans (bigSep_emp_const _)]
  iempintro

/-! ## The contents from step to step -/

abbrev gv (b : Ref sig .tc) : DevRef τ sig := Proc.devRef .tc b

abbrev labCol : HloOp τ sig (Elt F) := StableHlo.reshape main_arg1 main_v1 (rfl : (.i32 : EltTy) = .i32) shapeCasts_S1024_S1024x1
abbrev tgtCol : HloOp τ sig (Elt F) := StableHlo.reshape main_v0 main_v2 (rfl : (.f32 : EltTy) = .f32) shapeCasts_S1024_S1024x1

/-- After the call, -/
def vals1 (d : Dev nD) : Valuation τ sig (Elt F) := Function.update (fun b => m (d, b)) (gv main_v0) (aim m d)
/-- after the reshapes, -/
def vals2 (d : Dev nD) : Valuation τ sig (Elt F) := (tgtCol (F := F)).result ((labCol (F := F)).result (vals1 m d))
/-- the records a core may have then, -/
def recs (d : Dev nD) : Rec := {p | (K (F := F)).lev ((d : Thread nD τ), p.1) p.2 ≤ 8 * (SparseCore.Cfg.Blocks.fst (Q := 1) (N := 1) 1)}
/-- the result, -/
def merge1 (d : Dev nD) : Buf (Elt F) ((d : Thread nD τ).loc main_v3) := merged (recs (F := F) d) d (fun b => vals2 m d (gv b))
/-- and after the TensorCore kernel. -/
def vals3 (d : Dev nD) : Valuation τ sig (Elt F) := Function.update (vals2 m d) (gv main_v3) (merge1 m d)

omit [FloatOps F] in
theorem arrays_six (d : Dev nD) (W : Vals F d) :
    (unscopedBufs d W : sProp 𝕄) = iprop((xLoc d ↦{fullShare} W main_arg0) ∗ (lLoc d ↦{fullShare} W main_arg1) ∗ (tLoc d ↦{fullShare} W main_v0)
      ∗ ((d : Thread nD τ).loc main_v1 ↦{fullShare} W main_v1) ∗ ((d : Thread nD τ).loc main_v2 ↦{fullShare} W main_v2) ∗ (d : Thread nD τ).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem vals1_of_ne (d : Dev nD) (b : Ref sig .tc) (h : b ≠ main_v0) : vals1 m d (gv b) = m ((d : Thread nD τ).loc b) :=
  Function.update_of_ne (fun e => h (Proc.devRef_injective _ e)) _ _
theorem vals1_tgt (d : Dev nD) : vals1 m d (gv main_v0) = aim m d := Function.update_self _ _ _

theorem vals2_of_ne (d : Dev nD) (b : Ref sig .tc) (h1 : b ≠ main_v1) (h2 : b ≠ main_v2) : vals2 m d (gv b) = vals1 m d (gv b) :=
  ((tgtCol (F := F)).result_of_not_mem _ fun h => h2 (Proc.devRef_injective _ (Finset.mem_singleton.mp h))).trans
    ((labCol (F := F)).result_of_not_mem _ fun h => h1 (Proc.devRef_injective _ (Finset.mem_singleton.mp h)))

theorem vals3_of_ne (d : Dev nD) (b : Ref sig .tc) (h : b ≠ main_v3) : vals3 m d (gv b) = vals2 m d (gv b) :=
  Function.update_of_ne (fun e => h (Proc.devRef_injective _ e)) _ _
theorem vals3_res (d : Dev nD) : vals3 m d (gv main_v3) = merge1 m d := Function.update_self _ _ _

theorem vals3_arg0 (d : Dev nD) : vals3 m d (gv main_arg0) = m (xLoc d) :=
  (vals3_of_ne m d _ (by decide)).trans ((vals2_of_ne m d _ (by decide) (by decide)).trans (vals1_of_ne m d _ (by decide)))
theorem vals3_arg1 (d : Dev nD) : vals3 m d (gv main_arg1) = m (lLoc d) :=
  (vals3_of_ne m d _ (by decide)).trans ((vals2_of_ne m d _ (by decide) (by decide)).trans (vals1_of_ne m d _ (by decide)))

theorem none_recs (d : Dev nD) (s : SemLoc sig) : (s, none) ∈ recs (F := F) d := Nat.zero_le _

/-! ## `main` on the TensorCore -/

/-- The device's memory, held whole. -/
abbrev arrays (d : Dev nD) (W : Valuation τ sig (Elt F)) : sProp 𝕄 := unscopedBufs d fun b => W (gv b)

/-- The TensorCore kernel, in the program. -/
theorem wp_merge [∀ e, Nonempty (Elt F e)] (d : Dev nD) (Q : PUnit → sProp 𝕄) :
    iprop(boundary (d : Thread nD τ) ∗ arrays d (vals2 m d) ∗ owesIn (recs (F := F) d) d ∗ levAts (K (F := F)).L (K (F := F)).lev ∗ pipeKit (F := F) d
        ∗ ((boundary (d : Thread nD τ) ∗ arrays d (vals3 m d) ∗ owesIn (recs (F := F) d) d) -∗ Q ⟨⟩))
      ⊢ wp frame (wpE ((K (F := F)).defs (D (F := F))) 𝒱 (SparseCore.T d) none) Set.univ
          (Prog.lift (.customCall (SparseCore.inner (Pipeline.entry (0 : Fin 1))) ()) : Prog (TpuEff nD τ sig (Elt F) (SparseCore.Sig (Pipeline.Sig Λ₀ (Fin 1) fun p => (pcfgs (F := F) p).Adm) 1) .tc) PUnit) Q := by
  refine BIBase.Entails.trans ?_ ((K (F := F)).wp_liftProg (D (F := F)) 𝒱 (SparseCore.T d) Set.univ none
    (Prog.lift (.customCall (Pipeline.entry (0 : Fin 1)) ())) Q)
  refine BIBase.Entails.trans ?_ (Pipeline.RegionSeg.wp (pcfgs (F := F)) adm (mdats (recs (F := F)) fun c b => vals2 m c (gv b)) none cellOf_inj EP defs₀ 𝒱₀
    (K (F := F)).L (K (F := F)).lev (mergeSeg (recs (F := F)) (fun c s => none_recs c s) (fun c b => vals2 m c (gv b)) (fun c b => vals3 m c (gv b))
      (fun c => vals3_res m c) (fun c b hb => vals3_of_ne m c b hb)) d none (fun _ h => nomatch h) (fun u => .ret u) Q)
  dsimp only [mergeSeg]
  iintro ⟨Hb, HU, HO, Hl, ⟨Hc, Ht⟩, Hk⟩
  isplitl [Hk]
  · iintro ⟨Hb, HU, HO⟩
    rw [wp_ret]; imodintro
    iapply Hk $$ [Hb HU HO]
    isplitl [Hb]; · iexact Hb
    isplitl [HU]; · iexact HU
    iexact HO
  isplitl [Hb]; · iexact Hb
  isplitl [HU HO]
  · isplitl [HU]; · iexact HU
    iexact HO
  isplitl [Hl]; · iexact Hl
  isplitl [Hc]; · iexact Hc
  iexact Ht

/-- What the run leaves the claim: the arguments as launched, the result merged. -/
abbrev leftAt (d : Dev nD) : sProp 𝕄 :=
  iprop((xLoc d ↦{fullShare} m (xLoc d)) ∗ (lLoc d ↦{fullShare} m (lLoc d)) ∗ (d : Thread nD τ).loc main_v3 ↦{fullShare} merge1 m d)

theorem arrays_vals1 (d : Dev nD) :
    (arrays d (vals1 m d) : sProp 𝕄) = iprop((xLoc d ↦{fullShare} m (xLoc d)) ∗ (lLoc d ↦{fullShare} m (lLoc d)) ∗ (tLoc d ↦{fullShare} aim m d)
      ∗ ((d : Thread nD τ).loc main_v1 ↦{fullShare} m ((d : Thread nD τ).loc main_v1)) ∗ ((d : Thread nD τ).loc main_v2 ↦{fullShare} m ((d : Thread nD τ).loc main_v2))
      ∗ (d : Thread nD τ).loc main_v3 ↦{fullShare} m ((d : Thread nD τ).loc main_v3)) := by
  unfold arrays
  rw [arrays_six, vals1_tgt, vals1_of_ne m d main_arg0 (by decide), vals1_of_ne m d main_arg1 (by decide), vals1_of_ne m d main_v1 (by decide),
    vals1_of_ne m d main_v2 (by decide), vals1_of_ne m d main_v3 (by decide)]

theorem arrays_vals3 (d : Dev nD) : (arrays d (vals3 m d) : sProp 𝕄) ⊢ leftAt m d := by
  unfold arrays
  rw [arrays_six, vals3_arg0, vals3_arg1, vals3_res]
  iintro ⟨Hx, Hl, -, -, -, Ho⟩
  isplitl [Hx]; · iexact Hx
  isplitl [Hl]; · iexact Hl
  iexact Ho

theorem mem_uc (b : Ref sig .tc) (h : b.isScoped = false) : gv b ∈ Pipeline.ucRefs τ sig := Pipeline.devRef_mem_ucRefs h

theorem labCol_bufs : (labCol (F := F)).bufs ⊆ Pipeline.ucRefs τ sig := show ({gv main_arg1, gv main_v1} : Finset (DevRef τ sig)) ⊆ _ by
  intro b hb; rcases Finset.mem_insert.mp hb with rfl | hb
  · exact mem_uc _ (by decide)
  · rw [Finset.mem_singleton.mp hb]; exact mem_uc _ (by decide)
theorem tgtCol_bufs : (tgtCol (F := F)).bufs ⊆ Pipeline.ucRefs τ sig := show ({gv main_v0, gv main_v2} : Finset (DevRef τ sig)) ⊆ _ by
  intro b hb; rcases Finset.mem_insert.mp hb with rfl | hb
  · exact mem_uc _ (by decide)
  · rw [Finset.mem_singleton.mp hb]; exact mem_uc _ (by decide)

theorem held_vals2 (d : Dev nD) :
    (StableHlo.held (SparseCore.T d : Thread nD τ) (Pipeline.ucRefs τ sig) ((tgtCol (F := F)).result ((labCol (F := F)).result (vals1 m d))) : sProp 𝕄) = arrays d (vals2 m d) :=
  (Pipeline.unscopedBufs_held d (vals2 m d)).symm

variable (ρ : Dev nD → PrngReg)

/-- The call, the two reshapes, the TensorCore kernel. -/
theorem main_wp [∀ e, Nonempty (Elt F e)] (κ : GSem nD τ sig → ℕ) (d : Dev nD) :
    iprop((K (F := F)).ctx EH (P m) κ ∗ (K (F := F)).tcSt EH d 0 ∗ (K (F := F)).tcRes m ρ d ∗ pipeKit (F := F) d)
      ⊢ wp frame (wpE ((K (F := F)).defs (D (F := F))) 𝒱 (SparseCore.T d) none) Set.univ (main d)
          fun _ => iprop((K (F := F)).tcSt EH d 1 ∗ leftAt m d ∗ (K (F := F)).tcEnd d) := by
  unfold SparseCore.Cfg.tcRes SparseCore.Cfg.tcEnd
  rw [arrays_six]
  simp only [main, wp_bind, wp_pure]
  iintro ⟨#Hctx, Hst, ⟨Hb, ⟨Hx, Hl, Ht, H1, H2, H3⟩, Hts, -⟩, HG⟩
  ihave Hd := (cores_deal m d) $$ [Hx Hl Ht]
  · isplitl [Hx]; · iexact Hx
    isplitl [Hl]; · iexact Hl
    iexact Ht
  icases Hd with ⟨Hgo, Hkept⟩
  iapply ((K (F := F)).wp_run (D (F := F)) 𝒱 (EH := EH) (P := P m) κ d 0) $$ [Hst Hgo Hkept Hb H1 H2 H3 Hts HG]
  isplitr; · iexact Hctx
  isplitl [Hst]; · iexact Hst
  isplitl [Hgo]; · iexact Hgo
  iintro ⟨Hst, Hdn⟩
  ihave Hu := (cores_undeal m d) $$ [Hdn Hkept]
  · isplitl [Hdn] <;> iassumption
  icases Hu with ⟨Hx, Hl, Ht⟩
  ihave HU := (Entails.of_eq (arrays_vals1 m d).symm) $$ [Hx Hl Ht H1 H2 H3]
  · isplitl [Hx]; · iexact Hx
    isplitl [Hl]; · iexact Hl
    isplitl [Ht]; · iexact Ht
    isplitl [H1]; · iexact H1
    isplitl [H2]; · iexact H2
    iexact H3
  ihave Hheld := (Entails.of_eq (Pipeline.unscopedBufs_held d (vals1 m d))) $$ HU
  iapply (wp_hlo_within 𝒱 (SparseCore.T d) none Set.univ (op := labCol) (S := Pipeline.ucRefs τ sig) labCol_bufs (V := vals1 m d)) $$ [Hb Hheld]
  · isplitl [Hb]; · iexact Hb
    iexact Hheld
  iintro ⟨Hb, Hheld⟩
  rw [wp_ret]; imodintro
  iapply (wp_hlo_within 𝒱 (SparseCore.T d) none Set.univ (op := tgtCol) (S := Pipeline.ucRefs τ sig) tgtCol_bufs (V := labCol.result (vals1 m d))) $$ [Hb Hheld]
  · isplitl [Hb]; · iexact Hb
    iexact Hheld
  iintro ⟨Hb, Hheld⟩
  rw [wp_ret]; imodintro
  ihave HU := (Entails.of_eq (held_vals2 m d)) $$ Hheld
  unfold SparseCore.Cfg.tcSt
  icases Hst with ⟨⟨%W, %hW, HO⟩, Hst⟩
  ihave Hlev := ((K (F := F)).ctx_levAts κ) $$ Hctx
  iapply (wp_merge m d _) $$ [Hb HU HO Hlev HG Hst Hts]
  isplitl [Hb]; · iexact Hb
  isplitl [HU]; · iexact HU
  isplitl [HO]
  · iexists W
    isplitr; · ipureintro; exact fun p hp => hW p hp
    ihave HO := (Entails.of_eq (congrArg (fun O => (owes (SparseCore.T d) O W : sProp 𝕄)) ((K (F := F)).Otc_end d (n := (0 : Fin 1).val + 1) (le_refl 1)))) $$ HO
    iexact HO
  isplitl [Hlev]; · iexact Hlev
  isplitl [HG]; · iexact HG
  iintro ⟨Hb, HU, ⟨%W', %hW', HO⟩⟩
  ihave Hleft := (arrays_vals3 m d) $$ HU
  imodintro
  isplitl [HO Hst]
  · isplitl [HO]
    · iexists W'
      isplitr; · ipureintro; exact fun p hp => hW' p hp
      ihave HO := (Entails.of_eq (congrArg (fun O => (owes (SparseCore.T d) O W' : sProp 𝕄)) ((K (F := F)).Otc_end d (le_refl 1)).symm)) $$ HO
      iexact HO
    · iexact Hst
  isplitl [Hleft]; · iexact Hleft
  isplitl [Hb] <;> iassumption

/-- What a final state holds. -/
def leftFact (d : Dev nD) (s' : Phys nD τ sig (Elt F)) : Prop :=
  s'.mem.mem (xLoc d) = m (xLoc d) ∧ s'.mem.mem (lLoc d) = m (lLoc d) ∧ s'.mem.mem ((d : Thread nD τ).loc main_v3) = merge1 m d

omit [FloatOps F] in
/-- A buffer held whole is what the final memory has there. -/
theorem whole_read (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  refine BIBase.Entails.trans (persistent_entails_right (P := iprop((ℓ ↦{fullShare} f) ∗ SI s')) (Q := iprop(⌜s'.mem.mem ℓ = f⌝)) ?_) ?_
  · iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  · iintro ⟨%h, -, HSI⟩
    isplitr; · ipureintro; exact h
    iexact HSI

theorem left_read (d : Dev nD) (s' : Phys nD τ sig (Elt F)) : iprop(leftAt m d ∗ SI s') ⊢ (⌜leftFact m d s'⌝ : sProp 𝕄) := by
  iintro ⟨⟨Hx, Hl, Ho⟩, HSI⟩
  ihave H := (whole_read s' _ _) $$ [Hx HSI]
  · isplitl [Hx] <;> iassumption
  icases H with ⟨%hx, HSI⟩
  ihave H := (whole_read s' _ _) $$ [Hl HSI]
  · isplitl [Hl] <;> iassumption
  icases H with ⟨%hl, HSI⟩
  ihave H := (whole_read s' _ _) $$ [Ho HSI]
  · isplitl [Ho] <;> iassumption
  icases H with ⟨%ho, -⟩
  ipureintro; exact ⟨hx, hl, ho⟩

/-! ## The program's run -/

def Ends : PUnit × MemSt nD τ sig (Elt F) → Prop := fun r =>
  (∀ d : Dev nD, r.2.mem (xLoc d) = m (xLoc d) ∧ r.2.mem (lLoc d) = m (lLoc d) ∧ r.2.mem ((d : Thread nD τ).loc main_v3) = merge1 m d) ∧ r.2.sem = fun _ => 0

theorem run_main [∀ e, Nonempty (Elt F e)] (hl : ∀ d, InTable (m (lLoc d))) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hl)
    (fun q _ => match q with | 0 => SparseCore.Cfg.VecSplit.of_plain (vecSplit m))
    m ρ main (fun d => pipeKit d) (leftAt m) (launch₀ (F := F)) (sep_elim_left.trans (launch_fund m)) (main_wp m ρ) (leftFact m) (left_read m) (Ends m)
    (fun _ h hz => ⟨h, hz⟩)

end Cert.KernelIdeal.Pf

end
-- ==== Proof.Ranges.lean ====
/-
  What the preconditions say of the labels.
-/
module

public import proofs.«01_k».proof.Defs
public import proofs.«01_k».proof.Proof.Chunk
public import proofs.«01_k».proof.Proof.Gen.Pre_in_table
public import proofs.«01_k».proof.Proof.Gen.Pre_in_range
public import Idealize.ShloMosaic.Lib.ReduceAll

@[expose] public section

noncomputable section

namespace Cert.KernelIdeal.Pf

open Idealize.ShloMosaic
open Cert.KernelIdeal

theorem ofBool_one (p : Bool) (h : BitVec.ofBool p = 1#1) : p = true := by cases p <;> simp_all

theorem both_one {a b : BitVec 1} (h : IntOp.andi a b = 1#1) : a = 1#1 ∧ b = 1#1 := by
  revert a b
  decide

theorem slt_bound {w : BitVec 32} (h : IntOp.cmpi .slt w 100000#32 = 1#1) : w.toInt < 100000 := by
  have := BitVec.slt_iff_toInt_lt.mp (ofBool_one _ h)
  rwa [show (100000#32 : BitVec 32).toInt = 100000 by decide] at this

theorem sge_bound {w : BitVec 32} (h : IntOp.cmpi .sge w 4294967295#32 = 1#1) : -1 ≤ w.toInt := by
  have := BitVec.sle_iff_toInt_le.mp (ofBool_one _ h)
  rwa [show (4294967295#32 : BitVec 32).toInt = -1 by decide] at this

theorem col_lt {w : BitVec 32} (h : w.toInt < 100000) : col w < 100000 := by unfold col; omega

instance one_index : Subsingleton Cert.Pre_in_table.S_.Idx := ⟨fun a b => funext fun k => k.elim0⟩

variable {F : FTy → Type} [FloatOps F]

theorem below_of_table (x : FVec F S1024x100000 .f32) (lab : IVec S1024 32) (h : Cert.Pre_in_table.fn (F := F) x lab = fun _ => 1#1) (i : S1024.Idx) :
    (lab i).toInt < 100000 := by
  have e := Host.reduce_andi_all _ _ _ _ _ (congrFun h fun a => a.elim0) i
  exact slt_bound e

theorem bounds_of_range (x : FVec F S1024x100000 .f32) (lab : IVec S1024 32) (h : Cert.Pre_in_range.fn (F := F) x lab = fun _ => 1#1) (i : S1024.Idx) :
    -1 ≤ (lab i).toInt ∧ (lab i).toInt < 100000 := by
  have e := Host.reduce_andi_all _ _ _ _ _ (congrFun h fun a => a.elim0) i
  have e' := both_one e
  exact ⟨sge_bound e'.1, slt_bound e'.2⟩

theorem inTable_of (lab : IVec S1024 32) (h : ∀ i, (lab i).toInt < 100000) : InTable lab := fun n => col_lt (h _)

end Cert.KernelIdeal.Pf

end
-- ==== Proof.Same.lean ====
/-
  The kernel over words and the kernel over the extended reals are one program text: the two tables
  of bodies are equal.
-/
module

public import proofs.«01_k».proof.Defs
public import proofs.«01_k».proof.Proof.Gen.Kernel
public import proofs.«01_k».proof.Proof.Gen.KernelIdeal

@[expose] public section

noncomputable section

namespace Cert.KernelIdeal.Pf

open Idealize.ShloMosaic Idealize.SL.Sem

variable {F : FTy → Type} [FloatOps F]

theorem gather_same : @Cert.Kernel.cc0__sc_gather_body F _ _ = @Cert.KernelIdeal.cc0__sc_gather_body F _ _ := rfl
theorem merge_same : @Cert.Kernel.cc1__merge_body F _ _ = @Cert.KernelIdeal.cc1__merge_body F _ _ := rfl

theorem bodies_same : (Cert.Kernel.defs₀ (F := F)) = Cert.KernelIdeal.defs₀ := by
  funext p ℓ a
  cases p with
  | tc =>
    match ℓ with
    | ⟨0, _⟩ => rfl
    | ⟨1, _⟩ => rfl
  | scScalar c =>
    match ℓ with
    | ⟨0, _⟩ => rfl
    | ⟨1, _⟩ => rfl
  | scVector c s =>
    match ℓ with
    | ⟨0, _⟩ => rfl
    | ⟨1, _⟩ => rfl

theorem defs_same : (Cert.Kernel.defs (F := F)) = Cert.KernelIdeal.defs :=
  congrArg (fun b => (Cert.KernelIdeal.sc (F := F)).defs (Pipeline.defs Cert.KernelIdeal.pcfgs b)) bodies_same

end Cert.KernelIdeal.Pf

end
-- ==== Proof.Margin.lean ====
/-
  The result, entry by entry: every logit times 64, the one in its row's own column moved by the
  margin first.  And the gathered target of a row, which is that own column's logit.
-/
module

public import proofs.«01_k».proof.Proof.Base
public import Idealize.ShloMosaic.PureOps.Ideal.Laws
public import Idealize.ShloMosaic.Lib.WordCmp

@[expose] public section

noncomputable section

namespace Cert.KernelIdeal.Pf

open Idealize.ShloMosaic Idealize.ShloMosaic.ValueIdx
open Cert.KernelIdeal Cert.KernelIdeal.Gen

/-- The margin on one cosine: past the threshold it is the cosine of the angle widened by the margin,
    below it the cosine less a constant. -/
def bent (t : Ideal .f32) : Ideal .f32 :=
  Scalar.select (FloatOps.cmpf .ogt t (Scalar.ofBits .f32 0xBF60A940#32))
    (FloatOps.subf (FloatOps.mulf t (Scalar.ofBits .f32 0x3F60A940#32))
      (FloatOps.mulf (FloatOps.sqrt (FloatOps.subf (Scalar.ofBits .f32 0x3F800000#32) (FloatOps.mulf t t))) (Scalar.ofBits .f32 0x3EF57744#32)))
    (FloatOps.subf t (Scalar.ofBits .f32 0x3E757744#32))

/-- The result at row `r`, column `c`. -/
def entry (x : S1024x100000.Idx → Ideal .f32) (lab : IVec S1024 32) (r : Fin 1024) (c : Fin 100000) : Ideal .f32 :=
  FloatOps.mulf (Scalar.ofBits .f32 0x42800000#32)
    (if (lab (ix1 r)).toInt = (c.val : ℤ) then bent (x (ix2 r c)) else x (ix2 r c))

/-! ## The gathered target -/

theorem accum_lane (v : ℕ → FVec Ideal S16 .f32) (n : ℕ) (hn : n ≤ 16) (j : Fin 16) :
    accum v n (ix1 j) = if j.val < n then v j.val (ix1 j) else 0 := by
  induction n with
  | zero => rw [if_neg (Nat.not_lt_zero _)]; exact Ideal.ofBits_zero_f32
  | succ n ih =>
    have e : accum v (n + 1) (ix1 j) = accum v n (ix1 j) + (if j.val = n then v n (ix1 j) else 0) := by
      have hs : Scalar.select (IntOp.cmpi .eq (BitVec.ofNat 32 (0 * 16 + j.val)) (BitVec.ofNat 32 n)) (v n (ix1 j)) (Scalar.ofBits .f32 0x00000000#32 : Ideal .f32)
          = if j.val = n then v n (ix1 j) else 0 := by
        rw [WordCmp.cmpi_eq_ofNat (by have := j.isLt; omega) (by omega), WordCmp.select_decide, Nat.zero_mul, Nat.zero_add]
        exact if_congr Iff.rfl rfl Ideal.ofBits_zero_f32
      exact congrArg (fun z => accum v n (ix1 j) + z) hs
    rw [e, ih (by omega)]
    rcases Nat.lt_trichotomy j.val n with h | h | h
    · rw [if_pos h, if_neg (by omega), if_pos (by omega), add_zero]
    · rw [if_neg (by omega), if_pos h, if_pos (by omega), zero_add, h]
    · rw [if_neg (by omega), if_neg (by omega), if_neg (by omega), add_zero]

theorem target_row (lab : IVec S1024 32) (x : S1024x100000.Idx → Ideal .f32) (r : Fin 1024) (c : Fin 100000)
    (hc : col (lab (ix1 r)) = c.val) : target lab x (ix1 r) = x (ix2 r c) := by
  have hr := r.isLt
  have hcl := c.isLt
  have e16 : (Fin.ofNat 16 r.val).val = r.val % 16 := rfl
  have hrow : 16 * (r.val / 16) + r.val % 16 = r.val := Nat.div_add_mod _ _
  have hl : labAt lab r.val = lab (ix1 r) := congrArg (fun k => lab (ix1 k)) (Fin.ext (Nat.mod_eq_of_lt hr))
  show accum (look lab x (r.val / 16)) 16 (ix1 (Fin.ofNat 16 r.val)) = _
  rw [accum_lane _ _ (le_refl _), if_pos (Fin.ofNat 16 r.val).isLt]
  show cell x (16 * (r.val / 16) + r.val % 16) (chunk0 lab (16 * (r.val / 16) + r.val % 16) + col (labAt lab (16 * (r.val / 16) + r.val % 16)) % 16) = _
  rw [hrow]
  unfold chunk0
  rw [hl, hc, Nat.div_add_mod]
  unfold cell
  congr 2
  · exact Fin.ext (Nat.mod_eq_of_lt hr)
  · exact Fin.ext (Nat.mod_eq_of_lt hcl)

end Cert.KernelIdeal.Pf

end
-- ==== Proof.Block.lean ====
/-
  The TensorCore kernel's result, entry by entry.
-/
module

public import proofs.«01_k».proof.Proof.Margin
public import proofs.«01_k».proof.Proof.Launch
public import proofs.«01_k».proof.Proof.Ranges
public import Idealize.ShloMosaic.Lib.Pipeline.ValueKit.Geometry

@[expose] public section

noncomputable section

namespace Cert.KernelIdeal.Pf

open Idealize.ShloMosaic Idealize.ShloMosaic.TcCoe Idealize.ShloMosaic.ValueIdx
open Idealize.SL Idealize.SL.Sem
open Cert.KernelIdeal Cert.KernelIdeal.Gen

/-! ## One block -/

/-- A column of sixteen, repeated along its rows. -/
theorem spread_at {α : Type} (v : S16x1.Idx → α) (p : Fin 16) (c : Fin 100000) :
    broadcastTo S16x100000 v broadcasts_S16x1_S16x100000 (ix2 p c) = v (ix2 p 0) :=
  broadcastTo_apply v _ _ _ fun a => by fin_cases a <;> rfl

theorem pay_at (x : Vec Ideal S16x100000 .f32) (l : Vec Ideal S16x1 .i32) (t : Vec Ideal S16x1 .f32) (p : Fin 16) (c : Fin 100000) :
    k1_pay1 x l t (ix2 p c) = FloatOps.mulf (Scalar.ofBits .f32 0x42800000#32)
      (Scalar.select (IntOp.cmpi .eq (BitVec.ofNat 32 c.val) (l (ix2 p 0)))
        (Scalar.select (IntOp.cmpi .sge (l (ix2 p 0)) 0#32) (bent (t (ix2 p 0))) (t (ix2 p 0))) (x (ix2 p c))) := by
  unfold k1_pay1
  simp only [shapeCast_self]
  refine congrArg (FloatOps.mulf (Scalar.ofBits .f32 0x42800000#32 : Ideal .f32)) ?_
  show Scalar.select (IntOp.cmpi .eq (BitVec.ofNat 32 (0 * 100000 + c.val)) (broadcastTo S16x100000 l broadcasts_S16x1_S16x100000 (ix2 p c)))
    (broadcastTo S16x100000 _ broadcasts_S16x1_S16x100000 (ix2 p c)) (x (ix2 p c)) = _
  rw [spread_at, spread_at, Nat.zero_mul, Nat.zero_add]
  rfl

/-- A word is the column `c` exactly when, read signed, it is `c`. -/
theorem column_iff (w : BitVec 32) (c : Fin 100000) : BitVec.ofNat 32 c.val = w ↔ w.toInt = (c.val : ℤ) := by
  have hc := c.isLt
  have e : (BitVec.ofNat 32 c.val).toInt = (c.val : ℤ) := WordCmp.toInt_ofNat_of_lt (by omega)
  exact ⟨fun h => h ▸ e, fun h => BitVec.eq_of_toInt_eq (e.trans h.symm)⟩

/-- The merged entry at row `r`, column `c`, when the block's row has the label and the target of `r`. -/
theorem merged_entry (x : S1024x100000.Idx → Ideal .f32) (lab : IVec S1024 32) (r : Fin 1024) (c : Fin 100000) (hl : (lab (ix1 r)).toInt < 100000) :
    FloatOps.mulf (Scalar.ofBits .f32 0x42800000#32)
      (Scalar.select (IntOp.cmpi .eq (BitVec.ofNat 32 c.val) (lab (ix1 r)))
        (Scalar.select (IntOp.cmpi .sge (lab (ix1 r)) 0#32) (bent (target lab x (ix1 r))) (target lab x (ix1 r))) (x (ix2 r c)))
      = entry x lab r c := by
  unfold entry
  refine congrArg (FloatOps.mulf (Scalar.ofBits .f32 0x42800000#32 : Ideal .f32)) ?_
  rw [WordCmp.cmpi_eq_eq, WordCmp.select_decide]
  refine (if_congr (column_iff _ c) rfl rfl).trans ?_
  by_cases h : (lab (ix1 r)).toInt = (c.val : ℤ)
  · rw [if_pos h, if_pos h, WordCmp.cmpi_sge_eq, WordCmp.select_decide,
      if_pos (by rw [h, show (0#32 : BitVec 32).toInt = 0 by decide]; omega), target_row lab x r c (by unfold col; rw [h]; rfl)]
  · rw [if_neg h, if_neg h]

/-! ## The arrays the kernel is entered with -/

variable (m : (ℓ : Loc nD τ sig) → Buf (Elt Ideal) ℓ) (d : Dev nD)

theorem column_at {α : Type} (v : S1024.Idx → α) (r : Fin 1024) : shapeCast S1024x1 v shapeCasts_S1024_S1024x1 (ix2 r 0) = v (ix1 r) :=
  shapeCast_apply v _ _ _ (by rw [Shape.rowMajor_val_one, Shape.rowMajor_val_two]; show r.val = r.val * 1 + 0; omega)

theorem vals2_x : vals2 m d (gv main_arg0) = m (xLoc d) :=
  (vals2_of_ne m d _ (by decide) (by decide)).trans (vals1_of_ne m d _ (by decide))

theorem vals2_lab (r : Fin 1024) : (vals2 m d (gv main_v1) : S1024x1.Idx → BitVec 32) (ix2 r 0) = (m (lLoc d) : S1024.Idx → BitVec 32) (ix1 r) := by
  have e : vals2 m d (gv main_v1) = (labCol (F := Ideal)).result (vals1 m d) (gv main_v1) :=
    StableHlo.reshape_result_ne _ _ _ _ _ _ _ (by decide)
  rw [e, StableHlo.reshape_result]
  exact (column_at _ r).trans (congrFun (vals1_of_ne m d main_arg1 (by decide)) _)

theorem vals2_tgt (r : Fin 1024) : (vals2 m d (gv main_v2) : S1024x1.Idx → Ideal .f32) (ix2 r 0) = target (F := Ideal) (m (lLoc d)) (m (xLoc d)) (ix1 r) := by
  have e : vals2 m d (gv main_v2) = _ := StableHlo.reshape_result _ _ _ _ _ _ _
  have e0 : (labCol (F := Ideal)).result (vals1 m d) (gv main_v0) = vals1 m d (gv main_v0) :=
    StableHlo.reshape_result_ne _ _ _ _ _ _ _ (by decide)
  rw [e]
  exact (column_at _ r).trans (congrFun (e0.trans (vals1_tgt m d)) _)

/-! ## The whole result -/

theorem index0 : ∀ t : Fin grid1.N, win1_0.index t = ![t.val, 0] := by decide +kernel
theorem index1 : ∀ t : Fin grid1.N, win1_1.index t = ![t.val, 0] := by decide +kernel
theorem index2 : ∀ t : Fin grid1.N, win1_2.index t = ![t.val, 0] := by decide +kernel
theorem index3 : ∀ t : Fin grid1.N, win1_3.index t = ![t.val, 0] := by decide +kernel

/-- Row `p` of block `t`. -/
def rowOf (t : Fin grid1.N) (p : Fin 16) : Fin 1024 := ⟨t.val * 16 + p.val, by have : t.val < 64 := t.isLt; have := p.isLt; omega⟩

theorem emb0 (t : Fin grid1.N) (p : Fin 16) : (win1_0.rect t).emb (ix2 p (0 : Fin 1)) = ix2 (rowOf t p) (0 : Fin 1) := by
  refine funext fun a => Fin.ext ((Pipeline.Window.rect_emb_val win1_0 t _ a).trans ?_)
  rw [index0]
  match a with
  | ⟨0, _⟩ => rfl
  | ⟨1, _⟩ => rfl

theorem emb1 (t : Fin grid1.N) (p : Fin 16) : (win1_1.rect t).emb (ix2 p (0 : Fin 1)) = ix2 (rowOf t p) (0 : Fin 1) := by
  refine funext fun a => Fin.ext ((Pipeline.Window.rect_emb_val win1_1 t _ a).trans ?_)
  rw [index1]
  match a with
  | ⟨0, _⟩ => rfl
  | ⟨1, _⟩ => rfl

theorem emb2 (t : Fin grid1.N) (p : Fin 16) (c : Fin 100000) : (win1_2.rect t).emb (ix2 p c) = ix2 (rowOf t p) c := by
  refine funext fun a => Fin.ext ((Pipeline.Window.rect_emb_val win1_2 t _ a).trans ?_)
  rw [index2]
  match a with
  | ⟨0, _⟩ => rfl
  | ⟨1, _⟩ => exact (congrArg (· + c.val) (Nat.zero_mul _)).trans (Nat.zero_add _)

theorem emb3 (t : Fin grid1.N) (p : Fin 16) (c : Fin 100000) : (win1_3.rect t).emb (ix2 p c) = ix2 (rowOf t p) c := by
  refine funext fun a => Fin.ext ((Pipeline.Window.rect_emb_val win1_3 t _ a).trans ?_)
  rw [index3]
  match a with
  | ⟨0, _⟩ => rfl
  | ⟨1, _⟩ => exact (congrArg (· + c.val) (Nat.zero_mul _)).trans (Nat.zero_add _)

theorem blk_lab (t : Fin grid1.N) (p : Fin 16) :
    (blkAt (F := Ideal) (c := d) (fun b => vals2 m d (gv b)) 0 t : S16x1.Idx → BitVec 32) (ix2 p (0 : Fin 1)) = (m (lLoc d) : S1024.Idx → BitVec 32) (ix1 (rowOf t p)) :=
  (congrArg (vals2 m d (gv main_v1) : S1024x1.Idx → BitVec 32) (emb0 t p)).trans (vals2_lab m d _)

theorem blk_tgt (t : Fin grid1.N) (p : Fin 16) :
    (blkAt (F := Ideal) (c := d) (fun b => vals2 m d (gv b)) 1 t : S16x1.Idx → Ideal .f32) (ix2 p (0 : Fin 1)) = target (F := Ideal) (m (lLoc d)) (m (xLoc d)) (ix1 (rowOf t p)) :=
  (congrArg (vals2 m d (gv main_v2) : S1024x1.Idx → Ideal .f32) (emb1 t p)).trans (vals2_tgt m d _)

theorem blk_x (t : Fin grid1.N) (p : Fin 16) (c : Fin 100000) :
    (blkAt (F := Ideal) (c := d) (fun b => vals2 m d (gv b)) 2 t : S16x100000.Idx → Ideal .f32) (ix2 p c) = (m (xLoc d) : S1024x100000.Idx → Ideal .f32) (ix2 (rowOf t p) c) :=
  (congrArg (vals2 m d (gv main_arg0) : S1024x100000.Idx → Ideal .f32) (emb2 t p c)).trans (congrFun (vals2_x m d) _)

/-- The merged block, entry by entry. -/
theorem mergedAt_eq (hl : ∀ i, ((m (lLoc d) : S1024.Idx → BitVec 32) i).toInt < 100000) (t : Fin grid1.N) (p : Fin 16) (c : Fin 100000) :
    mergedAt (F := Ideal) (c := d) (fun b => vals2 m d (gv b)) t (ix2 p c) = entry (m (xLoc d)) (m (lLoc d)) (rowOf t p) c := by
  refine (pay_at _ _ _ p c).trans ?_
  rw [blk_lab, blk_tgt, blk_x]
  exact merged_entry _ _ _ c (hl _)

/-- The kernel's result. -/
theorem merge1_eq (hl : ∀ i, ((m (lLoc d) : S1024.Idx → BitVec 32) i).toInt < 100000) :
    merge1 m d = (fun i : S1024x100000.Idx => entry (m (xLoc d)) (m (lLoc d)) (i 0) (i 1) : S1024x100000.Idx → Ideal .f32) := by
  unfold merge1 merged
  refine Pipeline.Dat.arrAt_eq_of_covers _ 3 _ (by decide +kernel) fun t _ y => ?_
  blk_simp
  obtain ⟨p, c, rfl⟩ : ∃ (p : Fin 16) (c : Fin 100000), y = ix2 p c := ⟨y 0, y 1, eq_ix2 y⟩
  refine (mergedAt_eq m d hl t p c).trans ?_
  exact (congrArg (fun i : S1024x100000.Idx => entry (m (xLoc d)) (m (lLoc d)) (i 0) (i 1)) (emb3 t p c)).symm

end Cert.KernelIdeal.Pf

end
-- ==== Proof.Refer.lean ====
/-
  The reference's result, entry by entry: its gather reads each row's own column, its scatter writes
  that column alone.
-/
module

public import proofs.«01_k».proof.Proof.Margin
public import proofs.«01_k».proof.Proof.Ranges
public import proofs.«01_k».proof.Proof.Gen.ReferenceIdeal.Run
public import Idealize.ShloMosaic.Lib.Routing.OpsSet

@[expose] public section

noncomputable section

namespace Cert.ReferenceIdeal.Pf

open Idealize.ShloMosaic Idealize.ShloMosaic.TcCoe Idealize.ShloMosaic.ValueIdx
open Idealize.SL Idealize.SL.Sem
open Cert.ReferenceIdeal Cert.ReferenceIdeal.Gen
open Cert.KernelIdeal.Pf (col max_zero bent entry)

/-- A word on every label's position. -/
abbrev fill (w : BitVec 32) : IVec S1024 32 := broadcastInDim S1024 ![] bcast_S_S1024 (constantI S_ 32 w)
/-- A float on every label's position. -/
abbrev fillF (w : BitVec 32) : FVec Ideal S1024 .f32 := broadcastInDim S1024 ![] bcast_S_S1024 (constant S_ .f32 w)

/-- An index counted from the end where it is negative. -/
abbrev wrap (n : BitVec 32) (v : IVec S1024 32) : IVec S1024 32 := select (cmpi .slt v (fill 0#32)) (addi v (fill n)) v

/-- The pairs of row and column that the reference looks up. -/
def pairs (lab : IVec S1024 32) : IVec S1024x2 32 :=
  concatenate S1024x2 1
    [⟨S1024x1, broadcastInDim S1024x1 ![0] bcast_S1024_S1024x1_0 (wrap 1024#32 (iotaInDim S1024 32 0))⟩,
     ⟨S1024x1, broadcastInDim S1024x1 ![0] bcast_S1024_S1024x1_0 (wrap 100000#32 (maxsi lab (fill 0#32)))⟩] concatenates_S1024x1_S1024x1_S1024x2_d1

/-- The looked-up cosines. -/
def own (x : S1024x100000.Idx → Ideal .f32) (lab : IVec S1024 32) : FVec Ideal S1024 .f32 :=
  Host.gather gather_S1024x100000_S1024x2_S1024_n_01_n_n_01_1_11 x (pairs lab)

/-- What the reference writes back. -/
def moved (x : S1024x100000.Idx → Ideal .f32) (lab : IVec S1024 32) : FVec Ideal S1024 .f32 :=
  select (cmpi .ne lab (fill 4294967295#32))
    (select (cmpf .ogt (own x lab) (fillF 0xBF60A940#32))
      (subf (mulf (own x lab) (fillF 0x3F60A940#32))
        (mulf (Host.sqrt (subf (fillF 0x3F800000#32) (mulf (own x lab) (own x lab)))) (fillF 0x3EF57744#32)))
      (subf (own x lab) (fillF 0x3E757744#32)))
    (own x lab)

/-- The reference's result. -/
def whole (x : S1024x100000.Idx → Ideal .f32) (lab : IVec S1024 32) : FVec Ideal S1024x100000 .f32 :=
  mulf (Host.scatter scatter_S1024x100000_S1024x2_S1024_n_01_01_1 (fun _ b => b) x (pairs lab) (moved x lab))
    (broadcastInDim S1024x100000 ![] bcast_S_S1024x100000 (constant S_ .f32 0x42800000#32))

set_option maxRecDepth 8192 in
theorem res_eq (m : (ℓ : Loc nD τ sig) → Buf (Elt Ideal) ℓ) (c : Dev nD) :
    Value.res_main_v49 m c = whole (m ((c.tc : Thread nD τ).loc main_arg0)) (m ((c.tc : Thread nD τ).loc main_arg1)) := rfl

/-! ## The pairs -/

theorem wrap_keeps (n : BitVec 32) (a : ℕ) (ha : a < 2 ^ 31) :
    Scalar.select (IntOp.cmpi .slt (BitVec.ofNat 32 a) 0#32) (IntOp.addi (BitVec.ofNat 32 a) n) (BitVec.ofNat 32 a) = BitVec.ofNat 32 a :=
  Routing.wrap_of_lt _ _ (by rw [WordCmp.toNat_ofNat_of_lt (by omega)]; exact ha)

theorem col_at {α : Type} (v : S1024.Idx → α) (r : Fin 1024) : broadcastInDim S1024x1 ![0] bcast_S1024_S1024x1_0 v (ix2 r (0 : Fin 1)) = v (ix1 r) :=
  broadcastInDim_apply _ _ v _ _ fun a => by fin_cases a; rfl

theorem pairs_row (lab : IVec S1024 32) (r : Fin 1024) : pairs lab (ix2 r (0 : Fin 2)) = BitVec.ofNat 32 r.val := by
  unfold pairs
  refine (concatenate_pair_apply_left (t := S1024x2) (s₁ := S1024x1) (s₂ := S1024x1) 1 _ _ _ (ix2 r (0 : Fin 2)) rfl (ix2 r (0 : Fin 1)) fun b => match b with
    | ⟨0, _⟩ => rfl
    | ⟨1, _⟩ => rfl).trans ?_
  rw [col_at]
  exact wrap_keeps 1024#32 r.val (by have := r.isLt; omega)

theorem pairs_col (lab : IVec S1024 32) (r : Fin 1024) (hl : (lab (ix1 r)).toInt < 100000) :
    pairs lab (ix2 r (1 : Fin 2)) = BitVec.ofNat 32 (col (lab (ix1 r))) := by
  unfold pairs
  refine (concatenate_pair_apply_right (t := S1024x2) (s₁ := S1024x1) (s₂ := S1024x1) 1 _ _ _ (ix2 r (1 : Fin 2)) rfl rfl (ix2 r (0 : Fin 1)) (fun b hb => match b, hb with
    | ⟨0, _⟩, _ => rfl
    | ⟨1, _⟩, hb => absurd rfl hb) rfl).trans ?_
  rw [col_at]
  have e : maxsi lab (fill 0#32) (ix1 r) = BitVec.ofNat 32 (col (lab (ix1 r))) := max_zero _
  show Scalar.select (IntOp.cmpi .slt (maxsi lab (fill 0#32) (ix1 r)) 0#32) (IntOp.addi (maxsi lab (fill 0#32) (ix1 r)) 100000#32) (maxsi lab (fill 0#32) (ix1 r)) = _
  rw [e]
  exact wrap_keeps _ _ (by unfold col; omega)

/-! ## Where a row's lookup goes -/

/-- The gather of this program. -/
abbrev gd : GatherDims S1024x100000 S1024x2 S1024 := gather_S1024x100000_S1024x2_S1024_n_01_n_n_01_1_11
/-- The scatter of this program. -/
abbrev sd : ScatterDims S1024x100000 S1024x2 S1024 := scatter_S1024x100000_S1024x2_S1024_n_01_01_1

theorem gather_word (r : Fin 1024) (q : Fin 2) (h : q.val < gd.startIndexMap.length) : gd.siIdx (ix1 r) ⟨q.val, h⟩ = ix2 r q := by
  funext b
  match b with
  | ⟨0, _⟩ => rfl
  | ⟨1, _⟩ => rfl

theorem scatter_word (r : Fin 1024) (q : Fin 2) (h : q.val < sd.scatterDimsToOperandDims.length) : sd.siIdx (ix1 r) ⟨q.val, h⟩ = ix2 r q := by
  funext b
  match b with
  | ⟨0, _⟩ => rfl
  | ⟨1, _⟩ => rfl

theorem scatter_start (idx : IVec S1024x2 32) (r : Fin 1024) (q : Fin 2) : sd.start (ix1 r) idx q = (idx (ix2 r q)).toInt := by
  unfold ScatterDims.start
  match q with
  | ⟨0, _⟩ => exact (dif_pos (by decide : (0 : Fin 2) ∈ sd.scatterDimsToOperandDims)).trans (congrArg (fun i => (idx i).toInt) (scatter_word r 0 (by decide)))
  | ⟨1, _⟩ => exact (dif_pos (by decide : (1 : Fin 2) ∈ sd.scatterDimsToOperandDims)).trans (congrArg (fun i => (idx i).toInt) (scatter_word r 1 (by decide)))

theorem scatter_window (r : Fin 1024) (q : Fin 2) : sd.window (ix1 r) q = 0 := by
  match q with
  | ⟨0, _⟩ => rfl
  | ⟨1, _⟩ => rfl

theorem lands (idx : IVec S1024x2 32) (n r : Fin 1024) (c : Fin 100000) :
    sd.resultIdx? (ix1 n) idx = some (ix2 r c) ↔ (idx (ix2 n (0 : Fin 2))).toInt = (r.val : ℤ) ∧ (idx (ix2 n (1 : Fin 2))).toInt = (c.val : ℤ) := by
  refine (Routing.resultIdx?_ix2 sd (ix1 n) idx r c).trans ?_
  rw [scatter_start idx n 0, scatter_start idx n 1, scatter_window n 0, scatter_window n 1]
  simp only [Nat.cast_zero, add_zero]

theorem gather_start0 (idx : IVec S1024x2 32) (r : Fin 1024) : gd.start (ix1 r) idx (0 : Fin 2) = min (idx (ix2 r (0 : Fin 2))).toInt.toNat 1023 := by
  unfold GatherDims.start
  exact (dif_pos (by decide)).trans (congrArg (fun i => min (idx i).toInt.toNat 1023) (gather_word r 0 (by decide)))

theorem gather_start1 (idx : IVec S1024x2 32) (r : Fin 1024) : gd.start (ix1 r) idx (1 : Fin 2) = min (idx (ix2 r (1 : Fin 2))).toInt.toNat 99999 := by
  unfold GatherDims.start
  exact (dif_pos (by decide)).trans (congrArg (fun i => min (idx i).toInt.toNat 99999) (gather_word r 1 (by decide)))

theorem gather_rest (r : Fin 1024) (q : Fin 2) : gd.batchCoord (ix1 r) q + gd.offCoord (ix1 r) q = 0 := by
  match q with
  | ⟨0, _⟩ => rfl
  | ⟨1, _⟩ => rfl

/-- What the lookup of row `r` reads. -/
theorem gathers (x : S1024x100000.Idx → Ideal .f32) (idx : IVec S1024x2 32) (r : Fin 1024) (c : Fin 100000)
    (h0 : (idx (ix2 r (0 : Fin 2))).toInt = (r.val : ℤ)) (h1 : (idx (ix2 r (1 : Fin 2))).toInt = (c.val : ℤ)) :
    Host.gather gd x idx (ix1 r) = x (ix2 r c) := by
  unfold Host.gather
  refine congrArg x (funext fun a => Fin.ext ?_)
  match a with
  | ⟨0, _⟩ =>
    show gd.start (ix1 r) idx (0 : Fin 2) + gd.batchCoord (ix1 r) (0 : Fin 2) + gd.offCoord (ix1 r) (0 : Fin 2) = r.val
    rw [Nat.add_assoc, gather_rest r 0, gather_start0, h0]
    have := r.isLt
    omega
  | ⟨1, _⟩ =>
    show gd.start (ix1 r) idx (1 : Fin 2) + gd.batchCoord (ix1 r) (1 : Fin 2) + gd.offCoord (ix1 r) (1 : Fin 2) = c.val
    rw [Nat.add_assoc, gather_rest r 1, gather_start1, h1]
    have := c.isLt
    omega

/-! ## The result -/

theorem toInt_word (a : ℕ) (h : a < 2 ^ 31) : (BitVec.ofNat 32 a).toInt = (a : ℤ) := WordCmp.toInt_ofNat_of_lt (by simpa using h)

theorem pairs_row_int (lab : IVec S1024 32) (r : Fin 1024) : (pairs lab (ix2 r (0 : Fin 2))).toInt = (r.val : ℤ) := by
  rw [pairs_row]
  exact toInt_word _ (by have := r.isLt; omega)

theorem pairs_col_int (lab : IVec S1024 32) (r : Fin 1024) (hl : (lab (ix1 r)).toInt < 100000) :
    (pairs lab (ix2 r (1 : Fin 2))).toInt = (col (lab (ix1 r)) : ℤ) := by
  rw [pairs_col lab r hl]
  exact toInt_word _ (by unfold col; omega)

theorem own_at (x : S1024x100000.Idx → Ideal .f32) (lab : IVec S1024 32) (r : Fin 1024) (c : Fin 100000)
    (hl : (lab (ix1 r)).toInt < 100000) (hc : col (lab (ix1 r)) = c.val) : own x lab (ix1 r) = x (ix2 r c) :=
  gathers x (pairs lab) r c (pairs_row_int lab r) (by rw [pairs_col_int lab r hl, hc])

theorem moved_at (x : S1024x100000.Idx → Ideal .f32) (lab : IVec S1024 32) (r : Fin 1024) :
    moved x lab (ix1 r) = if lab (ix1 r) = 4294967295#32 then own x lab (ix1 r) else bent (own x lab (ix1 r)) := by
  show Scalar.select (IntOp.cmpi .ne (lab (ix1 r)) 4294967295#32) (bent (own x lab (ix1 r))) (own x lab (ix1 r)) = _
  rw [WordCmp.cmpi_ne_eq, WordCmp.select_decide]
  exact ite_not _ _ _

theorem lands_pairs (lab : IVec S1024 32) (hl : ∀ i, (lab i).toInt < 100000) (n r : Fin 1024) (c : Fin 100000) :
    sd.resultIdx? (ix1 n) (pairs lab) = some (ix2 r c) ↔ n = r ∧ col (lab (ix1 n)) = c.val := by
  rw [lands, pairs_row_int, pairs_col_int lab n (hl _)]
  constructor
  · rintro ⟨a, b⟩
    exact ⟨Fin.ext (by omega), by omega⟩
  · rintro ⟨a, b⟩
    subst a
    exact ⟨rfl, by omega⟩

theorem all_ix1 (k : S1024.Idx) : ∃ n : Fin 1024, k = ix1 n := ⟨k 0, funext fun a => match a with | ⟨0, _⟩ => rfl⟩

theorem scattered (x : S1024x100000.Idx → Ideal .f32) (lab : IVec S1024 32) (hl : ∀ i, (lab i).toInt < 100000) (r : Fin 1024) (c : Fin 100000) :
    Host.scatter sd (fun _ b => b) x (pairs lab) (moved x lab) (ix2 r c) = if col (lab (ix1 r)) = c.val then moved x lab (ix1 r) else x (ix2 r c) := by
  split
  · next h =>
    refine Routing.scatter_set_hit sd x (pairs lab) (moved x lab) (ix2 r c) _ (fun k hk => ?_) (ix1 r) ((lands_pairs lab hl r r c).2 ⟨rfl, h⟩)
    obtain ⟨n, rfl⟩ := all_ix1 k
    rw [((lands_pairs lab hl n r c).1 hk).1]
  · next h =>
    refine Routing.scatter_set_miss sd x (pairs lab) (moved x lab) (ix2 r c) fun k hk => ?_
    obtain ⟨n, rfl⟩ := all_ix1 k
    obtain ⟨rfl, e⟩ := (lands_pairs lab hl n r c).1 hk
    exact h e

/-- The label -1 as a word. -/
theorem minus_one (w : BitVec 32) : w = 4294967295#32 ↔ w.toInt = -1 := by
  rw [← BitVec.toInt_inj]
  exact Iff.rfl

theorem whole_at (x : S1024x100000.Idx → Ideal .f32) (lab : IVec S1024 32) (hl : ∀ i, -1 ≤ (lab i).toInt ∧ (lab i).toInt < 100000)
    (r : Fin 1024) (c : Fin 100000) : whole x lab (ix2 r c) = entry x lab r c := by
  have hb := hl (ix1 r)
  show FloatOps.mulf (Host.scatter sd (fun _ b => b) x (pairs lab) (moved x lab) (ix2 r c)) (Scalar.ofBits .f32 0x42800000#32) = _
  rw [scattered x lab (fun i => (hl i).2), moved_at]
  unfold entry
  refine (show ∀ a b : Ideal .f32, FloatOps.mulf a b = FloatOps.mulf b a from fun a b => mul_comm (a : EReal) b) _ _ |>.trans ?_
  congr 1
  by_cases h : col (lab (ix1 r)) = c.val
  · rw [if_pos h, own_at x lab r c hb.2 h]
    unfold col at h
    by_cases e : lab (ix1 r) = 4294967295#32
    · rw [if_pos e, if_neg (by have := (minus_one _).1 e; omega)]
    · rw [if_neg e, if_pos (by have : (lab (ix1 r)).toInt ≠ -1 := fun q => e ((minus_one _).2 q); omega)]
  · rw [if_neg h, if_neg (by unfold col at h; omega)]

theorem whole_eq (x : S1024x100000.Idx → Ideal .f32) (lab : IVec S1024 32) (hl : ∀ i, -1 ≤ (lab i).toInt ∧ (lab i).toInt < 100000) :
    whole x lab = fun i : S1024x100000.Idx => entry x lab (i 0) (i 1) := by
  funext i
  have e : i = ix2 (n0 := 1024) (n1 := 100000) (i 0) (i 1) := funext fun a => match a with
    | ⟨0, _⟩ => rfl
    | ⟨1, _⟩ => rfl
  rw [e]
  exact whole_at x lab hl _ _

end Cert.ReferenceIdeal.Pf

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_table
public import proofs.«01_k».proof.Proof.Gen.Pre_in_range
public import proofs.«01_k».proof.Proof.Launch
public import proofs.«01_k».proof.Proof.Ranges
public import proofs.«01_k».proof.Proof.Same
public import proofs.«01_k».proof.Proof.Block
public import proofs.«01_k».proof.Proof.Refer
public import Idealize.ShloMosaic.Adequacy
public import Idealize.ShloMosaic.Init

@[expose] public section

noncomputable section

namespace Cert.Proof

open Idealize.ShloMosaic Idealize.SL.Sem
open Cert.KernelIdeal.Pf

/-- The kernel, over words. -/
theorem frame_kernel : Cert.quiescent_Kernel := by
  intro m ρ hpre
  have h := run_main (F := Bits) m ρ fun d => inTable_of _ (below_of_table _ _ (hpre d))
  have h' : θ_run (Cert.KernelIdeal.defs (F := Bits)) (Cert.KernelIdeal.threads (F := Bits)) ⟨m, fun _ => 0, ρ⟩ (fun r => (∀ c : Dev Cert.KernelIdeal.nD,
      r.2.mem (xLoc c) = m (xLoc c) ∧ r.2.mem (lLoc c) = m (lLoc c)) ∧ r.2.sem = fun _ => 0) :=
    (θ_run Cert.KernelIdeal.defs _ _).mono (fun _ h => ⟨fun c => ⟨(h.1 c).1, (h.1 c).2.1⟩, h.2⟩) h
  rw [defs_same]
  exact h'

/-- The kernel, over the extended reals. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d => inTable_of _ (below_of_table _ _ (hpre d)))

/-- The same frame, for labels in range. -/
theorem frame_kernelIdeal_in_range : Cert.quiescent_KernelIdeal_pre_in_range := fun m ρ hpre =>
  (θ_run Cert.KernelIdeal.defs _ _).mono (fun _ h => ⟨fun c => ⟨(h.1 c).1, (h.1 c).2.1⟩, h.2⟩)
    (run_main (F := Ideal) m ρ fun d => inTable_of _ fun i => (bounds_of_range _ _ (hpre d) i).2)

/-- The reference has no semaphore, and no operation of it writes an argument. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same frame, for labels in range. -/
theorem frame_referenceIdeal_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

/-- Kernel and reference end with the same array. -/
theorem algebraic : Cert.algebraic_KernelIdeal_ReferenceIdeal_pre_in_range := by
  intro m ρ m' ρ' hpre hag
  have hl : ∀ (d : Dev Cert.KernelIdeal.nD) (i : Cert.KernelIdeal.S1024.Idx), -1 ≤ ((m (lLoc d) : Cert.KernelIdeal.S1024.Idx → BitVec 32) i).toInt
      ∧ ((m (lLoc d) : Cert.KernelIdeal.S1024.Idx → BitVec 32) i).toInt < 100000 := fun d i => bounds_of_range _ _ (hpre d) i
  refine ⟨fun d => (fun i : Cert.KernelIdeal.S1024x100000.Idx => entry (m (xLoc d)) (m (lLoc d)) (i 0) (i 1)), ?_, ?_⟩
  · refine (θ_run Cert.KernelIdeal.defs _ _).mono (fun r h d => ⟨?_, (h.1 d).1, (h.1 d).2.1⟩)
      (run_main (F := Ideal) m ρ fun d => inTable_of _ fun i => (hl d i).2)
    exact (h.1 d).2.2.trans (merge1_eq m d fun i => (hl d i).2)
  · refine (θ_run Cert.ReferenceIdeal.defs _ _).mono (fun r h d => ⟨?_, (h d).2⟩) (Cert.ReferenceIdeal.Value.run (F := Ideal) m' ρ')
    refine (h d).1.trans ((Cert.ReferenceIdeal.Pf.res_eq m' d).trans ?_)
    exact (congrArg₂ Cert.ReferenceIdeal.Pf.whole (hag d).1 (hag d).2).trans (Cert.ReferenceIdeal.Pf.whole_eq _ _ (hl d))

theorem claim : Cert.Claim :=
  ⟨Cert.Kernel.Gen.facts, Cert.KernelIdeal.Gen.facts, Cert.ReferenceIdeal.Gen.facts, Cert.Pre_in_table.Gen.facts,
    Cert.Pre_in_range.Gen.facts, frame_kernel, frame_kernelIdeal, frame_kernelIdeal_in_range, frame_referenceIdeal,
    frame_referenceIdeal_in_range, preserves, algebraic⟩

end Cert.Proof

end
